-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S7x512x1024 : Shape := ⟨3, ![7, 512, 1024]⟩
abbrev S512x1024 : Shape := ⟨2, ![512, 1024]⟩
abbrev S4096x1024 : Shape := ⟨2, ![4096, 1024]⟩
abbrev S8x128 : Shape := ⟨2, ![8, 128]⟩
abbrev S4x512x1024 : Shape := ⟨3, ![4, 512, 1024]⟩
abbrev S7x4 : Shape := ⟨2, ![7, 4]⟩
abbrev S8 : Shape := ⟨1, ![8]⟩
abbrev S4 : Shape := ⟨1, ![4]⟩
abbrev S_ : Shape := ⟨0, ![]⟩
abbrev S512x512 : Shape := ⟨2, ![512, 512]⟩
abbrev S1x1 : Shape := ⟨2, ![1, 1]⟩
abbrev S1x128x1024 : Shape := ⟨3, ![1, 128, 1024]⟩
abbrev S128x1024 : Shape := ⟨2, ![128, 1024]⟩
abbrev S128x512 : Shape := ⟨2, ![128, 512]⟩
abbrev S1x512x1024 : Shape := ⟨3, ![1, 512, 1024]⟩
abbrev S1 : Shape := ⟨1, ![1]⟩
abbrev S1x1x1 : Shape := ⟨3, ![1, 1, 1]⟩
abbrev S1x128 : Shape := ⟨2, ![1, 128]⟩
abbrev S1x8x128 : Shape := ⟨3, ![1, 8, 128]⟩

abbrev nBuf : Space → Nat
  | .hbm => 3
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S4096x512, .bf16⟩
  | .local _ .vmem, ⟨1, _⟩ => ⟨S512x2048, .bf16⟩
  | .local _ .vmem, ⟨2, _⟩ => ⟨S7x512x1024, .bf16⟩
  | .local _ .vmem, ⟨3, _⟩ => ⟨S7x512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S4096x1024, .fp8e4m3⟩
  | .local _ .vmem, ⟨9, _⟩ => ⟨S4096x1024, .fp8e4m3⟩
  | .local _ .vmem, ⟨10, _⟩ => ⟨S8x128, .f32⟩
  | .local _ .vmem, ⟨11, _⟩ => ⟨S4x512x1024, .bf16⟩
  | _, _ => ⟨S4096x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 246 → Bool
  | ⟨i, _⟩ => dmaSemScopedAt i

abbrev sig : RefSig :=
  (ofTc nBuf bufTy 1 246 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_10 : BitVec 32 := 1#32
  let v19 : BitVec 32 := Scalar.muli v11 c1_i32_10
  let v20 : BitVec 32 := Scalar.addi c0_i32 v19
  v20.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_12 : BitVec 32 := 1#32
  let v21 : BitVec 32 := Scalar.muli v17 c1_i32_12
  let v22 : BitVec 32 := Scalar.addi c0_i32_13 v21
  v22.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v23 : BitVec 32 := Scalar.muli v2 c512_i32
  let v24 : Index := Scalar.indexCast v23
  let c0 : Index := 0#32
  ![v24.toNat, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_25 : BitVec 32 := 1#32
  let v40 : BitVec 32 := Scalar.muli v17 c1_i32_25
  let v41 : BitVec 32 := Scalar.addi c0_i32_26 v40
  v41.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_36 : BitVec 32 := 1#32
  let v49 : BitVec 32 := Scalar.muli v11 c1_i32_36
  let v50 : BitVec 32 := Scalar.addi c0_i32_37 v49
  v50.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_47 : BitVec 32 := 1#32
  let v58 : BitVec 32 := Scalar.muli v17 c1_i32_47
  let v59 : BitVec 32 := Scalar.addi c0_i32_48 v58
  v59.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_57 : BitVec 32 := 1#32
  let v67 : BitVec 32 := Scalar.muli v11 c1_i32_57
  let v68 : BitVec 32 := Scalar.addi c0_i32_58 v67
  v68.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_68 : BitVec 32 := 1#32
  let v76 : BitVec 32 := Scalar.muli v17 c1_i32_68
  let v77 : BitVec 32 := Scalar.addi c0_i32_69 v76
  v77.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_78 : BitVec 32 := 1#32
  let v85 : BitVec 32 := Scalar.muli v11 c1_i32_78
  let v86 : BitVec 32 := Scalar.addi c0_i32_79 v85
  v86.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_88 : BitVec 32 := 1#32
  let v94 : BitVec 32 := Scalar.muli v17 c1_i32_88
  let v95 : BitVec 32 := Scalar.addi c0_i32_89 v94
  v95.toNat
def k0_dev10 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_98 : BitVec 32 := 1#32
  let v103 : BitVec 32 := Scalar.muli v11 c1_i32_98
  let v104 : BitVec 32 := Scalar.addi c0_i32_99 v103
  v104.toNat
def k0_off2 (d0 : Dev nD) (c0_i32_104 : BitVec 32) (c0_i32_117 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v112 : BitVec 32 := Scalar.subi v5 c0_i32_104
  let c1_i32_105 : BitVec 32 := 1#32
  let v113 : BitVec 32 := Scalar.subi v112 c1_i32_105
  let c16_i32_106 : BitVec 32 := 16#32
  let v114 : BitVec 32 := Scalar.addi v113 c16_i32_106
  let c8_i32_107 : BitVec 32 := 8#32
  let v115 : BitVec 32 := Scalar.remsi v114 c8_i32_107
  let c4_i32_108 : BitVec 32 := 4#32
  let v116 : BitVec 1 := Scalar.cmpi .slt v115 c4_i32_108
  let c11_i32_109 : BitVec 32 := 11#32
  let v117 : BitVec 32 := Scalar.subi c11_i32_109 v115
  let v118 : BitVec 32 := Scalar.select v116 v115 v117
  let c512_i32_116 : BitVec 32 := 512#32
  let v126 : BitVec 32 := Scalar.muli v118 c512_i32_116
  let v127 : BitVec 32 := Scalar.addi v126 c0_i32_117
  let v128 : Index := Scalar.indexCast v127
  let c0_118 : Index := 0#32
  ![v128.toNat, 0]
def k0_off3 (d0 : Dev nD) (c0_i32_110 : BitVec 32) (c0_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v119 : BitVec 32 := Scalar.addi v5 c0_i32_110
  let c1_i32_111 : BitVec 32 := 1#32
  let v120 : BitVec 32 := Scalar.addi v119 c1_i32_111
  let c16_i32_112 : BitVec 32 := 16#32
  let v121 : BitVec 32 := Scalar.addi v120 c16_i32_112
  let c8_i32_113 : BitVec 32 := 8#32
  let v122 : BitVec 32 := Scalar.remsi v121 c8_i32_113
  let c4_i32_114 : BitVec 32 := 4#32
  let v123 : BitVec 1 := Scalar.cmpi .slt v122 c4_i32_114
  let c11_i32_115 : BitVec 32 := 11#32
  let v124 : BitVec 32 := Scalar.subi c11_i32_115 v122
  let v125 : BitVec 32 := Scalar.select v123 v122 v124
  let c512_i32_122 : BitVec 32 := 512#32
  let v134 : BitVec 32 := Scalar.muli v125 c512_i32_122
  let v135 : BitVec 32 := Scalar.addi v134 c0_i32_123
  let v136 : Index := Scalar.indexCast v135
  let c0_124 : Index := 0#32
  ![v136.toNat, 0]
def k0_dev11 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_182 : BitVec 32 := 1#32
  let v178 : BitVec 32 := Scalar.muli v17 c1_i32_182
  let v179 : BitVec 32 := Scalar.addi c0_i32_183 v178
  v179.toNat
def k0_dev12 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_195 : BitVec 32 := 1#32
  let v191 : BitVec 32 := Scalar.muli v11 c1_i32_195
  let v192 : BitVec 32 := Scalar.addi c0_i32_196 v191
  v192.toNat
def k0_dev13 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_267 : BitVec 32 := 1#32
  let v252 : BitVec 32 := Scalar.muli v17 c1_i32_267
  let v253 : BitVec 32 := Scalar.addi c0_i32_268 v252
  v253.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_280 : BitVec 32 := 1#32
  let v265 : BitVec 32 := Scalar.muli v11 c1_i32_280
  let v266 : BitVec 32 := Scalar.addi c0_i32_281 v265
  v266.toNat
def k0_dev15 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_352 : BitVec 32 := 1#32
  let v326 : BitVec 32 := Scalar.muli v17 c1_i32_352
  let v327 : BitVec 32 := Scalar.addi c0_i32_353 v326
  v327.toNat
def k0_dev16 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_365 : BitVec 32 := 1#32
  let v339 : BitVec 32 := Scalar.muli v11 c1_i32_365
  let v340 : BitVec 32 := Scalar.addi c0_i32_366 v339
  v340.toNat
def k0_dev17 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_437 : BitVec 32 := 1#32
  let v400 : BitVec 32 := Scalar.muli v17 c1_i32_437
  let v401 : BitVec 32 := Scalar.addi c0_i32_438 v400
  v401.toNat
def k0_dev18 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_450 : BitVec 32 := 1#32
  let v413 : BitVec 32 := Scalar.muli v11 c1_i32_450
  let v414 : BitVec 32 := Scalar.addi c0_i32_451 v413
  v414.toNat
def k0_dev19 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_534 : BitVec 32 := 1#32
  let v488 : BitVec 32 := Scalar.muli v17 c1_i32_534
  let v489 : BitVec 32 := Scalar.addi c0_i32_535 v488
  v489.toNat
def k0_dev20 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_547 : BitVec 32 := 1#32
  let v501 : BitVec 32 := Scalar.muli v11 c1_i32_547
  let v502 : BitVec 32 := Scalar.addi c0_i32_548 v501
  v502.toNat
def k0_dev21 (d0 : Dev nD) : Nat :=
  let c0_i32_621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_620 : BitVec 32 := 1#32
  let v562 : BitVec 32 := Scalar.muli v17 c1_i32_620
  let v563 : BitVec 32 := Scalar.addi c0_i32_621 v562
  v563.toNat
def k0_dev22 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_633 : BitVec 32 := 1#32
  let v575 : BitVec 32 := Scalar.muli v11 c1_i32_633
  let v576 : BitVec 32 := Scalar.addi c0_i32_634 v575
  v576.toNat
def k0_dev23 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_706 : BitVec 32 := 1#32
  let v636 : BitVec 32 := Scalar.muli v17 c1_i32_706
  let v637 : BitVec 32 := Scalar.addi c0_i32_707 v636
  v637.toNat
def k0_dev24 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_719 : BitVec 32 := 1#32
  let v649 : BitVec 32 := Scalar.muli v11 c1_i32_719
  let v650 : BitVec 32 := Scalar.addi c0_i32_720 v649
  v650.toNat
def k0_dev25 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_792 : BitVec 32 := 1#32
  let v710 : BitVec 32 := Scalar.muli v17 c1_i32_792
  let v711 : BitVec 32 := Scalar.addi c0_i32_793 v710
  v711.toNat
def k0_dev26 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_805 : BitVec 32 := 1#32
  let v723 : BitVec 32 := Scalar.muli v11 c1_i32_805
  let v724 : BitVec 32 := Scalar.addi c0_i32_806 v723
  v724.toNat
def k0_dev27 (d0 : Dev nD) : Nat :=
  let c0_i32_890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_889 : BitVec 32 := 1#32
  let v798 : BitVec 32 := Scalar.muli v17 c1_i32_889
  let v799 : BitVec 32 := Scalar.addi c0_i32_890 v798
  v799.toNat
def k0_dev28 (d0 : Dev nD) : Nat :=
  let c0_i32_903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_902 : BitVec 32 := 1#32
  let v811 : BitVec 32 := Scalar.muli v11 c1_i32_902
  let v812 : BitVec 32 := Scalar.addi c0_i32_903 v811
  v812.toNat
def k0_dev29 (d0 : Dev nD) : Nat :=
  let c0_i32_976 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_975 : BitVec 32 := 1#32
  let v872 : BitVec 32 := Scalar.muli v17 c1_i32_975
  let v873 : BitVec 32 := Scalar.addi c0_i32_976 v872
  v873.toNat
def k0_dev30 (d0 : Dev nD) : Nat :=
  let c0_i32_989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_988 : BitVec 32 := 1#32
  let v885 : BitVec 32 := Scalar.muli v11 c1_i32_988
  let v886 : BitVec 32 := Scalar.addi c0_i32_989 v885
  v886.toNat
def k0_dev31 (d0 : Dev nD) : Nat :=
  let c0_i32_1062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1061 : BitVec 32 := 1#32
  let v946 : BitVec 32 := Scalar.muli v17 c1_i32_1061
  let v947 : BitVec 32 := Scalar.addi c0_i32_1062 v946
  v947.toNat
def k0_dev32 (d0 : Dev nD) : Nat :=
  let c0_i32_1075 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1074 : BitVec 32 := 1#32
  let v959 : BitVec 32 := Scalar.muli v11 c1_i32_1074
  let v960 : BitVec 32 := Scalar.addi c0_i32_1075 v959
  v960.toNat
def k0_dev33 (d0 : Dev nD) : Nat :=
  let c0_i32_1148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1147 : BitVec 32 := 1#32
  let v1020 : BitVec 32 := Scalar.muli v17 c1_i32_1147
  let v1021 : BitVec 32 := Scalar.addi c0_i32_1148 v1020
  v1021.toNat
def k0_dev34 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1160 : BitVec 32 := 1#32
  let v1033 : BitVec 32 := Scalar.muli v11 c1_i32_1160
  let v1034 : BitVec 32 := Scalar.addi c0_i32_1161 v1033
  v1034.toNat
def k0_dev35 (d0 : Dev nD) : Nat :=
  let c0_i32_1245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1244 : BitVec 32 := 1#32
  let v1108 : BitVec 32 := Scalar.muli v17 c1_i32_1244
  let v1109 : BitVec 32 := Scalar.addi c0_i32_1245 v1108
  v1109.toNat
def k0_dev36 (d0 : Dev nD) : Nat :=
  let c0_i32_1258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1257 : BitVec 32 := 1#32
  let v1121 : BitVec 32 := Scalar.muli v11 c1_i32_1257
  let v1122 : BitVec 32 := Scalar.addi c0_i32_1258 v1121
  v1122.toNat
def k0_dev37 (d0 : Dev nD) : Nat :=
  let c0_i32_1331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1330 : BitVec 32 := 1#32
  let v1182 : BitVec 32 := Scalar.muli v17 c1_i32_1330
  let v1183 : BitVec 32 := Scalar.addi c0_i32_1331 v1182
  v1183.toNat
def k0_dev38 (d0 : Dev nD) : Nat :=
  let c0_i32_1344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1343 : BitVec 32 := 1#32
  let v1195 : BitVec 32 := Scalar.muli v11 c1_i32_1343
  let v1196 : BitVec 32 := Scalar.addi c0_i32_1344 v1195
  v1196.toNat
def k0_dev39 (d0 : Dev nD) : Nat :=
  let c0_i32_1417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1416 : BitVec 32 := 1#32
  let v1256 : BitVec 32 := Scalar.muli v17 c1_i32_1416
  let v1257 : BitVec 32 := Scalar.addi c0_i32_1417 v1256
  v1257.toNat
def k0_dev40 (d0 : Dev nD) : Nat :=
  let c0_i32_1430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1429 : BitVec 32 := 1#32
  let v1269 : BitVec 32 := Scalar.muli v11 c1_i32_1429
  let v1270 : BitVec 32 := Scalar.addi c0_i32_1430 v1269
  v1270.toNat
def k0_dev41 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1502 : BitVec 32 := 1#32
  let v1330 : BitVec 32 := Scalar.muli v17 c1_i32_1502
  let v1331 : BitVec 32 := Scalar.addi c0_i32_1503 v1330
  v1331.toNat
def k0_dev42 (d0 : Dev nD) : Nat :=
  let c0_i32_1516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1515 : BitVec 32 := 1#32
  let v1343 : BitVec 32 := Scalar.muli v11 c1_i32_1515
  let v1344 : BitVec 32 := Scalar.addi c0_i32_1516 v1343
  v1344.toNat
def k0_dev43 (d0 : Dev nD) : Nat :=
  let c0_i32_1599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1598 : BitVec 32 := 1#32
  let v1418 : BitVec 32 := Scalar.muli v17 c1_i32_1598
  let v1419 : BitVec 32 := Scalar.addi c0_i32_1599 v1418
  v1419.toNat
def k0_dev44 (d0 : Dev nD) : Nat :=
  let c0_i32_1612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1611 : BitVec 32 := 1#32
  let v1431 : BitVec 32 := Scalar.muli v11 c1_i32_1611
  let v1432 : BitVec 32 := Scalar.addi c0_i32_1612 v1431
  v1432.toNat
def k0_dev45 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1684 : BitVec 32 := 1#32
  let v1492 : BitVec 32 := Scalar.muli v17 c1_i32_1684
  let v1493 : BitVec 32 := Scalar.addi c0_i32_1685 v1492
  v1493.toNat
def k0_dev46 (d0 : Dev nD) : Nat :=
  let c0_i32_1698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1697 : BitVec 32 := 1#32
  let v1505 : BitVec 32 := Scalar.muli v11 c1_i32_1697
  let v1506 : BitVec 32 := Scalar.addi c0_i32_1698 v1505
  v1506.toNat
def k0_dev47 (d0 : Dev nD) : Nat :=
  let c0_i32_1771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1770 : BitVec 32 := 1#32
  let v1566 : BitVec 32 := Scalar.muli v17 c1_i32_1770
  let v1567 : BitVec 32 := Scalar.addi c0_i32_1771 v1566
  v1567.toNat
def k0_dev48 (d0 : Dev nD) : Nat :=
  let c0_i32_1784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1783 : BitVec 32 := 1#32
  let v1579 : BitVec 32 := Scalar.muli v11 c1_i32_1783
  let v1580 : BitVec 32 := Scalar.addi c0_i32_1784 v1579
  v1580.toNat
def k0_dev49 (d0 : Dev nD) : Nat :=
  let c0_i32_1857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1856 : BitVec 32 := 1#32
  let v1640 : BitVec 32 := Scalar.muli v17 c1_i32_1856
  let v1641 : BitVec 32 := Scalar.addi c0_i32_1857 v1640
  v1641.toNat
def k0_dev50 (d0 : Dev nD) : Nat :=
  let c0_i32_1870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1869 : BitVec 32 := 1#32
  let v1653 : BitVec 32 := Scalar.muli v11 c1_i32_1869
  let v1654 : BitVec 32 := Scalar.addi c0_i32_1870 v1653
  v1654.toNat
def k0_dev51 (d0 : Dev nD) : Nat :=
  let c0_i32_1953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_1952 : BitVec 32 := 1#32
  let v1728 : BitVec 32 := Scalar.muli v17 c1_i32_1952
  let v1729 : BitVec 32 := Scalar.addi c0_i32_1953 v1728
  v1729.toNat
def k0_dev52 (d0 : Dev nD) : Nat :=
  let c0_i32_1966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1965 : BitVec 32 := 1#32
  let v1741 : BitVec 32 := Scalar.muli v11 c1_i32_1965
  let v1742 : BitVec 32 := Scalar.addi c0_i32_1966 v1741
  v1742.toNat
def k0_dev53 (d0 : Dev nD) : Nat :=
  let c0_i32_2039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2038 : BitVec 32 := 1#32
  let v1802 : BitVec 32 := Scalar.muli v17 c1_i32_2038
  let v1803 : BitVec 32 := Scalar.addi c0_i32_2039 v1802
  v1803.toNat
def k0_dev54 (d0 : Dev nD) : Nat :=
  let c0_i32_2052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2051 : BitVec 32 := 1#32
  let v1815 : BitVec 32 := Scalar.muli v11 c1_i32_2051
  let v1816 : BitVec 32 := Scalar.addi c0_i32_2052 v1815
  v1816.toNat
def k0_dev55 (d0 : Dev nD) : Nat :=
  let c0_i32_2125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2124 : BitVec 32 := 1#32
  let v1876 : BitVec 32 := Scalar.muli v17 c1_i32_2124
  let v1877 : BitVec 32 := Scalar.addi c0_i32_2125 v1876
  v1877.toNat
def k0_dev56 (d0 : Dev nD) : Nat :=
  let c0_i32_2138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2137 : BitVec 32 := 1#32
  let v1889 : BitVec 32 := Scalar.muli v11 c1_i32_2137
  let v1890 : BitVec 32 := Scalar.addi c0_i32_2138 v1889
  v1890.toNat
def k0_dev57 (d0 : Dev nD) : Nat :=
  let c0_i32_2211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2210 : BitVec 32 := 1#32
  let v1950 : BitVec 32 := Scalar.muli v17 c1_i32_2210
  let v1951 : BitVec 32 := Scalar.addi c0_i32_2211 v1950
  v1951.toNat
def k0_dev58 (d0 : Dev nD) : Nat :=
  let c0_i32_2224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2223 : BitVec 32 := 1#32
  let v1963 : BitVec 32 := Scalar.muli v11 c1_i32_2223
  let v1964 : BitVec 32 := Scalar.addi c0_i32_2224 v1963
  v1964.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2230 : Index := Scalar.indexCast v2
  let c0_2510 : Index := 0#32
  ![v2230.toNat, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2511 : BitVec 32 := 0#32
  let v2234 : BitVec 1 := Scalar.cmpi .ne v2 c0_i32_2511
  let v2235 : BitVec 32 := Scalar.extui v2234
  let c0_i32_2513 : BitVec 32 := 0#32
  let v2236 : BitVec 1 := Scalar.cmpi .ne v2235 c0_i32_2513
  v2236

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4299 : BitVec 32 := 0#32
  ![v2.toNat, 0]
def k0_dev59 : Nat :=
  let c0_i32_4298 : BitVec 32 := 0#32
  let c0_i32_4296 : BitVec 32 := 0#32
  let c1_i32_4297 : BitVec 32 := 1#32
  let v3831 : BitVec 32 := Scalar.muli c0_i32_4296 c1_i32_4297
  let v3832 : BitVec 32 := Scalar.addi c0_i32_4298 v3831
  v3832.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2514 : BitVec 32 := 1#32
  let v2237 : BitVec 1 := Scalar.cmpi .ne v2 c1_i32_2514
  let v2238 : BitVec 32 := Scalar.extui v2237
  let c0_i32_2516 : BitVec 32 := 0#32
  let v2239 : BitVec 1 := Scalar.cmpi .ne v2238 c0_i32_2516
  v2239

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4299 : BitVec 32 := 0#32
  ![v2.toNat, 0]
def k0_dev60 : Nat :=
  let c0_i32_4298 : BitVec 32 := 0#32
  let c1_i32_4296 : BitVec 32 := 1#32
  let c1_i32_4297 : BitVec 32 := 1#32
  let v3831 : BitVec 32 := Scalar.muli c1_i32_4296 c1_i32_4297
  let v3832 : BitVec 32 := Scalar.addi c0_i32_4298 v3831
  v3832.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2517 : BitVec 32 := 2#32
  let v2240 : BitVec 1 := Scalar.cmpi .ne v2 c2_i32_2517
  let v2241 : BitVec 32 := Scalar.extui v2240
  let c0_i32_2519 : BitVec 32 := 0#32
  let v2242 : BitVec 1 := Scalar.cmpi .ne v2241 c0_i32_2519
  v2242

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4299 : BitVec 32 := 0#32
  ![v2.toNat, 0]
def k0_dev61 : Nat :=
  let c0_i32_4298 : BitVec 32 := 0#32
  let c2_i32_4296 : BitVec 32 := 2#32
  let c1_i32_4297 : BitVec 32 := 1#32
  let v3831 : BitVec 32 := Scalar.muli c2_i32_4296 c1_i32_4297
  let v3832 : BitVec 32 := Scalar.addi c0_i32_4298 v3831
  v3832.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2520 : BitVec 32 := 3#32
  let v2243 : BitVec 1 := Scalar.cmpi .ne v2 c3_i32_2520
  let v2244 : BitVec 32 := Scalar.extui v2243
  let c0_i32_2522 : BitVec 32 := 0#32
  let v2245 : BitVec 1 := Scalar.cmpi .ne v2244 c0_i32_2522
  v2245

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4299 : BitVec 32 := 0#32
  ![v2.toNat, 0]
def k0_dev62 : Nat :=
  let c0_i32_4298 : BitVec 32 := 0#32
  let c3_i32_4296 : BitVec 32 := 3#32
  let c1_i32_4297 : BitVec 32 := 1#32
  let v3831 : BitVec 32 := Scalar.muli c3_i32_4296 c1_i32_4297
  let v3832 : BitVec 32 := Scalar.addi c0_i32_4298 v3831
  v3832.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2523 : BitVec 32 := 4#32
  let v2246 : BitVec 1 := Scalar.cmpi .ne v2 c4_i32_2523
  let v2247 : BitVec 32 := Scalar.extui v2246
  let c0_i32_2525 : BitVec 32 := 0#32
  let v2248 : BitVec 1 := Scalar.cmpi .ne v2247 c0_i32_2525
  v2248

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4299 : BitVec 32 := 0#32
  ![v2.toNat, 0]
def k0_dev63 : Nat :=
  let c0_i32_4298 : BitVec 32 := 0#32
  let c4_i32_4296 : BitVec 32 := 4#32
  let c1_i32_4297 : BitVec 32 := 1#32
  let v3831 : BitVec 32 := Scalar.muli c4_i32_4296 c1_i32_4297
  let v3832 : BitVec 32 := Scalar.addi c0_i32_4298 v3831
  v3832.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2526 : BitVec 32 := 5#32
  let v2249 : BitVec 1 := Scalar.cmpi .ne v2 c5_i32_2526
  let v2250 : BitVec 32 := Scalar.extui v2249
  let c0_i32_2528 : BitVec 32 := 0#32
  let v2251 : BitVec 1 := Scalar.cmpi .ne v2250 c0_i32_2528
  v2251

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4299 : BitVec 32 := 0#32
  ![v2.toNat, 0]
def k0_dev64 : Nat :=
  let c0_i32_4298 : BitVec 32 := 0#32
  let c5_i32_4296 : BitVec 32 := 5#32
  let c1_i32_4297 : BitVec 32 := 1#32
  let v3831 : BitVec 32 := Scalar.muli c5_i32_4296 c1_i32_4297
  let v3832 : BitVec 32 := Scalar.addi c0_i32_4298 v3831
  v3832.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2529 : BitVec 32 := 6#32
  let v2252 : BitVec 1 := Scalar.cmpi .ne v2 c6_i32_2529
  let v2253 : BitVec 32 := Scalar.extui v2252
  let c0_i32_2531 : BitVec 32 := 0#32
  let v2254 : BitVec 1 := Scalar.cmpi .ne v2253 c0_i32_2531
  v2254

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4299 : BitVec 32 := 0#32
  ![v2.toNat, 0]
def k0_dev65 : Nat :=
  let c0_i32_4298 : BitVec 32 := 0#32
  let c6_i32_4296 : BitVec 32 := 6#32
  let c1_i32_4297 : BitVec 32 := 1#32
  let v3831 : BitVec 32 := Scalar.muli c6_i32_4296 c1_i32_4297
  let v3832 : BitVec 32 := Scalar.addi c0_i32_4298 v3831
  v3832.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v2255 : BitVec 1 := Scalar.cmpi .ne v2 c7_i32
  let v2256 : BitVec 32 := Scalar.extui v2255
  let c0_i32_2533 : BitVec 32 := 0#32
  let v2257 : BitVec 1 := Scalar.cmpi .ne v2256 c0_i32_2533
  v2257

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4299 : BitVec 32 := 0#32
  ![v2.toNat, 0]
def k0_dev66 : Nat :=
  let c0_i32_4298 : BitVec 32 := 0#32
  let c7_i32_4296 : BitVec 32 := 7#32
  let c1_i32_4297 : BitVec 32 := 1#32
  let v3831 : BitVec 32 := Scalar.muli c7_i32_4296 c1_i32_4297
  let v3832 : BitVec 32 := Scalar.addi c0_i32_4298 v3831
  v3832.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2534 : BitVec 32 := 0#32
  let v2258 : BitVec 1 := Scalar.cmpi .ne v2 c0_i32_2534
  let v2259 : BitVec 32 := Scalar.extui v2258
  let c0_i32_2538 : BitVec 32 := 0#32
  let v2260 : BitVec 1 := Scalar.cmpi .ne v2259 c0_i32_2538
  v2260

def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4305 : BitVec 32 := 0#32
  ![v2.toNat, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2539 : BitVec 32 := 1#32
  let v2261 : BitVec 1 := Scalar.cmpi .ne v2 c1_i32_2539
  let v2262 : BitVec 32 := Scalar.extui v2261
  let c0_i32_2543 : BitVec 32 := 0#32
  let v2263 : BitVec 1 := Scalar.cmpi .ne v2262 c0_i32_2543
  v2263

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4305 : BitVec 32 := 0#32
  ![v2.toNat, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2544 : BitVec 32 := 2#32
  let v2264 : BitVec 1 := Scalar.cmpi .ne v2 c2_i32_2544
  let v2265 : BitVec 32 := Scalar.extui v2264
  let c0_i32_2548 : BitVec 32 := 0#32
  let v2266 : BitVec 1 := Scalar.cmpi .ne v2265 c0_i32_2548
  v2266

def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4305 : BitVec 32 := 0#32
  ![v2.toNat, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2549 : BitVec 32 := 3#32
  let v2267 : BitVec 1 := Scalar.cmpi .ne v2 c3_i32_2549
  let v2268 : BitVec 32 := Scalar.extui v2267
  let c0_i32_2553 : BitVec 32 := 0#32
  let v2269 : BitVec 1 := Scalar.cmpi .ne v2268 c0_i32_2553
  v2269

def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4305 : BitVec 32 := 0#32
  ![v2.toNat, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2554 : BitVec 32 := 4#32
  let v2270 : BitVec 1 := Scalar.cmpi .ne v2 c4_i32_2554
  let v2271 : BitVec 32 := Scalar.extui v2270
  let c0_i32_2558 : BitVec 32 := 0#32
  let v2272 : BitVec 1 := Scalar.cmpi .ne v2271 c0_i32_2558
  v2272

def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4305 : BitVec 32 := 0#32
  ![v2.toNat, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2559 : BitVec 32 := 5#32
  let v2273 : BitVec 1 := Scalar.cmpi .ne v2 c5_i32_2559
  let v2274 : BitVec 32 := Scalar.extui v2273
  let c0_i32_2563 : BitVec 32 := 0#32
  let v2275 : BitVec 1 := Scalar.cmpi .ne v2274 c0_i32_2563
  v2275

def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4305 : BitVec 32 := 0#32
  ![v2.toNat, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2564 : BitVec 32 := 6#32
  let v2276 : BitVec 1 := Scalar.cmpi .ne v2 c6_i32_2564
  let v2277 : BitVec 32 := Scalar.extui v2276
  let c0_i32_2568 : BitVec 32 := 0#32
  let v2278 : BitVec 1 := Scalar.cmpi .ne v2277 c0_i32_2568
  v2278

def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4305 : BitVec 32 := 0#32
  ![v2.toNat, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2569 : BitVec 32 := 7#32
  let v2279 : BitVec 1 := Scalar.cmpi .ne v2 c7_i32_2569
  let v2280 : BitVec 32 := Scalar.extui v2279
  let c0_i32_2573 : BitVec 32 := 0#32
  let v2281 : BitVec 1 := Scalar.cmpi .ne v2280 c0_i32_2573
  v2281

def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4305 : BitVec 32 := 0#32
  ![v2.toNat, 0]
def k0_off29 (d0 : Dev nD) (c1_i32_4 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c512_i32_2581 : BitVec 32 := 512#32
  let v2293 : BitVec 32 := Scalar.muli v17 c512_i32_2581
  let v2294 : Index := Scalar.indexCast v2293
  let c0_2582 : Index := 0#32
  ![v2294.toNat, 0]
def k0_off30 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c512_i32_2585 : BitVec 32 := 512#32
  let v2302 : BitVec 32 := Scalar.muli v11 c512_i32_2585
  let v2303 : Index := Scalar.indexCast v2302
  let c0_2586 : Index := 0#32
  ![v2303.toNat, 0]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c512_i32_2587 : BitVec 32 := 512#32
  let v2307 : BitVec 32 := Scalar.muli v17 c512_i32_2587
  let c0_i32_2594 : BitVec 32 := 0#32
  ![v2307.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c512_i32_2597 : BitVec 32 := 512#32
  let v2322 : BitVec 32 := Scalar.muli v11 c512_i32_2597
  let c1024_i32 : BitVec 32 := 1024#32
  ![v2322.toNat, 1024]
def k0_off33 (d0 : Dev nD) (c1_i32_4 : BitVec 32) (c0_i32_2607 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c512_i32_2606 : BitVec 32 := 512#32
  let v2337 : BitVec 32 := Scalar.muli v17 c512_i32_2606
  let v2338 : BitVec 32 := Scalar.addi v2337 c0_i32_2607
  let c0_i32_2614 : BitVec 32 := 0#32
  ![v2338.toNat, 0]
def k0_dev67 (d0 : Dev nD) : Nat :=
  let c0_i32_2613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2612 : BitVec 32 := 1#32
  let v2339 : BitVec 32 := Scalar.muli v17 c1_i32_2612
  let v2340 : BitVec 32 := Scalar.addi c0_i32_2613 v2339
  v2340.toNat
def k0_off34 (d0 : Dev nD) (c1_i32_0 : BitVec 32) (c0_i32_2617 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c512_i32_2616 : BitVec 32 := 512#32
  let v2347 : BitVec 32 := Scalar.muli v11 c512_i32_2616
  let v2348 : BitVec 32 := Scalar.addi v2347 c0_i32_2617
  let c0_i32_2624 : BitVec 32 := 0#32
  ![v2348.toNat, 0]
def k0_dev68 (d0 : Dev nD) : Nat :=
  let c0_i32_2623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2622 : BitVec 32 := 1#32
  let v2349 : BitVec 32 := Scalar.muli v11 c1_i32_2622
  let v2350 : BitVec 32 := Scalar.addi c0_i32_2623 v2349
  v2350.toNat
def k0_dev69 (d0 : Dev nD) : Nat :=
  let c0_i32_2633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2632 : BitVec 32 := 1#32
  let v2359 : BitVec 32 := Scalar.muli v17 c1_i32_2632
  let v2360 : BitVec 32 := Scalar.addi c0_i32_2633 v2359
  v2360.toNat
def k0_dev70 (d0 : Dev nD) : Nat :=
  let c0_i32_2643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2642 : BitVec 32 := 1#32
  let v2369 : BitVec 32 := Scalar.muli v11 c1_i32_2642
  let v2370 : BitVec 32 := Scalar.addi c0_i32_2643 v2369
  v2370.toNat
def k0_dev71 (d0 : Dev nD) : Nat :=
  let c0_i32_2653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2652 : BitVec 32 := 1#32
  let v2379 : BitVec 32 := Scalar.muli v17 c1_i32_2652
  let v2380 : BitVec 32 := Scalar.addi c0_i32_2653 v2379
  v2380.toNat
def k0_dev72 (d0 : Dev nD) : Nat :=
  let c0_i32_2663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2662 : BitVec 32 := 1#32
  let v2389 : BitVec 32 := Scalar.muli v11 c1_i32_2662
  let v2390 : BitVec 32 := Scalar.addi c0_i32_2663 v2389
  v2390.toNat
def k0_dev73 (d0 : Dev nD) : Nat :=
  let c0_i32_2673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2672 : BitVec 32 := 1#32
  let v2399 : BitVec 32 := Scalar.muli v17 c1_i32_2672
  let v2400 : BitVec 32 := Scalar.addi c0_i32_2673 v2399
  v2400.toNat
def k0_dev74 (d0 : Dev nD) : Nat :=
  let c0_i32_2683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2682 : BitVec 32 := 1#32
  let v2409 : BitVec 32 := Scalar.muli v11 c1_i32_2682
  let v2410 : BitVec 32 := Scalar.addi c0_i32_2683 v2409
  v2410.toNat
def k0_dev75 (d0 : Dev nD) : Nat :=
  let c0_i32_2719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2718 : BitVec 32 := 1#32
  let v2443 : BitVec 32 := Scalar.muli v17 c1_i32_2718
  let v2444 : BitVec 32 := Scalar.addi c0_i32_2719 v2443
  v2444.toNat
def k0_dev76 (d0 : Dev nD) : Nat :=
  let c0_i32_2729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2728 : BitVec 32 := 1#32
  let v2453 : BitVec 32 := Scalar.muli v11 c1_i32_2728
  let v2454 : BitVec 32 := Scalar.addi c0_i32_2729 v2453
  v2454.toNat
def k0_dev77 (d0 : Dev nD) : Nat :=
  let c0_i32_2755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2754 : BitVec 32 := 1#32
  let v2475 : BitVec 32 := Scalar.muli v17 c1_i32_2754
  let v2476 : BitVec 32 := Scalar.addi c0_i32_2755 v2475
  v2476.toNat
def k0_dev78 (d0 : Dev nD) : Nat :=
  let c0_i32_2765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2764 : BitVec 32 := 1#32
  let v2485 : BitVec 32 := Scalar.muli v11 c1_i32_2764
  let v2486 : BitVec 32 := Scalar.addi c0_i32_2765 v2485
  v2486.toNat
def k0_dev79 (d0 : Dev nD) : Nat :=
  let c0_i32_2791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2790 : BitVec 32 := 1#32
  let v2507 : BitVec 32 := Scalar.muli v17 c1_i32_2790
  let v2508 : BitVec 32 := Scalar.addi c0_i32_2791 v2507
  v2508.toNat
def k0_dev80 (d0 : Dev nD) : Nat :=
  let c0_i32_2801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2800 : BitVec 32 := 1#32
  let v2517 : BitVec 32 := Scalar.muli v11 c1_i32_2800
  let v2518 : BitVec 32 := Scalar.addi c0_i32_2801 v2517
  v2518.toNat
def k0_dev81 (d0 : Dev nD) : Nat :=
  let c0_i32_2827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2826 : BitVec 32 := 1#32
  let v2539 : BitVec 32 := Scalar.muli v17 c1_i32_2826
  let v2540 : BitVec 32 := Scalar.addi c0_i32_2827 v2539
  v2540.toNat
def k0_dev82 (d0 : Dev nD) : Nat :=
  let c0_i32_2837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2836 : BitVec 32 := 1#32
  let v2549 : BitVec 32 := Scalar.muli v11 c1_i32_2836
  let v2550 : BitVec 32 := Scalar.addi c0_i32_2837 v2549
  v2550.toNat
def k0_off35 (d0 : Dev nD) (c0_i32_2686 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v2417 : BitVec 32 := Scalar.subi v5 c0_i32_2686
  let c16_i32_2687 : BitVec 32 := 16#32
  let v2418 : BitVec 32 := Scalar.addi v2417 c16_i32_2687
  let c8_i32_2688 : BitVec 32 := 8#32
  let v2419 : BitVec 32 := Scalar.remsi v2418 c8_i32_2688
  let c4_i32_2689 : BitVec 32 := 4#32
  let v2420 : BitVec 1 := Scalar.cmpi .slt v2419 c4_i32_2689
  let c11_i32_2690 : BitVec 32 := 11#32
  let v2421 : BitVec 32 := Scalar.subi c11_i32_2690 v2419
  let v2422 : BitVec 32 := Scalar.select v2420 v2419 v2421
  let c512_i32_2840 : BitVec 32 := 512#32
  let v2557 : BitVec 32 := Scalar.muli v2422 c512_i32_2840
  let c0_i32_2847 : BitVec 32 := 0#32
  ![v2557.toNat, 0]
def k0_off36 (d0 : Dev nD) (c0_i32_2691 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v2423 : BitVec 32 := Scalar.addi v5 c0_i32_2691
  let c16_i32_2692 : BitVec 32 := 16#32
  let v2424 : BitVec 32 := Scalar.addi v2423 c16_i32_2692
  let c8_i32_2693 : BitVec 32 := 8#32
  let v2425 : BitVec 32 := Scalar.remsi v2424 c8_i32_2693
  let c4_i32_2694 : BitVec 32 := 4#32
  let v2426 : BitVec 1 := Scalar.cmpi .slt v2425 c4_i32_2694
  let c11_i32_2695 : BitVec 32 := 11#32
  let v2427 : BitVec 32 := Scalar.subi c11_i32_2695 v2425
  let v2428 : BitVec 32 := Scalar.select v2426 v2425 v2427
  let c512_i32_2850 : BitVec 32 := 512#32
  let v2572 : BitVec 32 := Scalar.muli v2428 c512_i32_2850
  let c1024_i32_2857 : BitVec 32 := 1024#32
  ![v2572.toNat, 1024]
def k0_dev83 (d0 : Dev nD) : Nat :=
  let c0_i32_2949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2948 : BitVec 32 := 1#32
  let v2645 : BitVec 32 := Scalar.muli v17 c1_i32_2948
  let v2646 : BitVec 32 := Scalar.addi c0_i32_2949 v2645
  v2646.toNat
def k0_dev84 (d0 : Dev nD) : Nat :=
  let c0_i32_2959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2958 : BitVec 32 := 1#32
  let v2655 : BitVec 32 := Scalar.muli v11 c1_i32_2958
  let v2656 : BitVec 32 := Scalar.addi c0_i32_2959 v2655
  v2656.toNat
def k0_dev85 (d0 : Dev nD) : Nat :=
  let c0_i32_2985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_2984 : BitVec 32 := 1#32
  let v2677 : BitVec 32 := Scalar.muli v17 c1_i32_2984
  let v2678 : BitVec 32 := Scalar.addi c0_i32_2985 v2677
  v2678.toNat
def k0_dev86 (d0 : Dev nD) : Nat :=
  let c0_i32_2995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2994 : BitVec 32 := 1#32
  let v2687 : BitVec 32 := Scalar.muli v11 c1_i32_2994
  let v2688 : BitVec 32 := Scalar.addi c0_i32_2995 v2687
  v2688.toNat
def k0_dev87 (d0 : Dev nD) : Nat :=
  let c0_i32_3021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3020 : BitVec 32 := 1#32
  let v2709 : BitVec 32 := Scalar.muli v17 c1_i32_3020
  let v2710 : BitVec 32 := Scalar.addi c0_i32_3021 v2709
  v2710.toNat
def k0_dev88 (d0 : Dev nD) : Nat :=
  let c0_i32_3031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3030 : BitVec 32 := 1#32
  let v2719 : BitVec 32 := Scalar.muli v11 c1_i32_3030
  let v2720 : BitVec 32 := Scalar.addi c0_i32_3031 v2719
  v2720.toNat
def k0_dev89 (d0 : Dev nD) : Nat :=
  let c0_i32_3057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3056 : BitVec 32 := 1#32
  let v2741 : BitVec 32 := Scalar.muli v17 c1_i32_3056
  let v2742 : BitVec 32 := Scalar.addi c0_i32_3057 v2741
  v2742.toNat
def k0_dev90 (d0 : Dev nD) : Nat :=
  let c0_i32_3067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3066 : BitVec 32 := 1#32
  let v2751 : BitVec 32 := Scalar.muli v11 c1_i32_3066
  let v2752 : BitVec 32 := Scalar.addi c0_i32_3067 v2751
  v2752.toNat
def k0_dev91 (d0 : Dev nD) : Nat :=
  let c0_i32_3189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3188 : BitVec 32 := 1#32
  let v2857 : BitVec 32 := Scalar.muli v17 c1_i32_3188
  let v2858 : BitVec 32 := Scalar.addi c0_i32_3189 v2857
  v2858.toNat
def k0_dev92 (d0 : Dev nD) : Nat :=
  let c0_i32_3199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3198 : BitVec 32 := 1#32
  let v2867 : BitVec 32 := Scalar.muli v11 c1_i32_3198
  let v2868 : BitVec 32 := Scalar.addi c0_i32_3199 v2867
  v2868.toNat
def k0_dev93 (d0 : Dev nD) : Nat :=
  let c0_i32_3225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3224 : BitVec 32 := 1#32
  let v2889 : BitVec 32 := Scalar.muli v17 c1_i32_3224
  let v2890 : BitVec 32 := Scalar.addi c0_i32_3225 v2889
  v2890.toNat
def k0_dev94 (d0 : Dev nD) : Nat :=
  let c0_i32_3235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3234 : BitVec 32 := 1#32
  let v2899 : BitVec 32 := Scalar.muli v11 c1_i32_3234
  let v2900 : BitVec 32 := Scalar.addi c0_i32_3235 v2899
  v2900.toNat
def k0_dev95 (d0 : Dev nD) : Nat :=
  let c0_i32_3261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3260 : BitVec 32 := 1#32
  let v2921 : BitVec 32 := Scalar.muli v17 c1_i32_3260
  let v2922 : BitVec 32 := Scalar.addi c0_i32_3261 v2921
  v2922.toNat
def k0_dev96 (d0 : Dev nD) : Nat :=
  let c0_i32_3271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3270 : BitVec 32 := 1#32
  let v2931 : BitVec 32 := Scalar.muli v11 c1_i32_3270
  let v2932 : BitVec 32 := Scalar.addi c0_i32_3271 v2931
  v2932.toNat
def k0_dev97 (d0 : Dev nD) : Nat :=
  let c0_i32_3297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3296 : BitVec 32 := 1#32
  let v2953 : BitVec 32 := Scalar.muli v17 c1_i32_3296
  let v2954 : BitVec 32 := Scalar.addi c0_i32_3297 v2953
  v2954.toNat
def k0_dev98 (d0 : Dev nD) : Nat :=
  let c0_i32_3307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3306 : BitVec 32 := 1#32
  let v2963 : BitVec 32 := Scalar.muli v11 c1_i32_3306
  let v2964 : BitVec 32 := Scalar.addi c0_i32_3307 v2963
  v2964.toNat
def k0_dev99 (d0 : Dev nD) : Nat :=
  let c0_i32_3429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3428 : BitVec 32 := 1#32
  let v3069 : BitVec 32 := Scalar.muli v17 c1_i32_3428
  let v3070 : BitVec 32 := Scalar.addi c0_i32_3429 v3069
  v3070.toNat
def k0_dev100 (d0 : Dev nD) : Nat :=
  let c0_i32_3439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3438 : BitVec 32 := 1#32
  let v3079 : BitVec 32 := Scalar.muli v11 c1_i32_3438
  let v3080 : BitVec 32 := Scalar.addi c0_i32_3439 v3079
  v3080.toNat
def k0_dev101 (d0 : Dev nD) : Nat :=
  let c0_i32_3465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3464 : BitVec 32 := 1#32
  let v3101 : BitVec 32 := Scalar.muli v17 c1_i32_3464
  let v3102 : BitVec 32 := Scalar.addi c0_i32_3465 v3101
  v3102.toNat
def k0_dev102 (d0 : Dev nD) : Nat :=
  let c0_i32_3475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3474 : BitVec 32 := 1#32
  let v3111 : BitVec 32 := Scalar.muli v11 c1_i32_3474
  let v3112 : BitVec 32 := Scalar.addi c0_i32_3475 v3111
  v3112.toNat
def k0_dev103 (d0 : Dev nD) : Nat :=
  let c0_i32_3501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3500 : BitVec 32 := 1#32
  let v3133 : BitVec 32 := Scalar.muli v17 c1_i32_3500
  let v3134 : BitVec 32 := Scalar.addi c0_i32_3501 v3133
  v3134.toNat
def k0_dev104 (d0 : Dev nD) : Nat :=
  let c0_i32_3511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3510 : BitVec 32 := 1#32
  let v3143 : BitVec 32 := Scalar.muli v11 c1_i32_3510
  let v3144 : BitVec 32 := Scalar.addi c0_i32_3511 v3143
  v3144.toNat
def k0_dev105 (d0 : Dev nD) : Nat :=
  let c0_i32_3537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3536 : BitVec 32 := 1#32
  let v3165 : BitVec 32 := Scalar.muli v17 c1_i32_3536
  let v3166 : BitVec 32 := Scalar.addi c0_i32_3537 v3165
  v3166.toNat
def k0_dev106 (d0 : Dev nD) : Nat :=
  let c0_i32_3547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3546 : BitVec 32 := 1#32
  let v3175 : BitVec 32 := Scalar.muli v11 c1_i32_3546
  let v3176 : BitVec 32 := Scalar.addi c0_i32_3547 v3175
  v3176.toNat
def k0_dev107 (d0 : Dev nD) : Nat :=
  let c0_i32_3669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3668 : BitVec 32 := 1#32
  let v3281 : BitVec 32 := Scalar.muli v17 c1_i32_3668
  let v3282 : BitVec 32 := Scalar.addi c0_i32_3669 v3281
  v3282.toNat
def k0_dev108 (d0 : Dev nD) : Nat :=
  let c0_i32_3679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3678 : BitVec 32 := 1#32
  let v3291 : BitVec 32 := Scalar.muli v11 c1_i32_3678
  let v3292 : BitVec 32 := Scalar.addi c0_i32_3679 v3291
  v3292.toNat
def k0_dev109 (d0 : Dev nD) : Nat :=
  let c0_i32_3705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3704 : BitVec 32 := 1#32
  let v3313 : BitVec 32 := Scalar.muli v17 c1_i32_3704
  let v3314 : BitVec 32 := Scalar.addi c0_i32_3705 v3313
  v3314.toNat
def k0_dev110 (d0 : Dev nD) : Nat :=
  let c0_i32_3715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3714 : BitVec 32 := 1#32
  let v3323 : BitVec 32 := Scalar.muli v11 c1_i32_3714
  let v3324 : BitVec 32 := Scalar.addi c0_i32_3715 v3323
  v3324.toNat
def k0_dev111 (d0 : Dev nD) : Nat :=
  let c0_i32_3741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3740 : BitVec 32 := 1#32
  let v3345 : BitVec 32 := Scalar.muli v17 c1_i32_3740
  let v3346 : BitVec 32 := Scalar.addi c0_i32_3741 v3345
  v3346.toNat
def k0_dev112 (d0 : Dev nD) : Nat :=
  let c0_i32_3751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3750 : BitVec 32 := 1#32
  let v3355 : BitVec 32 := Scalar.muli v11 c1_i32_3750
  let v3356 : BitVec 32 := Scalar.addi c0_i32_3751 v3355
  v3356.toNat
def k0_dev113 (d0 : Dev nD) : Nat :=
  let c0_i32_3777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3776 : BitVec 32 := 1#32
  let v3377 : BitVec 32 := Scalar.muli v17 c1_i32_3776
  let v3378 : BitVec 32 := Scalar.addi c0_i32_3777 v3377
  v3378.toNat
def k0_dev114 (d0 : Dev nD) : Nat :=
  let c0_i32_3787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3786 : BitVec 32 := 1#32
  let v3387 : BitVec 32 := Scalar.muli v11 c1_i32_3786
  let v3388 : BitVec 32 := Scalar.addi c0_i32_3787 v3387
  v3388.toNat
def k0_dev115 (d0 : Dev nD) : Nat :=
  let c0_i32_3909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3908 : BitVec 32 := 1#32
  let v3493 : BitVec 32 := Scalar.muli v17 c1_i32_3908
  let v3494 : BitVec 32 := Scalar.addi c0_i32_3909 v3493
  v3494.toNat
def k0_dev116 (d0 : Dev nD) : Nat :=
  let c0_i32_3919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3918 : BitVec 32 := 1#32
  let v3503 : BitVec 32 := Scalar.muli v11 c1_i32_3918
  let v3504 : BitVec 32 := Scalar.addi c0_i32_3919 v3503
  v3504.toNat
def k0_dev117 (d0 : Dev nD) : Nat :=
  let c0_i32_3945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3944 : BitVec 32 := 1#32
  let v3525 : BitVec 32 := Scalar.muli v17 c1_i32_3944
  let v3526 : BitVec 32 := Scalar.addi c0_i32_3945 v3525
  v3526.toNat
def k0_dev118 (d0 : Dev nD) : Nat :=
  let c0_i32_3955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3954 : BitVec 32 := 1#32
  let v3535 : BitVec 32 := Scalar.muli v11 c1_i32_3954
  let v3536 : BitVec 32 := Scalar.addi c0_i32_3955 v3535
  v3536.toNat
def k0_dev119 (d0 : Dev nD) : Nat :=
  let c0_i32_3981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_3980 : BitVec 32 := 1#32
  let v3557 : BitVec 32 := Scalar.muli v17 c1_i32_3980
  let v3558 : BitVec 32 := Scalar.addi c0_i32_3981 v3557
  v3558.toNat
def k0_dev120 (d0 : Dev nD) : Nat :=
  let c0_i32_3991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3990 : BitVec 32 := 1#32
  let v3567 : BitVec 32 := Scalar.muli v11 c1_i32_3990
  let v3568 : BitVec 32 := Scalar.addi c0_i32_3991 v3567
  v3568.toNat
def k0_dev121 (d0 : Dev nD) : Nat :=
  let c0_i32_4017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.addi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_4016 : BitVec 32 := 1#32
  let v3589 : BitVec 32 := Scalar.muli v17 c1_i32_4016
  let v3590 : BitVec 32 := Scalar.addi c0_i32_4017 v3589
  v3590.toNat
def k0_dev122 (d0 : Dev nD) : Nat :=
  let c0_i32_4027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_4026 : BitVec 32 := 1#32
  let v3599 : BitVec 32 := Scalar.muli v11 c1_i32_4026
  let v3600 : BitVec 32 := Scalar.addi c0_i32_4027 v3599
  v3600.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x4096, .bf16⟩
  | .local _ .vmem, ⟨1, _⟩ => ⟨S4096x2048, .bf16⟩
  | .local _ .vmem, ⟨2, _⟩ => ⟨S4096x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
/- The kernel's body written with loops, and the printed body's equality with it.

   Device `c` sits at position `flip8 c` of a ring; direction `false` moves to the right (position + 1), `true` to
   the left.  Everything the printed body names by a chain of integer operations is named here in closed form, and
   the two are compared device by device. -/
module

public import proofs.«01_k».proof.Proof.Gen.KernelIdeal
public import Idealize.ShloMosaic.Lib.Pipeline.Regions
public import Idealize.ShloMosaic.Lib.Tactic

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

/-! ## The ring -/

/-- Device ↔ ring position: an involution. -/
def flip8 (c : Fin 8) : Fin 8 := ⟨if c.val < 4 then c.val else 11 - c.val, by split <;> omega⟩

/-- The device `k` places further along direction `d`. -/
def rot (d : Bool) (k : ℕ) (c : Fin 8) : Fin 8 :=
  flip8 ⟨((flip8 c).val + (if d then 7 * k else k)) % 8, Nat.mod_lt _ (by decide)⟩

/-- The device that direction `d`'s copies go to. -/
def fwd (d : Bool) (c : Fin 8) : Fin 8 := rot d 1 c
/-- The device that direction `d`'s copies come from. -/
def bwd (d : Bool) (c : Fin 8) : Fin 8 := rot d 7 c
/-- The row block reduced at step `s`. -/
def rsChunk (d : Bool) (c : Fin 8) (s : ℕ) : Fin 8 := rot d (7 - s) c
/-- The row block sent on at gather step `t`. -/
def agChunk (d : Bool) (c : Fin 8) (t : ℕ) : Fin 8 := rot d (9 - t) c

/-! ## Buffers, slabs, semaphores -/

abbrev xM : Memref sig .tc .vmem S4096x512 .bf16 := Memref.whole cc0_stg0_0
abbrev wM : Memref sig .tc .vmem S512x2048 .bf16 := Memref.whole cc0_stg1_0
abbrev oM : Memref sig .tc .hbm S4096x2048 .bf16 := Memref.whole main_v1
def recvM (d : Bool) : Memref sig .tc .vmem S7x512x1024 .bf16 := bif d then Memref.whole cc0_scratch1 else Memref.whole cc0_scratch0
def sendM (d : Bool) : Memref sig .tc .vmem S512x1024 .bf16 := bif d then Memref.whole cc0_scratch3 else Memref.whole cc0_scratch2
def accM (d : Bool) : Memref sig .tc .vmem S512x1024 .f32 := bif d then Memref.whole cc0_scratch5 else Memref.whole cc0_scratch4
def agM (d : Bool) : Memref sig .tc .vmem S4096x1024 .fp8e4m3 := bif d then Memref.whole cc0_scratch7 else Memref.whole cc0_scratch6
abbrev amM : Memref sig .tc .vmem S8x128 .f32 := Memref.whole cc0_scratch8
abbrev stM : Memref sig .tc .vmem S4x512x1024 .bf16 := Memref.whole cc0_scratch9

theorem recvM_whole (d : Bool) : (recvM d).IsWhole := by cases d <;> exact Memref.isWhole_whole _
theorem sendM_whole (d : Bool) : (sendM d).IsWhole := by cases d <;> exact Memref.isWhole_whole _
theorem accM_whole (d : Bool) : (accM d).IsWhole := by cases d <;> exact Memref.isWhole_whole _
theorem agM_whole (d : Bool) : (agM d).IsWhole := by cases d <;> exact Memref.isWhole_whole _
theorem stM_whole : stM.IsWhole := Memref.isWhole_whole _
theorem oM_whole : oM.IsWhole := Memref.isWhole_whole _

theorem inbS (sub : Fin 4) : ∀ a, (![128 * sub.val, 0] : Fin 2 → Nat) a + S128x1024.size a ≤ S512x1024.size a := by
  revert sub; decide
theorem wordsS (sub : Fin 4) : (Rect.unit (s := S512x1024) ![128 * sub.val, 0] S128x1024.size (inbS sub)).WholeWords (EltTy.packing .bf16) := by
  revert sub; decide
theorem packS (sub : Fin 4) : (Rect.unit (s := S512x1024) ![128 * sub.val, 0] S128x1024.size (inbS sub)).PackedRows (EltTy.packing .bf16) := by
  revert sub; decide
theorem inbR (s : Fin 7) (sub : Fin 4) : ∀ a, (![s.val, 128 * sub.val, 0] : Fin 3 → Nat) a + S1x128x1024.size a ≤ S7x512x1024.size a := by
  revert s sub; decide
theorem wordsR (s : Fin 7) (sub : Fin 4) : (Rect.unit (s := S7x512x1024) ![s.val, 128 * sub.val, 0] S1x128x1024.size (inbR s sub)).WholeWords (EltTy.packing .bf16) := by
  revert s sub; decide
theorem inbG (k : Fin 8) (sub : Fin 4) : ∀ a, (![512 * k.val + 128 * sub.val, 0] : Fin 2 → Nat) a + S128x1024.size a ≤ S4096x1024.size a := by
  revert k sub; decide
theorem wordsG (k : Fin 8) (sub : Fin 4) : (Rect.unit (s := S4096x1024) ![512 * k.val + 128 * sub.val, 0] S128x1024.size (inbG k sub)).WholeWords (EltTy.packing .fp8e4m3) := by
  revert k sub; decide
theorem inbC (k : Fin 8) : ∀ a, (![512 * k.val, 0] : Fin 2 → Nat) a + S512x1024.size a ≤ S4096x1024.size a := by
  revert k; decide
theorem packC (k : Fin 8) : (Rect.unit (s := S4096x1024) ![512 * k.val, 0] S512x1024.size (inbC k)).PackedRows (EltTy.packing .fp8e4m3) := by
  revert k; decide
theorem inbO (d : Bool) (k : Fin 8) : ∀ a, (![512 * k.val, 1024 * d.toNat] : Fin 2 → Nat) a + S512x1024.size a ≤ S4096x2048.size a := by
  revert d k; decide
theorem wordsO (d : Bool) (k : Fin 8) : (Rect.unit (s := S4096x2048) ![512 * k.val, 1024 * d.toNat] S512x1024.size (inbO d k)).WholeWords (EltTy.packing .bf16) := by
  revert d k; decide
theorem inbT (j : Fin 4) : ∀ a, (![j.val, 0, 0] : Fin 3 → Nat) a + S1x512x1024.size a ≤ S4x512x1024.size a := by
  revert j; decide
theorem wordsT (j : Fin 4) : (Rect.unit (s := S4x512x1024) ![j.val, 0, 0] S1x512x1024.size (inbT j)).WholeWords (EltTy.packing .bf16) := by
  revert j; decide
theorem packT (j : Fin 4) : (Rect.unit (s := S4x512x1024) ![j.val, 0, 0] S1x512x1024.size (inbT j)).PackedRows (EltTy.packing .bf16) := by
  revert j; decide
theorem inbA (k : Fin 8) : ∀ a, (![k.val, 0] : Fin 2 → Nat) a + S1x128.size a ≤ S8x128.size a := by
  revert k; decide
theorem inbX (k : Fin 8) (sub : Fin 4) : ∀ a, (![512 * k.val + 128 * sub.val, 0] : Fin 2 → Nat) a + S128x512.size a ≤ S4096x512.size a := by
  revert k sub; decide
theorem inbX0 (k : Fin 8) : ∀ a, (![512 * k.val, 0] : Fin 2 → Nat) a + S512x512.size a ≤ S4096x512.size a := by
  revert k; decide
theorem inbW (d : Bool) : ∀ a, (![0, 1024 * d.toNat] : Fin 2 → Nat) a + S512x1024.size a ≤ S512x2048.size a := by
  revert d; decide

/-- The rectangles. -/
abbrev rcS (sub : Fin 4) : Rect S512x1024 := Rect.unit (s := S512x1024) ![128 * sub.val, 0] S128x1024.size (inbS sub)
abbrev rcR (s : Fin 7) (sub : Fin 4) : Rect S7x512x1024 := Rect.unit (s := S7x512x1024) ![s.val, 128 * sub.val, 0] S1x128x1024.size (inbR s sub)
abbrev rcG (k : Fin 8) (sub : Fin 4) : Rect S4096x1024 := Rect.unit (s := S4096x1024) ![512 * k.val + 128 * sub.val, 0] S128x1024.size (inbG k sub)
abbrev rcC (k : Fin 8) : Rect S4096x1024 := Rect.unit (s := S4096x1024) ![512 * k.val, 0] S512x1024.size (inbC k)
abbrev rcO (d : Bool) (k : Fin 8) : Rect S4096x2048 := Rect.unit (s := S4096x2048) ![512 * k.val, 1024 * d.toNat] S512x1024.size (inbO d k)
abbrev rcT (j : Fin 4) : Rect S4x512x1024 := Rect.unit (s := S4x512x1024) ![j.val, 0, 0] S1x512x1024.size (inbT j)
abbrev rcA (k : Fin 8) : Rect S8x128 := Rect.unit (s := S8x128) ![k.val, 0] S1x128.size (inbA k)
abbrev rcX (k : Fin 8) (sub : Fin 4) : Rect S4096x512 := Rect.unit (s := S4096x512) ![512 * k.val + 128 * sub.val, 0] S128x512.size (inbX k sub)
abbrev rcX0 (k : Fin 8) : Rect S4096x512 := Rect.unit (s := S4096x512) ![512 * k.val, 0] S512x512.size (inbX0 k)
abbrev rcW (d : Bool) : Rect S512x2048 := Rect.unit (s := S512x2048) ![0, 1024 * d.toNat] S512x1024.size (inbW d)
abbrev rcW0 : Rect S512x2048 := Rect.unit (s := S512x2048) ![0, 0] S512x2048.size Facts₀.inb_S512x2048_S512x2048_0_0
abbrev rcH : Rect S512x1024 := Rect.unit (s := S512x1024) ![0, 0] S512x1024.size Facts₀.inb_S512x1024_S512x1024_0_0
abbrev rcA0 : Rect S8x128 := Rect.unit (s := S8x128) ![0, 0] S8x128.size Facts₀.inb_S8x128_S8x128_0_0

/-- The slabs copies move. -/
abbrev sSl (d : Bool) (sub : Fin 4) : Memref sig .tc .vmem S128x1024 .bf16 := (sendM d).slice (rcS sub) (fun _ => rfl)
abbrev rSl (d : Bool) (s : Fin 7) (sub : Fin 4) : Memref sig .tc .vmem S128x1024 .bf16 :=
  ((recvM d).slice (rcR s sub) (fun _ => rfl)).squeeze S128x1024 Facts₀.squeezes_S1x128x1024_S128x1024
abbrev gSl (d : Bool) (k : Fin 8) (sub : Fin 4) : Memref sig .tc .vmem S128x1024 .fp8e4m3 := (agM d).slice (rcG k sub) (fun _ => rfl)
abbrev aSl (k : Fin 8) : Memref sig .tc .vmem S1x128 .f32 := amM.slice (rcA k) (fun _ => rfl)
abbrev tSl (j : Fin 4) : Memref sig .tc .vmem S512x1024 .bf16 :=
  (stM.slice (rcT j) (fun _ => rfl)).squeeze S512x1024 Facts₀.squeezes_S1x512x1024_S512x1024
abbrev oSl (d : Bool) (k : Fin 8) : Memref sig .tc .hbm S512x1024 .bf16 := oM.slice (rcO d k) (fun _ => rfl)

theorem sSl_words (d : Bool) (sub : Fin 4) : (sSl d sub).view.WordExact := (sendM_whole d).wordExact_slice rfl _ (wordsS sub)
theorem rSl_words (d : Bool) (s : Fin 7) (sub : Fin 4) : (rSl d s sub).view.WordExact :=
  ((recvM_whole d).wordExact_slice rfl _ (wordsR s sub)).reshape _ _
theorem gSl_words (d : Bool) (k : Fin 8) (sub : Fin 4) : (gSl d k sub).view.WordExact := (agM_whole d).wordExact_slice rfl _ (wordsG k sub)
theorem tSl_words (j : Fin 4) : (tSl j).view.WordExact := (stM_whole.wordExact_slice rfl _ (wordsT j)).reshape _ _
theorem oSl_words (d : Bool) (k : Fin 8) : (oSl d k).view.WordExact := oM_whole.wordExact_slice rfl _ (wordsO d k)

/-- The kernel's own DMA semaphores, numbered from 0. -/
def dsem (n : Fin 244) : DmaSem sig := ⟨2 + n.val, by have := n.isLt; show 2 + n.val < 246; omega⟩
/-- Send and receive semaphores of phase `p` (0 the reduction, 1 the gather), direction `d`, step `s`, part `sub`. -/
def sS (p : Fin 2) (d : Bool) (s : Fin 7) (sub : Fin 4) : Fin 244 :=
  ⟨112 * p.val + 56 * d.toNat + (4 * s.val + sub.val), by have := d.toNat_le; omega⟩
def sR (p : Fin 2) (d : Bool) (s : Fin 7) (sub : Fin 4) : Fin 244 :=
  ⟨112 * p.val + 56 * d.toNat + 28 + (4 * s.val + sub.val), by have := d.toNat_le; omega⟩
def mS (k : Fin 8) : Fin 244 := ⟨224 + k.val, by omega⟩
def mR (k : Fin 8) : Fin 244 := ⟨232 + k.val, by omega⟩
def cS (j : Fin 4) : Fin 244 := ⟨240 + j.val, by omega⟩
abbrev barS : Sem sig := sig.barrier 0 rfl

/-! ## The values -/

def paV (x : Vec F S128x512 .bf16) (w : Vec F S512x1024 .bf16) : FVec F S128x1024 .f32 :=
  matmul dot_S128x512_S512x1024_S128x1024_1_0_0_1_n_n none (shapeCast S128x512 x Facts₀.shapeCasts_S128x512_S128x512)
    (shapeCast S512x1024 w Facts₀.shapeCasts_S512x1024_S512x1024) (constant S128x1024 .f32 0#32)
def sumV (p : FVec F S128x1024 .f32) (r : Vec F S1x128x1024 .bf16) : FVec F S128x1024 .f32 :=
  addf p (extf .f32 (shapeCast S128x1024 r Facts₀.shapeCasts_S1x128x1024_S128x1024) Facts₀.bitsLt_bf16_f32)
def sendV (v : FVec F S128x1024 .f32) : FVec F S128x1024 .bf16 :=
  shapeCast S128x1024 (truncf .bf16 v Facts₀.bitsLt_bf16_f32) Facts₀.shapeCasts_S128x1024_S128x1024
def accV (v : FVec F S128x1024 .f32) : FVec F S128x1024 .f32 :=
  shapeCast S128x1024 (maximumf v (broadcast S128x1024 (Scalar.ofBits .f32 0#32))) Facts₀.shapeCasts_S128x1024_S128x1024
def firstV (x : Vec F S512x512 .bf16) (w : Vec F S512x2048 .bf16) : FVec F S512x2048 .f32 :=
  matmul dot_S512x512_S512x2048_S512x2048_1_0_0_1_n_n none (shapeCast S512x512 x Facts₀.shapeCasts_S512x512_S512x512)
    (shapeCast S512x2048 w Facts₀.shapeCasts_S512x2048_S512x2048) (constant S512x2048 .f32 0#32)
theorem slicesF (d : Bool) : S512x2048.Slices ![0, 1024 * d.toNat] S512x1024 := by revert d; decide
def sendV0 (d : Bool) (v : FVec F S512x2048 .f32) : FVec F S512x1024 .bf16 :=
  shapeCast S512x1024 (truncf .bf16 (extractStridedSlice S512x1024 ![0, 1024 * d.toNat] v (slicesF d)) Facts₀.bitsLt_bf16_f32)
    Facts₀.shapeCasts_S512x1024_S512x1024
/-- The largest entry of a half accumulator. -/
def maxH (v : Vec F S512x1024 .f32) : F .f32 :=
  extractAt ![0, 0, 0] (shapeCast S1x1x1 (multiReduction .maximumf [1, 2] S1
    (shapeCast S1x512x1024 v Facts₀.shapeCasts_S512x1024_S1x512x1024) 0xFF800000#32 Facts₀.reduces_S1x512x1024_S1 (.inl rfl) rfl)
    Facts₀.shapeCasts_S1_S1x1x1) Facts₀.inpos_S1x1x1_p0_0_0
def rowV (a b : Vec F S512x1024 .f32) : FVec F S1x128 .f32 :=
  shapeCast S1x128 (broadcast S1x128 (Scalar.maximumf (maxH a) (maxH b))) Facts₀.shapeCasts_S1x128_S1x128
/-- The largest entry of the table of maxima. -/
def maxA (v : Vec F S8x128 .f32) : F .f32 :=
  extractAt ![0, 0, 0] (shapeCast S1x1x1 (multiReduction .maximumf [1, 2] S1
    (shapeCast S1x8x128 v Facts₀.shapeCasts_S8x128_S1x8x128) 0xFF800000#32 Facts₀.reduces_S1x8x128_S1 (.inl rfl) rfl)
    Facts₀.shapeCasts_S1_S1x1x1) Facts₀.inpos_S1x1x1_p0_0_0
def scaleV (v : Vec F S8x128 .f32) : F .f32 := Scalar.divf (maxA v) (Scalar.ofBits .f32 0x43E00000#32)
def invV (v : Vec F S8x128 .f32) : F .f32 := Scalar.divf (Scalar.ofBits .f32 0x43E00000#32) (maxA v)
def quantV (i : F .f32) (v : Vec F S512x1024 .f32) : FVec F S512x1024 .fp8e4m3 :=
  shapeCast S512x1024 (truncf .fp8e4m3 (mulf v (broadcast S512x1024 i)) Facts₀.bitsLt_fp8e4m3_f32) Facts₀.shapeCasts_S512x1024_S512x1024
def emitV (s : F .f32) (v : Vec F S512x1024 .fp8e4m3) : FVec F S1x512x1024 .bf16 :=
  shapeCast S1x512x1024 (truncf .bf16 (mulf (extf .f32 v Facts₀.bitsLt_fp8e4m3_f32) (broadcast S512x1024 s)) Facts₀.bitsLt_bf16_f32)
    Facts₀.shapeCasts_S512x1024_S1x512x1024

/-! ## The program -/

abbrev P (α : Type) : Type 1 := Prog (TpuEff nD τ sig (Elt F) Λ₀ .tc) α

/-- `n` pieces in order. -/
def seqN : (n : ℕ) → (Fin n → P (F := F) PUnit) → P (F := F) PUnit
  | 0, _ => pure ⟨⟩
  | n + 1, f => f 0 >>= fun _ => seqN n fun i => f i.succ

def rsSend (d : Bool) (c : Dev nD) (s : Fin 7) (sub : Fin 4) : P (F := F) PUnit :=
  Prog.lift (.enqueueDma (sSl d sub) (.remote (Dev.tc (fwd d c)) (rSl d s sub) (.dma (dsem (sS 0 d s sub)))) (.dma (dsem (sR 0 d s sub)))
    (sSl_words d sub) (rSl_words d s sub) ⟨⟨rfl, Or.inl rfl⟩, trivial⟩)
def rsWaitR (d : Bool) (s : Fin 7) (sub : Fin 4) : P (F := F) PUnit :=
  Prog.lift (.waitDma2 (dsem (sR 0 d s sub)) (sSl d sub) (rSl d s sub) (sSl_words d sub) (rSl_words d s sub))
def rsWaitS (d : Bool) (s : Fin 7) (sub : Fin 4) : P (F := F) PUnit :=
  Prog.lift (.waitDma2 (dsem (sS 0 d s sub)) (rSl d s sub) (sSl d sub) (rSl_words d s sub) (sSl_words d sub))
def agSend (d : Bool) (c : Dev nD) (s : Fin 7) (sub : Fin 4) : P (F := F) PUnit :=
  Prog.lift (.enqueueDma (gSl d (agChunk d c s) sub)
    (.remote (Dev.tc (fwd d c)) (gSl d (agChunk d c s) sub) (.dma (dsem (sS 1 d s sub)))) (.dma (dsem (sR 1 d s sub)))
    (gSl_words d _ sub) (gSl_words d _ sub) ⟨⟨rfl, Or.inl rfl⟩, trivial⟩)
def agWaitR (d : Bool) (c : Dev nD) (s : Fin 7) (sub : Fin 4) : P (F := F) PUnit :=
  Prog.lift (.waitDma2 (dsem (sR 1 d s sub)) (gSl d (agChunk d c s) sub) (gSl d (agChunk d c s) sub) (gSl_words d _ sub) (gSl_words d _ sub))
def agWaitS (d : Bool) (c : Dev nD) (s : Fin 7) (sub : Fin 4) : P (F := F) PUnit :=
  Prog.lift (.waitDma2 (dsem (sS 1 d s sub)) (gSl d (agChunk d c s) sub) (gSl d (agChunk d c s) sub) (gSl_words d _ sub) (gSl_words d _ sub))

/-- The partial products of a step, in direction `d`. -/
def rsPart (d : Bool) (c : Dev nD) (s : Fin 7) (sub : Fin 4) : P (F := F) (FVec F S128x1024 .f32) := do
  let x : Vec F S128x512 .bf16 ← Prog.lift (.load xM (rcX (rsChunk d c s) sub).toLoadRect (View.loadsAt_vmem Facts₀.h_S128x512))
  let w : Vec F S512x1024 .bf16 ← Prog.lift (.load wM (rcW d).toLoadRect (View.loadsAt_vmem Facts₀.h_S512x1024))
  pure (paV x w)
def rsLoadR (d : Bool) (s : Fin 7) (sub : Fin 4) : P (F := F) (Vec F S1x128x1024 .bf16) :=
  Prog.lift (.load (recvM d) (rcR s sub).toLoadRect (View.loadsAt_vmem Facts₀.h_S1x128x1024))
/-- Products, arrivals and their sums. -/
def rsHead (c : Dev nD) (s : Fin 7) (sub : Fin 4) : P (F := F) (FVec F S128x1024 .f32 × FVec F S128x1024 .f32) := do
  let pa ← rsPart false c s sub
  let pb ← rsPart true c s sub
  rsWaitR false s sub
  rsWaitR true s sub
  let ra ← rsLoadR false s sub
  let rb ← rsLoadR true s sub
  pure (sumV pa ra, sumV pb rb)
def rsStoreS (d : Bool) (sub : Fin 4) (v : FVec F S128x1024 .bf16) : P (F := F) PUnit := do
  let _ : Vec F S128x1024 .bf16 ← Prog.lift (.load (sendM d) (rcS sub).toLoadRect (View.loadsAt_vmem Facts₀.h_S128x1024))
  Prog.lift (.store (sendM d) (rcS sub) v Finset.univ
    (View.stores_vmem Facts₀.h_S128x1024 ((sendM_whole d).storeExact_slice rfl _ (packS sub)) (fun _ => rfl)) (.inl rfl))
def rsStoreA (d : Bool) (sub : Fin 4) (v : FVec F S128x1024 .f32) : P (F := F) PUnit := do
  let _ : Vec F S128x1024 .f32 ← Prog.lift (.load (accM d) (rcS sub).toLoadRect (View.loadsAt_vmem Facts₀.h_S128x1024))
  Prog.lift (.store (accM d) (rcS sub) v Finset.univ (View.stores_vmem_bits_univ Facts₀.h_S128x1024 rfl) (.inl rfl))
/-- A step before the last: the sums go on to the next device. -/
def rsMid (c : Dev nD) (s : Fin 6) (sub : Fin 4) : P (F := F) PUnit := do
  let v ← rsHead c s.castSucc sub
  rsWaitS false s.castSucc sub
  rsWaitS true s.castSucc sub
  rsStoreS false sub (sendV v.1)
  rsSend false c s.succ sub
  rsStoreS true sub (sendV v.2)
  rsSend true c s.succ sub
/-- The last step: the sums stay. -/
def rsEnd (c : Dev nD) (sub : Fin 4) : P (F := F) PUnit := do
  let v ← rsHead c 6 sub
  rsStoreA false sub (accV v.1)
  rsStoreA true sub (accV v.2)
  rsWaitS false 6 sub
  rsWaitS true 6 sub

def storeH (d : Bool) (v : FVec F S512x1024 .bf16) : P (F := F) PUnit := do
  let _ : Vec F S512x1024 .bf16 ← Prog.lift (.load (sendM d) rcH.toLoadRect (View.loadsAt_vmem Facts₀.h_S512x1024))
  Prog.lift (.store (sendM d) rcH v Finset.univ
    (View.stores_vmem Facts₀.h_S512x1024 ((sendM_whole d).storeExact_slice rfl _ Facts₀.packedbf16_S512x1024_S512x1024_0_0) (fun _ => rfl)) (.inl rfl))
def rsFirst (c : Dev nD) : P (F := F) PUnit := do
  let x : Vec F S512x512 .bf16 ← Prog.lift (.load xM (rcX0 c).toLoadRect (View.loadsAt_vmem Facts₀.h_S512x512))
  let w : Vec F S512x2048 .bf16 ← Prog.lift (.load wM rcW0.toLoadRect (View.loadsAt_vmem Facts₀.h_S512x2048))
  storeH false (sendV0 false (firstV x w))
  storeH true (sendV0 true (firstV x w))
  seqN 4 fun sub => do
    rsSend false c 0 sub
    rsSend true c 0 sub
def barrierP (c : Dev nD) : P (F := F) PUnit := do
  semSignalWord (fwd true c) barS 1#32
  semSignalWord (fwd false c) barS 1#32
  semWaitWord barS 2#32

def loadH (d : Bool) : P (F := F) (Vec F S512x1024 .f32) :=
  Prog.lift (.load (accM d) rcH.toLoadRect (View.loadsAt_vmem Facts₀.h_S512x1024))
def amRow (c : Dev nD) : P (F := F) PUnit := do
  let a ← loadH false
  let b ← loadH true
  let _ : Vec F S1x128 .f32 ← Prog.lift (.load amM (rcA c).toLoadRect (View.loadsAt_vmem Facts₀.h_S1x128))
  Prog.lift (.store amM (rcA c) (rowV a b) Finset.univ (View.stores_vmem_bits_univ Facts₀.h_S1x128 rfl) (.inl rfl))
/-- Hand the own row to device `k`. -/
def amSend (c : Dev nD) (k : Fin 8) : P (F := F) PUnit :=
  if k = c then pure ⟨⟩ else
    Prog.lift (.enqueueDma (aSl c) (.remote (Dev.tc k) (aSl c) (.dma (dsem (mS k)))) (.dma (dsem (mR c)))
      (View.wordExact_bits rfl) (View.wordExact_bits rfl) ⟨⟨rfl, Or.inl rfl⟩, trivial⟩)
def amWait (c : Dev nD) (k : Fin 8) : P (F := F) PUnit :=
  if k = c then pure ⟨⟩ else do
    Prog.lift (.waitDma2 (dsem (mR k)) (aSl k) (aSl k) (View.wordExact_bits rfl) (View.wordExact_bits rfl))
    Prog.lift (.waitDma2 (dsem (mS k)) (aSl c) (aSl c) (View.wordExact_bits rfl) (View.wordExact_bits rfl))

def loadC (d : Bool) (k : Fin 8) : P (F := F) (Vec F S512x1024 .fp8e4m3) :=
  Prog.lift (.load (agM d) (rcC k).toLoadRect (View.loadsAt_vmem Facts₀.h_S512x1024))
def quantP (d : Bool) (c : Dev nD) (i : F .f32) : P (F := F) PUnit := do
  let a ← loadH d
  let _ ← loadC d (agChunk d c 0)
  Prog.lift (.store (agM d) (rcC (agChunk d c 0)) (quantV i a) Finset.univ
    (View.stores_vmem Facts₀.h_S512x1024 ((agM_whole d).storeExact_slice rfl _ (packC _)) (fun _ => rfl)) (.inl rfl))

/-- The staging slot of a direction's `j`-th copy out. -/
def slot (d : Bool) (j : ℕ) : Fin 4 := ⟨2 * d.toNat + j % 2, by have := d.toNat_le; omega⟩
def outWait (d : Bool) (c : Dev nD) (j : ℕ) : P (F := F) PUnit :=
  Prog.lift (.waitDma2 (dsem (cS (slot d j))) (tSl (slot d j)) (oSl d (agChunk d c j)) (tSl_words _) (oSl_words d _))
def outPut (d : Bool) (c : Dev nD) (s : F .f32) (j : ℕ) : P (F := F) PUnit := do
  let g ← loadC d (agChunk d c j)
  let _ : Vec F S1x512x1024 .bf16 ← Prog.lift (.load stM (rcT (slot d j)).toLoadRect (View.loadsAt_vmem Facts₀.h_S1x512x1024))
  Prog.lift (.store stM (rcT (slot d j)) (emitV s g) Finset.univ
    (View.stores_vmem Facts₀.h_S1x512x1024 (stM_whole.storeExact_slice rfl _ (packT _)) (fun _ => rfl)) (.inl rfl))
  Prog.lift (.enqueueDma (tSl (slot d j)) (.here (oSl d (agChunk d c j))) (.dma (dsem (cS (slot d j)))) (tSl_words _) (oSl_words d _)
    ⟨Or.inl rfl, trivial⟩)
def emitP (d : Bool) (c : Dev nD) (s : F .f32) (j : ℕ) : P (F := F) PUnit :=
  if j < 2 then outPut d c s j else do
    outWait d c (j - 2)
    outPut d c s j

/-- One part of a gather step before the last: it arrived, it goes on. -/
def agMid (c : Dev nD) (s : Fin 6) (sub : Fin 4) : P (F := F) PUnit := do
  agWaitR false c s.castSucc sub
  agWaitR true c s.castSucc sub
  agSend false c s.succ sub
  agSend true c s.succ sub
def agEnd (c : Dev nD) (sub : Fin 4) : P (F := F) PUnit := do
  agWaitR false c 6 sub
  agWaitR true c 6 sub
def agAfter (c : Dev nD) (v : F .f32) (s : Fin 7) : P (F := F) PUnit := do
  emitP false c v (s.val + 1)
  emitP true c v (s.val + 1)
  seqN 4 fun sub => do
    agWaitS false c s sub
    agWaitS true c s sub
def agStart (c : Dev nD) : P (F := F) PUnit :=
  seqN 4 fun sub => do
    agSend false c 0 sub
    agSend true c 0 sub
def agStep (c : Dev nD) (v : F .f32) (s : Fin 6) : P (F := F) PUnit := do
  seqN 4 (agMid c s)
  agAfter c v s.castSucc
def agLast (c : Dev nD) (v : F .f32) : P (F := F) PUnit := do
  seqN 4 (agEnd c)
  agAfter c v 6
def finalP (c : Dev nD) : P (F := F) PUnit := do
  outWait false c 6
  outWait false c 7
  outWait true c 6
  outWait true c 7

/-- The body on device `c`. -/
def bodyAt (c : Dev nD) : P (F := F) PUnit := do
  barrierP c
  rsFirst c
  seqN 6 fun s => seqN 4 (rsMid c s)
  seqN 4 (rsEnd c)
  amRow c
  seqN 8 (amSend c)
  seqN 8 (amWait c)
  let m : Vec F S8x128 .f32 ← Prog.lift (.load amM rcA0.toLoadRect (View.loadsAt_vmem Facts₀.h_S8x128))
  quantP false c (invV m)
  quantP true c (invV m)
  emitP false c (scaleV m) 0
  emitP true c (scaleV m) 0
  agStart c
  seqN 6 (agStep c (scaleV m))
  agLast c (scaleV m)
  finalP c

end Cert.KernelIdeal.Hand
-- ==== Proof.BodyEq.lean ====
/- The printed body is `bodyAt` at the device it runs on. -/
module

public import proofs.«01_k».proof.Proof.Prog

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

/-- The rest of a program after it has read its device. -/
def afterDev {α : Type} (p : P (F := F) α) (c : Dev nD) : P (F := F) α :=
  match p with
  | .op .deviceId k => k c
  | p => p

abbrev body0 : P (F := F) PUnit :=
  cc0_body xM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    cc0_scratch10 cc0_scratch11 cc0_scratch12 cc0_scratch13 cc0_scratch14 cc0_scratch15 cc0_scratch16 cc0_scratch17
    cc0_scratch18 cc0_scratch19 cc0_scratch20

theorem body_dev : body0 (F := F) = .op .deviceId (afterDev body0) := by chain_rfl

theorem body_eq (c : Dev nD) : afterDev (body0 (F := F)) c = bodyAt c := by
  fin_cases c <;> chain_rfl

end Cert.KernelIdeal.Hand
-- ==== Proof.Base.lean ====
/- The resource algebra, and a memref owned at its contents: loads, stores, parts and their joins. -/
module

public import proofs.«01_k».proof.Proof.BodyEq
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR : Emb (UB × Counters) (MT nD τ sig Unit (Elt F) ℕ UU ℕ))
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-- Device `c` runs `p` to `Q`. -/
abbrev WP (c : Dev nD) {α : Type} (p : P (F := F) α) (Q : α → sProp 𝕄) : sProp 𝕄 :=
  wp frame (wpE (defs₀ (F := F)) 𝒱₀ (c : Thread nD τ) none) Set.univ p Q

/-- Device `c` holds the memref's elements at share `q`, reading `X`. -/
abbrev own (c : Dev nD) {sp : Space} {sh : Shape} {e : EltTy} (M : Memref sig .tc sp sh e) (q : PosShare TreeShare)
    (X : sh.Idx → Elt F e) : sProp 𝕄 := owns (c : Thread nD τ) M q X

/-- Device `c` holds the memref's elements whole, whatever they are. -/
def any (c : Dev nD) {sp : Space} {sh : Shape} {e : EltTy} (M : Memref sig .tc sp sh e) : sProp 𝕄 :=
  iprop(∃ X, own (F := F) c M fullShare X)

instance any_storable (c : Dev nD) {sp : Space} {sh : Shape} {e : EltTy} (M : Memref sig .tc sp sh e) :
    BI.Storable (upEmb : UEmb _ 𝕄) (any (F := F) c M) := by unfold any; infer_instance

section Ops
variable (c : Dev nD) {α : Type} {Q : α → sProp (MT nD τ sig Unit (Elt F) ℕ UU ℕ)}

theorem any_intro {sp : Space} {sh : Shape} {e : EltTy} (M : Memref sig .tc sp sh e) (X : sh.Idx → Elt F e) :
    (own c M fullShare X : sProp 𝕄) ⊢ any c M := by unfold any; iintro H; iexists X; iexact H

/-- A load through a rectangle of an owned memref. -/
theorem ld {cs : CoreSpace} {sh : Shape} {e : EltTy} {M : Memref sig .tc cs sh e} {r : Rect sh} {hl : M.view.LoadsAt r.toLoadRect}
    {k : (r.shape.Idx → Elt F e) → P (F := F) α} {q : PosShare TreeShare} {X : sh.Idx → Elt F e} :
    (own c M q X : sProp 𝕄) ⊢ iprop((own c M q X -∗ WP c (k fun j => X (r.emb j)) Q) -∗ WP c (.op (.load M r.toLoadRect hl) k) Q) := by
  unfold own owns
  iintro ⟨%f, %hf, H⟩ Hk
  have hS : M.view.setOn r.toLoadRect.set ⊆ M.view.set := Finset.map_subset_map.mpr (Finset.subset_univ _)
  iapply (wp_load (defs := defs₀ (F := F)) 𝒱₀ (c : Thread nD τ) none Set.univ (m := M) (r := r.toLoadRect) (S := M.view.set)
    (q := q) (f := f) (hl := hl) hS) $$ H
  iintro H
  rw [show M.view.readAt (Elt F) r.toLoadRect f = fun j => X (r.emb j) from by subst hf; rfl]
  iapply Hk
  iexists f
  isplitr; · ipureintro; exact hf
  iexact H

/-- A load of an owned slice. -/
theorem ldS {cs : CoreSpace} {sh : Shape} {e : EltTy} {M : Memref sig .tc cs sh e} {r : Rect sh} {hr : ∀ a, r.stride a = 1}
    {hl : M.view.LoadsAt r.toLoadRect}
    {k : (r.shape.Idx → Elt F e) → P (F := F) α} {q : PosShare TreeShare} {X : r.shape.Idx → Elt F e} :
    (own c (M.slice r hr) q X : sProp 𝕄)
      ⊢ iprop((own c (M.slice r hr) q X -∗ WP c (k X) Q) -∗ WP c (.op (.load M r.toLoadRect hl) k) Q) := by
  unfold own owns
  iintro ⟨%f, %hf, H⟩ Hk
  iapply (wp_load_rect (defs := defs₀ (F := F)) 𝒱₀ (c : Thread nD τ) none Set.univ (m := M) (r := r) (S := (M.slice r hr).view.set)
    (q := q) (f := f) (Finset.Subset.refl _)) $$ H
  iintro H
  rw [show (M.access r).read (Elt F) f = X from hf]
  iapply Hk
  iexists f
  isplitr; · ipureintro; exact hf
  iexact H

/-- A store into an owned slice. -/
theorem stS {cs : CoreSpace} {sh : Shape} {e : EltTy} {M : Memref sig .tc cs sh e} {r : Rect sh} {hr : ∀ a, r.stride a = 1}
    {w : r.shape.Idx → Elt F e} {hx : (M.access r).Stores Finset.univ} {hm : (Finset.univ : Finset r.shape.Idx) = Finset.univ ∨ ∀ a, r.stride a = 1}
    {k : PUnit → P (F := F) α} {X : r.shape.Idx → Elt F e} :
    (own c (M.slice r hr) fullShare X : sProp 𝕄)
      ⊢ iprop((own c (M.slice r hr) fullShare w -∗ WP c (k ⟨⟩) Q) -∗ WP c (.op (.store M r w Finset.univ hx hm) k) Q) := by
  unfold own owns
  iintro ⟨%f, %hf, H⟩ Hk
  iapply (wp_store (defs := defs₀ (F := F)) 𝒱₀ (c : Thread nD τ) none Set.univ (m := M) (r := r) (Mk := Finset.univ)
    (S := (M.slice r hr).view.set) (f := f) (Finset.Subset.refl _)) $$ H
  iintro H
  iapply Hk
  iexists ((M.access r).write (Elt F) f w Finset.univ)
  isplitr; · ipureintro; exact View.read_write_univ _ _
  iexact H

/-- A slice of all of a memref's shape is the memref. -/
theorem own_full {sp : Space} {sh : Shape} {e : EltTy} (M : Memref sig .tc sp sh e) {off : Fin sh.rank → ℕ}
    (inb : ∀ a, off a + sh.size a ≤ sh.size a) (q : PosShare TreeShare) (X : sh.Idx → Elt F e) :
    (own c (M.slice (Rect.unit off sh.size inb) (fun _ => rfl)) q X : sProp 𝕄) = own c M q X := by
  have he : ∀ x, (Rect.unit off sh.size inb).emb x = x := Rect.emb_unit_full inb
  have hr : ∀ f, (M.slice (Rect.unit off sh.size inb) (fun _ => rfl)).view.read (Elt F) f = M.view.read (Elt F) f := fun f => by
    funext x; show _root_.cast _ (f (M.view.emb ((Rect.unit off sh.size inb).emb x))) = _; rw [he]; rfl
  have hs : (M.slice (Rect.unit off sh.size inb) (fun _ => rfl)).view.set = M.view.set := by
    rw [View.set, View.set]
    congr 1
    exact Function.Embedding.ext fun x => congrArg M.view.emb (he x)
  unfold own owns
  simp only [hr, hs]

/-- A squeezed memref's contents are the memref's, re-indexed. -/
theorem own_squeeze {sp : Space} {sh s' : Shape} {e : EltTy} (M : Memref sig .tc sp sh e) (h : sh.Squeezes s') (q : PosShare TreeShare)
    (X : s'.Idx → Elt F e) :
    (own c (M.squeeze s' h) q X : sProp 𝕄) = own c M q (fun i => X (Shape.reshapeEquiv h.numel_eq.symm i)) := by
  have hr : ∀ f, (M.squeeze s' h).view.read (Elt F) f = fun i => M.view.read (Elt F) f (Shape.reshapeEquiv h.numel_eq i) := fun f => rfl
  have hi : ∀ f, ((M.squeeze s' h).view.read (Elt F) f = X)
      ↔ (M.view.read (Elt F) f = fun i => X (Shape.reshapeEquiv h.numel_eq.symm i)) := fun f => by
    rw [hr]
    constructor
    · rintro rfl
      funext i
      dsimp only
      rw [Shape.reshapeEquiv_reshapeEquiv, Shape.reshapeEquiv_self]
    · intro h'
      funext i
      rw [h']
      dsimp only
      rw [Shape.reshapeEquiv_reshapeEquiv, Shape.reshapeEquiv_self]
  unfold own owns
  simp only [hi, Memref.view_squeeze, View.set_reshape]

/-- Landed contents are owned. -/
theorem own_landed {sp : Space} {sh : Shape} {e : EltTy} (M : Memref sig .tc sp sh e) (fd : M.view.ty.Contents (Elt F)) (X : sh.Idx → Elt F e) :
    (M.view.loc (c : Thread nD τ) ↦[M.view.set]{fullShare} M.view.write (Elt F) fd X Finset.univ : sProp 𝕄) ⊢ own c M fullShare X := by
  unfold own owns
  iintro H
  iexists (M.view.write (Elt F) fd X Finset.univ)
  isplitr; · ipureintro; exact View.read_write_univ _ _
  iexact H

theorem own_fst {sp : Space} {sh : Shape} {e : EltTy} (M : Memref sig .tc sp sh e) (q : PosShare TreeShare) (f : M.view.ty.Contents (Elt F)) :
    (M.view.loc (c : Thread nD τ) ↦[M.view.set]{q} f : sProp 𝕄) ⊢ own c M q (M.view.read (Elt F) f) := owns_intro _ _ _ _

/-- Two halves of a share. -/
theorem own_halves {sp : Space} {sh : Shape} {e : EltTy} (M : Memref sig .tc sp sh e) (q : PosShare TreeShare) (X : sh.Idx → Elt F e) :
    (own c M q X : sProp 𝕄) ⊣⊢ iprop(own c M q.left X ∗ own c M q.right X) := owns_halves (c := (c : Thread nD τ)) (m := M) (q := q) X

end Ops

/-! ## Families of parts -/

section Parts
variable (c : Dev nD) {sp : Space} {sh : Shape} {e : EltTy} (M : Memref sig .tc sp sh e) {T : Type} [Fintype T] [DecidableEq T]
  (r : T → Rect sh) (hr : ∀ t a, (r t).stride a = 1)

/-- A family of rectangles that are disjoint and cover. -/
structure Tiles : Prop where
  disj : ∀ t t', t ≠ t' → Disjoint (r t).set (r t').set
  cov : ∀ x, ∃ t, x ∈ (r t).set

variable {r}

theorem Tiles.hcov (h : Tiles r) : (Finset.univ : Finset T).biUnion (fun t => (r t).set) = Finset.univ := by
  ext x; simp only [Finset.mem_biUnion, Finset.mem_univ, true_and, iff_true]; exact h.cov x

theorem Tiles.exists_emb (h : Tiles r) (x : sh.Idx) : ∃ t j, (r t).emb j = x := by
  obtain ⟨t, ht⟩ := h.cov x
  obtain ⟨j, hj⟩ := (r t).exists_idx_of_mem ht
  exact ⟨t, j, hj⟩

theorem Tiles.inj (h : Tiles r) {t t' : T} {j : (r t).shape.Idx} {j' : (r t').shape.Idx} (he : (r t).emb j = (r t').emb j') : t = t' := by
  by_contra hne
  exact Finset.disjoint_left.mp (h.disj t t' hne) ((r t).idx_mem j) (by
    have : (r t).idx j = (r t').idx j' := he
    rw [this]; exact (r t').idx_mem j')

/-- The contents whose parts are `V`. -/
def glue {β : Type} (h : Tiles r) (V : (t : T) → (r t).shape.Idx → β) : sh.Idx → β := fun x =>
  V (h.exists_emb x).choose (h.exists_emb x).choose_spec.choose

theorem glue_emb {β : Type} (h : Tiles r) (V : (t : T) → (r t).shape.Idx → β) (t : T) (j : (r t).shape.Idx) :
    glue h V ((r t).emb j) = V t j := by
  unfold glue
  have h1 := (h.exists_emb ((r t).emb j)).choose_spec.choose_spec
  have key : ∀ t' (j' : (r t').shape.Idx), (r t').emb j' = (r t).emb j → V t' j' = V t j := by
    intro t' j' he
    have := h.inj he
    subst this
    rw [(r t').emb.injective he]
  exact key _ _ h1

theorem own_parts (h : Tiles r) (q : PosShare TreeShare) (X : sh.Idx → Elt F e) :
    (own c M q X : sProp 𝕄) ⊢ bigSep Finset.univ fun t => own c (M.slice (r t) (hr t)) q (fun j => X ((r t).emb j)) :=
  owns_rects _ _ _ r hr h.disj h.hcov X

theorem own_join (h : Tiles r) (q : PosShare TreeShare) (X : sh.Idx → Elt F e) :
    (bigSep Finset.univ fun t => own c (M.slice (r t) (hr t)) q (fun j => X ((r t).emb j))) ⊢ (own c M q X : sProp 𝕄) :=
  owns_of_rects _ _ _ r hr h.disj h.hcov X

/-- Parts at any contents join at the contents they make. -/
theorem own_glue (h : Tiles r) (q : PosShare TreeShare) (V : (t : T) → (r t).shape.Idx → Elt F e) :
    (bigSep Finset.univ fun t => own c (M.slice (r t) (hr t)) q (V t)) ⊢ (own c M q (glue h V) : sProp 𝕄) := by
  refine Entails.trans (Entails.of_eq ?_) (own_join c M hr h q (glue h V))
  exact bigSep_congr fun t _ => by congr 1; funext j; exact (glue_emb h V t j).symm

theorem any_parts (h : Tiles r) :
    (any c M : sProp 𝕄) ⊢ bigSep Finset.univ fun t => any (F := F) c (M.slice (r t) (hr t)) := by
  unfold any
  iintro ⟨%X, H⟩
  ihave H := (own_parts c M hr h fullShare X) $$ H
  have hm : (bigSep Finset.univ fun t => own c (M.slice (r t) (hr t)) fullShare (fun j => X ((r t).emb j)))
      ⊢ (bigSep Finset.univ fun t => any (F := F) c (M.slice (r t) (hr t)) : sProp 𝕄) := bigSep_mono fun t _ => any_intro c _ _
  iapply hm
  iexact H

theorem any_join (h : Tiles r) :
    (bigSep Finset.univ fun t => any (F := F) c (M.slice (r t) (hr t))) ⊢ (any c M : sProp 𝕄) := by
  unfold any
  iintro H
  ihave H := (BI.bigSep_exists_pi Finset.univ (fun (t : T) (X : (r t).shape.Idx → Elt F e) => (own c (M.slice (r t) (hr t)) fullShare X : sProp 𝕄))) $$ H
  icases H with ⟨%V, H⟩
  iexists (glue h V)
  iapply (own_glue c M hr h fullShare V)
  iexact H

end Parts

end Cert.KernelIdeal.Hand
-- ==== Proof.Sched.lean ====
/- Who signals whom, how much, in what order, and what each landing hands over. -/
module

public import proofs.«01_k».proof.Proof.Base

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring -/

theorem fwd_bwd (d : Bool) (c : Fin 8) : fwd d (bwd d c) = c := by revert d c; decide
theorem bwd_fwd (d : Bool) (c : Fin 8) : bwd d (fwd d c) = c := by revert d c; decide
theorem fwd_not (d : Bool) (c : Fin 8) : fwd (!d) c = bwd d c := by revert d c; decide
theorem agChunk_zero (d : Bool) (c : Fin 8) : agChunk d c 0 = fwd d c := by revert d c; decide
theorem agChunk_fwd (d : Bool) (c : Fin 8) (s : Fin 7) : agChunk d (fwd d c) (s.val + 1) = agChunk d c s.val := by revert d c s; decide
theorem agChunk_inj (d : Bool) (c : Fin 8) : Function.Injective fun j : Fin 8 => agChunk d c j.val := by revert d c; decide
theorem agChunk_surj (d : Bool) (c : Fin 8) : Function.Surjective fun j : Fin 8 => agChunk d c j.val := by revert d c; decide
theorem rot_keep (c : Fin 8) (s : Fin 7) : rot false (s.val + 1) (rot false (7 - s.val) c) = c := by revert c s; decide
theorem rot_on (c : Fin 8) (s : Fin 7) : rot false (7 - (s.val + 1)) (fwd false c) = rot false (7 - s.val) c := by revert c s; decide
theorem rot_zero (c : Fin 8) : rot false 7 (fwd false c) = c := by revert c; decide
def ringE (d : Bool) : Dev nD ≃ Dev nD := ⟨fwd d, bwd d, bwd_fwd d, fwd_bwd d⟩

/-! ## Parts of the buffers -/

theorem tilesS : Tiles (fun u : Fin 4 => rcS u) where
  disj u u' h := Rect.unit_disjoint 0 (by
    show 128 * u.val + 128 ≤ 128 * u'.val ∨ 128 * u'.val + 128 ≤ 128 * u.val
    have := Fin.val_ne_of_ne h; omega)
  cov x := ⟨⟨(x 0).val / 128, by have h : (x 0).val < 512 := (x 0).isLt; omega⟩, Rect.mem_set_unit.mpr fun a => by
    match a with
    | ⟨0, _⟩ => show 128 * ((x 0).val / 128) ≤ (x 0).val ∧ (x 0).val < 128 * ((x 0).val / 128) + 128; omega
    | ⟨1, _⟩ => show 0 ≤ (x 1).val ∧ (x 1).val < 0 + 1024; have h : (x 1).val < 1024 := (x 1).isLt; omega⟩

theorem tilesR : Tiles (fun t : Fin 7 × Fin 4 => rcR t.1 t.2) where
  disj t t' h := by
    by_cases h1 : t.1 = t'.1
    · refine Rect.unit_disjoint 1 ?_
      show 128 * t.2.val + 128 ≤ 128 * t'.2.val ∨ 128 * t'.2.val + 128 ≤ 128 * t.2.val
      have := Fin.val_ne_of_ne (fun h2 => h (Prod.ext h1 h2)); omega
    · refine Rect.unit_disjoint 0 ?_
      show t.1.val + 1 ≤ t'.1.val ∨ t'.1.val + 1 ≤ t.1.val
      have := Fin.val_ne_of_ne h1; omega
  cov x := ⟨(⟨(x 0).val, (x 0).isLt⟩, ⟨(x 1).val / 128, by have h : (x 1).val < 512 := (x 1).isLt; omega⟩), Rect.mem_set_unit.mpr fun a => by
    match a with
    | ⟨0, _⟩ => show (x 0).val ≤ (x 0).val ∧ (x 0).val < (x 0).val + 1; omega
    | ⟨1, _⟩ => show 128 * ((x 1).val / 128) ≤ (x 1).val ∧ (x 1).val < 128 * ((x 1).val / 128) + 128; omega
    | ⟨2, _⟩ => show 0 ≤ (x 2).val ∧ (x 2).val < 0 + 1024; have h : (x 2).val < 1024 := (x 2).isLt; omega⟩

theorem tilesC : Tiles (fun k : Fin 8 => rcC k) where
  disj u u' h := Rect.unit_disjoint 0 (by
    show 512 * u.val + 512 ≤ 512 * u'.val ∨ 512 * u'.val + 512 ≤ 512 * u.val
    have := Fin.val_ne_of_ne h; omega)
  cov x := ⟨⟨(x 0).val / 512, by have h : (x 0).val < 4096 := (x 0).isLt; omega⟩, Rect.mem_set_unit.mpr fun a => by
    match a with
    | ⟨0, _⟩ => show 512 * ((x 0).val / 512) ≤ (x 0).val ∧ (x 0).val < 512 * ((x 0).val / 512) + 512; omega
    | ⟨1, _⟩ => show 0 ≤ (x 1).val ∧ (x 1).val < 0 + 1024; have h : (x 1).val < 1024 := (x 1).isLt; omega⟩

theorem tilesA : Tiles (fun k : Fin 8 => rcA k) where
  disj u u' h := Rect.unit_disjoint 0 (by
    show u.val + 1 ≤ u'.val ∨ u'.val + 1 ≤ u.val
    have := Fin.val_ne_of_ne h; omega)
  cov x := ⟨⟨(x 0).val, (x 0).isLt⟩, Rect.mem_set_unit.mpr fun a => by
    match a with
    | ⟨0, _⟩ => show (x 0).val ≤ (x 0).val ∧ (x 0).val < (x 0).val + 1; omega
    | ⟨1, _⟩ => show 0 ≤ (x 1).val ∧ (x 1).val < 0 + 128; have h : (x 1).val < 128 := (x 1).isLt; omega⟩

theorem tilesT : Tiles (fun k : Fin 4 => rcT k) where
  disj u u' h := Rect.unit_disjoint 0 (by
    show u.val + 1 ≤ u'.val ∨ u'.val + 1 ≤ u.val
    have := Fin.val_ne_of_ne h; omega)
  cov x := ⟨⟨(x 0).val, (x 0).isLt⟩, Rect.mem_set_unit.mpr fun a => by
    match a with
    | ⟨0, _⟩ => show (x 0).val ≤ (x 0).val ∧ (x 0).val < (x 0).val + 1; omega
    | ⟨1, _⟩ => show 0 ≤ (x 1).val ∧ (x 1).val < 0 + 512; have h : (x 1).val < 512 := (x 1).isLt; omega
    | ⟨2, _⟩ => show 0 ≤ (x 2).val ∧ (x 2).val < 0 + 1024; have h : (x 2).val < 1024 := (x 2).isLt; omega⟩

theorem tilesO : Tiles (fun t : Bool × Fin 8 => rcO t.1 t.2) where
  disj t t' h := by
    by_cases h1 : t.1 = t'.1
    · refine Rect.unit_disjoint 0 ?_
      show 512 * t.2.val + 512 ≤ 512 * t'.2.val ∨ 512 * t'.2.val + 512 ≤ 512 * t.2.val
      have := Fin.val_ne_of_ne (fun h2 => h (Prod.ext h1 h2)); omega
    · refine Rect.unit_disjoint 1 ?_
      show 1024 * t.1.toNat + 1024 ≤ 1024 * t'.1.toNat ∨ 1024 * t'.1.toNat + 1024 ≤ 1024 * t.1.toNat
      rcases h2 : t.1 <;> rcases h3 : t'.1 <;> simp_all
  cov x := ⟨(decide (1024 ≤ (x 1).val), ⟨(x 0).val / 512, by have h : (x 0).val < 4096 := (x 0).isLt; omega⟩), Rect.mem_set_unit.mpr fun a => by
    match a with
    | ⟨0, _⟩ => show 512 * ((x 0).val / 512) ≤ (x 0).val ∧ (x 0).val < 512 * ((x 0).val / 512) + 512; omega
    | ⟨1, _⟩ =>
      show 1024 * (decide (1024 ≤ (x 1).val)).toNat ≤ (x 1).val ∧ (x 1).val < 1024 * (decide (1024 ≤ (x 1).val)).toNat + 1024
      have h : (x 1).val < 2048 := (x 1).isLt
      by_cases h2 : 1024 ≤ (x 1).val <;> simp [h2] <;> omega⟩

/-- A part of a chunk, through the chunk or directly. -/
theorem own_chunk (c : Dev nD) (d : Bool) (k : Fin 8) (u : Fin 4) (q : PosShare TreeShare) (V : S128x1024.Idx → Elt F .fp8e4m3) :
    (own c (((agM d).slice (rcC k) (fun _ => rfl)).slice (rcS u) (fun _ => rfl)) q V : sProp 𝕄) = own c (gSl d k u) q V := by
  have he : ∀ x : S128x1024.Idx, (rcC k).emb ((rcS u).emb x) = (rcG k u).emb x := fun x => by
    funext a
    apply Fin.ext
    match a with
    | ⟨0, _⟩ => show 512 * k.val + 1 * (128 * u.val + 1 * (x 0).val) = 512 * k.val + 128 * u.val + 1 * (x 0).val; omega
    | ⟨1, _⟩ => show 0 + 1 * (0 + 1 * (x 1).val) = 0 + 1 * (x 1).val; omega
  have hr : ∀ f, (((agM d).slice (rcC k) (fun _ => rfl)).slice (rcS u) (fun _ => rfl)).view.read (Elt F) f = (gSl d k u).view.read (Elt F) f := fun f => by
    funext x
    show _root_.cast _ (f ((agM d).view.emb ((rcC k).emb ((rcS u).emb x)))) = _root_.cast _ (f ((agM d).view.emb ((rcG k u).emb x)))
    rw [he]
  have hs : (((agM d).slice (rcC k) (fun _ => rfl)).slice (rcS u) (fun _ => rfl)).view.set = (gSl d k u).view.set := by
    rw [View.set, View.set]
    congr 1
    exact Function.Embedding.ext fun x => congrArg (agM d).view.emb (he x)
  unfold own owns
  simp only [hr, hs]

/-! ## The values -/

section Values
variable (X : Dev nD → S4096x512.Idx → Elt F .bf16) (W : Dev nD → S512x2048.Idx → Elt F .bf16)

def unsqR (V : S128x1024.Idx → Elt F .bf16) : Vec F S1x128x1024 .bf16 :=
  fun i => V (Shape.reshapeEquiv Facts₀.squeezes_S1x128x1024_S128x1024.numel_eq.symm i)
def paD (d : Bool) (c : Dev nD) (s : ℕ) (u : Fin 4) : FVec F S128x1024 .f32 :=
  paV (fun j => X c ((rcX (rsChunk d c s) u).emb j)) (fun j => W c ((rcW d).emb j))
/-- The whole first message of device `c`. -/
def SA0 (d : Bool) (c : Dev nD) : FVec F S512x1024 .bf16 :=
  sendV0 d (firstV (fun j => X c ((rcX0 c).emb j)) (fun j => W c (rcW0.emb j)))
/-- What device `c` sends at step `s`. -/
def SA (d : Bool) : ℕ → Dev nD → Fin 4 → S128x1024.Idx → Elt F .bf16
  | 0, c, u => fun j => SA0 X W d c ((rcS u).emb j)
  | s + 1, c, u => sendV (sumV (paD X W d c s u) (unsqR (SA d s (bwd d c) u)))
/-- The sum at step `s`. -/
def SM (d : Bool) (s : ℕ) (c : Dev nD) (u : Fin 4) : FVec F S128x1024 .f32 :=
  sumV (paD X W d c s u) (unsqR (SA X W d s (bwd d c) u))
def ACW (d : Bool) (c : Dev nD) : S512x1024.Idx → Elt F .f32 := glue tilesS fun u => accV (SM X W d 6 c u)
def AMrow (c : Dev nD) : FVec F S1x128 .f32 := rowV (ACW X W false c) (ACW X W true c)
def AM : S8x128.Idx → Elt F .f32 := glue tilesA fun k => AMrow X W k
/-- Chunk `k` of direction `d`, quantised. -/
def GC (d : Bool) (k : Fin 8) : S512x1024.Idx → Elt F .fp8e4m3 := quantV (invV (AM X W)) (ACW X W d (bwd d k))
def GS (d : Bool) (k : Fin 8) (u : Fin 4) : S128x1024.Idx → Elt F .fp8e4m3 := fun j => GC X W d k ((rcS u).emb j)
def sqT (V : S1x512x1024.Idx → Elt F .bf16) : S512x1024.Idx → Elt F .bf16 :=
  fun i => V (Shape.reshapeEquiv Facts₀.squeezes_S1x512x1024_S512x1024.numel_eq i)
def OB (d : Bool) (k : Fin 8) : S512x1024.Idx → Elt F .bf16 := sqT (emitV (scaleV (AM X W)) (GC X W d k))
/-- The result. -/
def OUT : S4096x2048.Idx → Elt F .bf16 := glue tilesO fun t => OB X W t.1 t.2

end Values

/-! ## The semaphores -/

abbrev Msg : Type := Fin 2 × Bool × Fin 7 × Fin 4
inductive SemId
  | bar
  | snd (m : Msg)
  | rcv (m : Msg)
  | ams (k : Fin 8)
  | amr (k : Fin 8)
  deriving DecidableEq

def semLoc : SemId → SemLoc sig
  | .bar => .reg barS
  | .snd m => .dma (dsem (sS m.1 m.2.1 m.2.2.1 m.2.2.2))
  | .rcv m => .dma (dsem (sR m.1 m.2.1 m.2.2.1 m.2.2.2))
  | .ams k => .dma (dsem (mS k))
  | .amr k => .dma (dsem (mR k))

def msgAt (n : ℕ) : Msg := (Fin.ofNat 2 (n / 112), n / 56 % 2 == 1, Fin.ofNat 7 (n % 28 / 4), Fin.ofNat 4 (n % 4))
def semAt (n : ℕ) : Option SemId :=
  if n < 224 then (if n / 28 % 2 = 0 then some (.snd (msgAt n)) else some (.rcv (msgAt n)))
  else if n < 232 then some (.ams (Fin.ofNat 8 (n - 224)))
  else if n < 240 then some (.amr (Fin.ofNat 8 (n - 232)))
  else none
def decode : SemLoc sig → Option SemId
  | .reg _ => some .bar
  | .dma q => semAt (q.val - 2)

theorem msgAt_sS : ∀ m : Msg, semAt (sS m.1 m.2.1 m.2.2.1 m.2.2.2).val = some (.snd m) := by decide
theorem msgAt_sR : ∀ m : Msg, semAt (sR m.1 m.2.1 m.2.2.1 m.2.2.2).val = some (.rcv m) := by decide
theorem semAt_mS : ∀ k : Fin 8, semAt (mS k).val = some (.ams k) := by decide
theorem semAt_mR : ∀ k : Fin 8, semAt (mR k).val = some (.amr k) := by decide
theorem semAt_cS : ∀ j : Fin 4, semAt (cS j).val = none := by decide

theorem decode_dsem (n : Fin 244) : decode (.dma (dsem n)) = semAt n.val := by
  show semAt (2 + n.val - 2) = _
  rw [Nat.add_sub_cancel_left]

@[simp] theorem decode_semLoc (x : SemId) : decode (semLoc x) = some x := by
  cases x with
  | bar => rfl
  | snd m => exact (decode_dsem _).trans (msgAt_sS m)
  | rcv m => exact (decode_dsem _).trans (msgAt_sR m)
  | ams k => exact (decode_dsem _).trans (semAt_mS k)
  | amr k => exact (decode_dsem _).trans (semAt_mR k)

theorem semLoc_injective : Function.Injective semLoc := fun x y h => by
  have := congrArg decode h
  rw [decode_semLoc, decode_semLoc] at this
  exact Option.some.inj this

abbrev cell (c : Dev nD) (x : SemId) : GSem nD τ sig := ((c : Thread nD τ), semLoc x)

theorem cell_inj {c c' : Dev nD} {x x' : SemId} (h : cell c x = cell c' x') : c = c' ∧ x = x' :=
  ⟨Fin.ext (congrArg (fun g : GSem nD τ sig => g.1.1.val) h), semLoc_injective (congrArg Prod.snd h)⟩

/-! ## The schedule -/

/-- The units of one message of a phase. -/
def NM (p : Fin 2) : ℕ := if p = 0 then (rSl false 0 0).view.dmaCredit else (gSl false 0 0).view.dmaCredit
def NA : ℕ := (aSl 0).view.dmaCredit
theorem NM_pos (p : Fin 2) : 0 < NM p := by
  unfold NM; split <;> exact View.dmaCredit_pos _ (by decide)
theorem NA_pos : 0 < NA := View.dmaCredit_pos _ (by decide)

theorem credit_rSl (d : Bool) (s : Fin 7) (u : Fin 4) : (rSl d s u).view.dmaCredit = NM 0 := by cases d <;> rfl
theorem credit_sSl (d : Bool) (u : Fin 4) : (sSl d u).view.dmaCredit = NM 0 := by cases d <;> rfl
theorem credit_gSl (d : Bool) (k : Fin 8) (u : Fin 4) : (gSl d k u).view.dmaCredit = NM 1 := by cases d <;> rfl
theorem credit_aSl (k : Fin 8) : (aSl k).view.dmaCredit = NA := rfl

section Sched
variable (X : Dev nD → S4096x512.Idx → Elt F .bf16) (W : Dev nD → S512x2048.Idx → Elt F .bf16)

/-- Device `o`'s rows of the table of maxima for the devices `s + 1` to 7 places to its right. -/
def bundle (o : Dev nD) (s : ℕ) : sProp 𝕄 :=
  bigSep (Finset.univ.filter fun t : Fin 7 => s ≤ t.val) fun t => any (F := F) o (aSl (rot false (t.val + 1) o))

/-- Where messages of direction `d` land on device `c`: free at launch. -/
def slots (d : Bool) (c : Dev nD) : sProp 𝕄 :=
  bigSep Finset.univ fun t : Fin 7 × Fin 4 =>
    iprop(any (F := F) c (rSl d t.1 t.2) ∗ any (F := F) c (gSl d (agChunk d c (t.1.val + 1)) t.2))

/-- The rows that ride with a message. -/
def riders (c : Dev nD) (d : Bool) (s : ℕ) (u : Fin 4) : sProp 𝕄 :=
  if d = false ∧ u = 0 then bundle (F := F) (rot false (7 - s) c) s else iprop(emp)

def pay (c : Dev nD) (b : Bool) : SemId → sProp 𝕄
  | .bar => slots b (fwd b c)
  | .snd (p, d, s, u) => if p = 0 then any (F := F) c (sSl d u) else
      own c (gSl d (agChunk d c s.val) u) fullShare.left (GS X W d (agChunk d c s.val) u)
  | .rcv (p, d, s, u) => if p = 0 then iprop(own c (rSl d s u) fullShare (SA X W d s.val (bwd d c) u) ∗ riders c d s.val u) else
      own c (gSl d (agChunk d c (s.val + 1)) u) fullShare (GS X W d (agChunk d c (s.val + 1)) u)
  | .ams k => own c (aSl c) (Transfers.shareTokN fullShare k.val) (AMrow X W c)
  | .amr k => own c (aSl k) fullShare (AMrow X W k)

def units : SemId → ℕ
  | .bar => 1
  | .snd m => NM m.1
  | .rcv m => NM m.1
  | .ams _ => NA
  | .amr _ => NA

def dutiesAt (c : Dev nD) : SemId → Finset Bool
  | .bar => Finset.univ
  | .snd _ => {false}
  | .rcv _ => {false}
  | .ams k => if k = c then ∅ else {false}
  | .amr k => if k = c then ∅ else {false}

/-- One round on every cell. -/
def Rd : Rounds.Schedule (GSem nD τ sig) Bool 𝕄 where
  duties g r := if r = 0 then (match decode g.2 with | some x => dutiesAt g.1.1 x | none => ∅) else ∅
  unitless _ := False
  amount g _ _ := match decode g.2 with | some x => units x | none => 1
  payload g _ b := match decode g.2 with | some x => pay X W g.1.1 b x | none => iprop(emp)
  amount_pos g _ _ _ := by
    cases decode g.2 with
    | none => exact Nat.one_pos
    | some x => cases x <;> first | exact Nat.one_pos | exact NM_pos _ | exact NA_pos

instance bundle_storable (o : Dev nD) (s : ℕ) : BI.Storable (upEmb : UEmb _ 𝕄) (bundle (F := F) o s) := by unfold bundle; infer_instance
instance slots_storable (d : Bool) (c : Dev nD) : BI.Storable (upEmb : UEmb _ 𝕄) (slots (F := F) d c) := by unfold slots; infer_instance
instance riders_storable (c : Dev nD) (d : Bool) (s : ℕ) (u : Fin 4) : BI.Storable (upEmb : UEmb _ 𝕄) (riders (F := F) c d s u) := by
  unfold riders; split <;> infer_instance
instance pay_storable (c : Dev nD) (b : Bool) (x : SemId) : BI.Storable (upEmb : UEmb _ 𝕄) (pay X W c b x) := by
  rcases x with _ | ⟨p, d, s, u⟩ | ⟨p, d, s, u⟩ | k | k
  · exact slots_storable _ _
  · show BI.Storable _ (ite (p = 0) _ _)
    by_cases h : p = 0
    · rw [if_pos h]; infer_instance
    · rw [if_neg h]; infer_instance
  · show BI.Storable _ (ite (p = 0) _ _)
    by_cases h : p = 0
    · rw [if_pos h]; infer_instance
    · rw [if_neg h]; infer_instance
  · show BI.Storable _ (own c (aSl c) _ _); infer_instance
  · show BI.Storable _ (own c (aSl k) _ _); infer_instance
instance Rd_payload_storable (g : GSem nD τ sig) (r : ℕ) (b : Bool) : BI.Storable (upEmb : UEmb _ 𝕄) ((Rd X W).payload g r b) := by
  unfold Rd; dsimp only
  cases decode g.2 with
  | none => dsimp only; infer_instance
  | some x => dsimp only; infer_instance

variable (c : Dev nD)

theorem duties_cell (x : SemId) : (Rd X W).duties (cell c x) 0 = dutiesAt c x := by
  unfold Rd; dsimp only; rw [decode_semLoc, if_pos rfl]
theorem duties_later (g : GSem nD τ sig) : ∀ r, 1 ≤ r → (Rd X W).duties g r = ∅ := fun r hr => by
  unfold Rd; dsimp only; rw [if_neg (by omega)]
theorem amount_cell (x : SemId) (b : Bool) : (Rd X W).amount (cell c x) 0 b = units x := by
  unfold Rd; dsimp only; rw [decode_semLoc]
theorem payload_cell (x : SemId) (b : Bool) : (Rd X W).payload (cell c x) 0 b = pay X W c b x := by
  unfold Rd; dsimp only; rw [decode_semLoc]

/-- A cell with the one duty. -/
theorem expect_one {x : SemId} (h : dutiesAt c x = {false}) : (Rd X W).expect (cell c x) 0 = units x := by
  unfold Schedule.expect Schedule.amountOf; rw [duties_cell, h, Finset.sum_singleton, amount_cell]
theorem rest_one {x : SemId} (h : dutiesAt c x = {false}) :
    bigSep ((Rd X W).duties (cell c x) 0 \ ∅) (fun d => (Rd X W).payload (cell c x) 0 d) = pay X W c false x := by
  rw [Finset.sdiff_empty, duties_cell, h, bigSep_singleton, payload_cell]
theorem expect_bar : (Rd X W).expect (cell c .bar) 0 = 2 := by
  unfold Schedule.expect Schedule.amountOf
  rw [duties_cell, Finset.sum_congr rfl fun b _ => amount_cell X W c .bar b]; rfl
theorem rest_bar :
    bigSep ((Rd X W).duties (cell c .bar) 0 \ ∅) (fun d => (Rd X W).payload (cell c .bar) 0 d)
      = iprop(slots (F := F) false (fwd false c) ∗ slots (F := F) true (fwd true c)) := by
  rw [Finset.sdiff_empty, duties_cell, show dutiesAt c .bar = Finset.univ from rfl,
    bigSep_univ_eq_bigSepL [false, true] (by decide) (by decide), bigSepL_cons_cons, bigSepL_singleton, payload_cell, payload_cell]
  rfl

end Sched

/-! ## What is owed, in order -/

/-- A device's payments to others: the two signals, the messages, the rows of maxima. -/
inductive Pay
  | bar (b : Bool)
  | msg (m : Msg)
  | am (k : Fin 8)
  deriving DecidableEq

def payEquiv : (Bool ⊕ Msg ⊕ Fin 8) ≃ Pay where
  toFun | .inl b => .bar b | .inr (.inl m) => .msg m | .inr (.inr k) => .am k
  invFun | .bar b => .inl b | .msg m => .inr (.inl m) | .am k => .inr (.inr k)
  left_inv x := by rcases x with _ | _ | _ <;> rfl
  right_inv x := by cases x <;> rfl
instance : Fintype Pay := Fintype.ofEquiv _ payEquiv

def ord : Pay → ℕ
  | .bar b => b.toNat
  | .msg (p, d, s, u) => (if p = 0 then 2 else 66) + (2 * (4 * s.val + u.val) + d.toNat)
  | .am k => 58 + k.val

theorem ord_lt (x : Pay) : ord x < 122 := by
  rcases x with b | ⟨p, d, s, u⟩ | k
  · have := b.toNat_le; show b.toNat < 122; omega
  · have := d.toNat_le; show (if p = 0 then 2 else 66) + (2 * (4 * s.val + u.val) + d.toNat) < 122; split <;> omega
  · show 58 + k.val < 122; omega

theorem toNat_inj' {a b : Bool} (h : a.toNat = b.toNat) : a = b := by cases a <;> cases b <;> simp_all

theorem ord_injective : Function.Injective ord := by
  have key : ∀ (p : Fin 2) (d : Bool) (s : Fin 7) (u : Fin 4),
      (2 ≤ ord (.msg (p, d, s, u)) ∧ ord (.msg (p, d, s, u)) < 58 ∧ p = 0) ∨ (66 ≤ ord (.msg (p, d, s, u)) ∧ p = 1) := by decide
  rintro (b | ⟨p, d, s, u⟩ | k) (b' | ⟨p', d', s', u'⟩ | k') h
  · exact congrArg _ (toNat_inj' h)
  · exfalso; have := key p' d' s' u'; rw [← h] at this; have h2 : ord (.bar b) ≤ 1 := b.toNat_le; omega
  · exfalso; have h2 : ord (.bar b) ≤ 1 := b.toNat_le; have h3 : 58 ≤ ord (.am k') := Nat.le_add_right _ _; omega
  · exfalso; have := key p d s u; rw [h] at this; have h2 : ord (.bar b') ≤ 1 := b'.toNat_le; omega
  · have hp : p = p' := by
      rcases key p d s u with ⟨_, h2, h3⟩ | ⟨h2, h3⟩ <;> rcases key p' d' s' u' with ⟨_, h5, h6⟩ | ⟨h5, h6⟩ <;>
        first | exact h3.trans h6.symm | (exfalso; omega)
    subst hp
    have h1 : 2 * (4 * s.val + u.val) + d.toNat = 2 * (4 * s'.val + u'.val) + d'.toNat := Nat.add_left_cancel h
    have := d.toNat_le; have := d'.toNat_le
    have hd : d = d' := toNat_inj' (by omega)
    have hs : s = s' := Fin.ext (by omega)
    have hu : u = u' := Fin.ext (by omega)
    subst hd hs hu; rfl
  · exfalso
    have := key p d s u
    have h2 : ord (.am k') = 58 + k'.val := rfl
    have := k'.isLt; omega
  · exfalso; have h2 : ord (.bar b') ≤ 1 := b'.toNat_le; have h3 : 58 ≤ ord (.am k) := Nat.le_add_right _ _; omega
  · exfalso
    have := key p' d' s' u'
    have h2 : ord (.am k) = 58 + k.val := rfl
    have := k.isLt; omega
  · have h1 : 58 + k.val = 58 + k'.val := h
    exact congrArg _ (Fin.ext (by omega))

/-- The cell a payment goes to. -/
def payCell (c : Dev nD) : Pay → GSem nD τ sig
  | .bar b => cell (bwd b c) .bar
  | .msg m => cell (fwd m.2.1 c) (.rcv m)
  | .am k => cell k (.amr c)
def payN : Pay → ℕ
  | .bar _ => 1
  | .msg m => NM m.1
  | .am _ => NA
def tally (c : Dev nD) (x : Pay) : CellTallies nD τ sig Unit := if x = .am c then 0 else tallyAt (payCell c x) () (payN x)

/-- What device `c` owes once it has made its first `n` payments. -/
def owed (c : Dev nD) (n : ℕ) : CellTallies nD τ sig Unit := ∑ x : Pay, if n ≤ ord x then tally c x else 0

theorem owed_step (c : Dev nD) (x : Pay) : owed c (ord x) = owed c (ord x + 1) + tally c x := by
  classical
  unfold owed
  rw [← Finset.sum_erase_add _ _ (Finset.mem_univ x), ← Finset.sum_erase_add (a := x) _ (fun y => if ord x + 1 ≤ ord y then tally c y else 0) (Finset.mem_univ x),
    if_pos le_rfl, if_neg (by omega), add_zero]
  congr 1
  refine Finset.sum_congr rfl fun y hy => ?_
  have : ord y ≠ ord x := fun h => (Finset.mem_erase.mp hy).1 (ord_injective h)
  by_cases h : ord x ≤ ord y
  · rw [if_pos h, if_pos (by omega)]
  · rw [if_neg h, if_neg (by omega)]

theorem owed_end (c : Dev nD) : owed c 122 = 0 := by
  unfold owed
  exact Finset.sum_eq_zero fun x _ => if_neg (by have := ord_lt x; omega)

/-! ## Levels -/

def L (g : GSem nD τ sig) : Finset Unit := if g.1.2 = .tc then {()} else ∅
def level : SemId → ℕ
  | .bar => 1
  | .snd _ => 0
  | .rcv (p, d, s, u) => (if p = 0 then 2 else 50) + (4 * s.val + u.val)
  | .ams _ => 0
  | .amr _ => 40
def lv (g : GSem nD τ sig) (_ : Unit) : ℕ := match decode g.2 with | some x => level x | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : SemId) : lv (cell c x) () = level x := by unfold lv; rw [decode_semLoc]

/-- The semaphore a payment goes to. -/
def paySem (c : Dev nD) : Pay → SemId
  | .bar _ => .bar
  | .msg m => .rcv m
  | .am _ => .amr c

theorem owed_pos {c : Dev nD} {n : ℕ} {g : GSem nD τ sig} {u : Unit} (h : 0 < owed c n g u) :
    ∃ x, n ≤ ord x ∧ g = payCell c x := by
  by_contra hn
  push Not at hn
  have : owed c n g u = 0 := by
    unfold owed
    rw [Finset.sum_apply, Finsupp.finset_sum_apply]
    refine Finset.sum_eq_zero fun x _ => ?_
    split
    · next hx =>
      unfold tally
      split
      · rfl
      · rw [tallyAt_apply, if_neg fun h' => hn x hx h'.1]
    · rfl
  omega

theorem payCell_lv (c : Dev nD) (x : Pay) : lv (payCell c x) () = level (paySem c x) := by
  rcases x with b | m | k
  · exact lv_cell _ _
  · exact lv_cell _ _
  · exact lv_cell _ _
theorem payCell_tc (c : Dev nD) (x : Pay) : L (payCell c x) = {()} := by
  cases x <;> exact L_tc _ _

/-- A wait on a cell below everything still owed. -/
theorem mayWait (c : Dev nD) (sm : SemLoc sig) (n b : ℕ) (hb : lv ((c : Thread nD τ), sm) () ≤ b)
    (h : ∀ x, n ≤ ord x → b < level (paySem c x)) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by obtain ⟨x, _, rfl⟩ := owed_pos hg; rw [payCell_tc]; exact Finset.mem_singleton_self _)
    (fun p hp => by rw [Finset.mem_singleton.mp hp]; exact hb)
    (fun g u hg => by obtain ⟨x, hx, rfl⟩ := owed_pos hg; rw [payCell_lv]; exact h x hx)

theorem level_pos (c : Dev nD) (x : Pay) : 0 < level (paySem c x) := by
  rcases x with b | ⟨p, d, s, u⟩ | k
  · exact Nat.one_pos
  · show 0 < (if p = 0 then 2 else 50) + (4 * s.val + u.val); split <;> omega
  · exact (by decide : 0 < 40)

/-- A wait on a semaphore nobody is owed on. -/
theorem mayWait0 (c : Dev nD) (sm : SemLoc sig) (n : ℕ) (hb : lv ((c : Thread nD τ), sm) () = 0) :
    (levAts L lv : sProp 𝕄) ⊢ MayWait (c : Thread nD τ) sm () (owed c n) :=
  mayWait c sm n 0 hb.le fun x _ => level_pos c x

/-- At payment `n`, every level owed is above `b`. -/
theorem level_gt (c : Dev nD) (n b : ℕ) (h1 : 2 ≤ n) (h2 : n < 58 → b < 2 + (n - 2) / 2) (h3 : n < 66 → b < 40)
    (h4 : n < 122 → b < 50 + (n - 66) / 2) : ∀ x, n ≤ ord x → b < level (paySem c x) := by
  rintro (b' | ⟨p, d, s, u⟩ | k) hx
  · have : ord (.bar b') ≤ 1 := b'.toNat_le; omega
  · have hd := d.toNat_le
    have hx' : n ≤ (if p = 0 then 2 else 66) + (2 * (4 * s.val + u.val) + d.toNat) := hx
    show b < (if p = 0 then 2 else 50) + (4 * s.val + u.val)
    by_cases hp : p = 0
    · rw [if_pos hp] at hx' ⊢
      have := h2 (by omega); omega
    · rw [if_neg hp] at hx' ⊢
      have := h4 (by omega); omega
  · have hx' : n ≤ 58 + k.val := hx
    exact h3 (by omega)

end Cert.KernelIdeal.Hand
-- ==== Proof.Step.lean ====
/- One send, one wait: the rules the body is proved with. -/
module

public import proofs.«01_k».proof.Proof.Sched

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def semIdEquiv : (Unit ⊕ Msg ⊕ Msg ⊕ Fin 8 ⊕ Fin 8) ≃ SemId where
  toFun | .inl _ => .bar | .inr (.inl m) => .snd m | .inr (.inr (.inl m)) => .rcv m | .inr (.inr (.inr (.inl k))) => .ams k | .inr (.inr (.inr (.inr k))) => .amr k
  invFun | .bar => .inl () | .snd m => .inr (.inl m) | .rcv m => .inr (.inr (.inl m)) | .ams k => .inr (.inr (.inr (.inl k))) | .amr k => .inr (.inr (.inr (.inr k)))
  left_inv x := by rcases x with _ | _ | _ | _ | _ <;> rfl
  right_inv x := by cases x <;> rfl
instance : Fintype SemId := Fintype.ofEquiv _ semIdEquiv

/-! ## Running pieces one after the other -/

section Seq
variable (c : Dev nD) {α β : Type}

theorem seqW {A : sProp 𝕄} {p : P (F := F) α} {R : α → sProp 𝕄} {k : α → P (F := F) β} {Q : β → sProp 𝕄} (h : A ⊢ WP c p R) :
    A ⊢ iprop((∀ v, R v -∗ WP c (k v) Q) -∗ WP c (p >>= k) Q) := by
  unfold WP at *
  rw [wp_bind]
  exact h.trans (wp_wand frame (wpE (defs₀ (F := F)) 𝒱₀ (c : Thread nD τ) none) Set.univ)

theorem lastW {A : sProp 𝕄} {p : P (F := F) α} {R Q : α → sProp 𝕄} (h : A ⊢ WP c p R) :
    A ⊢ iprop((∀ v, R v -∗ Q v) -∗ WP c p Q) :=
  h.trans (wp_wand frame (wpE (defs₀ (F := F)) 𝒱₀ (c : Thread nD τ) none) Set.univ)

theorem WP_ret {a : α} {Q : α → sProp 𝕄} : WP c (Prog.ret a : P (F := F) α) Q = iprop(|={Set.univ}=> Q a) := wp_ret _ _ _ _ _

theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]; rfl

theorem bigSep_fin_last {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]; rfl

/-- A loop: each round takes its share of the resources, and what is passed on. -/
theorem loopW : ∀ (n : ℕ) (f : Fin n → P (F := F) PUnit) (A B : Fin n → sProp 𝕄) (I : Fin (n + 1) → sProp 𝕄)
    (h : ∀ i, iprop(A i ∗ I (Fin.castSucc i)) ⊢ WP c (f i) fun _ => iprop(B i ∗ I i.succ)),
    iprop(bigSep Finset.univ A ∗ I 0) ⊢ WP c (seqN n f) fun _ => iprop(bigSep Finset.univ B ∗ I (Fin.last n))
  | 0, f, A, B, I, h => by
    unfold seqN WP
    rw [Prog.pure_eq_ret, wp_ret, Finset.univ_eq_empty, bigSep_empty, bigSep_empty, show Fin.last 0 = 0 from rfl]
    iintro ⟨-, HI⟩
    imodintro
    isplitr; · iempintro
    iexact HI
  | n + 1, f, A, B, I, h => by
    rw [bigSep_fin_succ A, bigSep_fin_succ B]
    unfold seqN
    iintro ⟨⟨HA, HAs⟩, HI⟩
    iapply (seqW c (show iprop(A 0 ∗ I 0) ⊢ _ from h 0)) $$ [HA HI]
    · isplitl [HA]; · iexact HA
      iexact HI
    iintro %v ⟨HB, HI⟩
    iapply (lastW c (show iprop((bigSep Finset.univ fun i : Fin n => A i.succ) ∗ I (Fin.succ 0)) ⊢ WP c (seqN n fun i => f i.succ)
        (fun _ => iprop((bigSep Finset.univ fun i : Fin n => B i.succ) ∗ I (Fin.last (n + 1)))) from
      loopW n (fun i => f i.succ) (fun i => A i.succ) (fun i => B i.succ) (fun i => I i.succ) (fun i => h i.succ))) $$ [HAs HI]
    · isplitl [HAs]; · iexact HAs
      iexact HI
    iintro %v2 ⟨HBs, HI⟩
    isplitr [HI]
    · isplitl [HB]; · iexact HB
      iexact HBs
    iexact HI

end Seq

def both (Φ : Bool → sProp 𝕄) : sProp 𝕄 := iprop(Φ false ∗ Φ true)
theorem both_eq (Φ : Bool → sProp 𝕄) : both Φ = iprop(Φ false ∗ Φ true) := rfl
theorem both_univ (Φ : Bool → sProp 𝕄) : both Φ = bigSep Finset.univ Φ := by
  rw [bigSep_univ_eq_bigSepL [false, true] (by decide) (by decide), bigSepL_cons_cons, bigSepL_singleton]; rfl

section Rules
variable (X : Dev nD → S4096x512.Idx → Elt F .bf16) (W : Dev nD → S512x2048.Idx → Elt F .bf16) (K : Dev nD × SemId → ℕ)

/-- Every cell's invariant, that its round is open, and the levels. -/
def ctx : sProp 𝕄 :=
  iprop((bigSep Finset.univ fun x : Dev nD × SemId => cellInv ER (Rd X W) (K x) (cell x.1 x.2))
    ∗ (bigSep Finset.univ fun x : Dev nD × SemId => reached ER (cell x.1 x.2) 0) ∗ levAts L lv)
instance ctx_persistent : BI.Persistent (ctx X W K) := by unfold ctx; infer_instance

theorem ctx_inv (c : Dev nD) (x : SemId) : ctx X W K ⊢ cellInv ER (Rd X W) (K (c, x)) (cell c x) := by
  unfold ctx
  iintro ⟨H, -, -⟩
  have h : (bigSep Finset.univ fun x : Dev nD × SemId => (cellInv ER (Rd X W) (K x) (cell x.1 x.2) : sProp 𝕄)) ⊢ cellInv ER (Rd X W) (K (c, x)) (cell c x) :=
    bigSep_elim (Finset.mem_univ (c, x))
  iapply h
  iexact H
theorem ctx_reached (c : Dev nD) (x : SemId) : ctx X W K ⊢ reached ER (cell c x) 0 := by
  unfold ctx
  iintro ⟨-, H, -⟩
  have h : (bigSep Finset.univ fun x : Dev nD × SemId => (reached ER (cell x.1 x.2) 0 : sProp 𝕄)) ⊢ reached ER (cell c x) 0 :=
    bigSep_elim (Finset.mem_univ (c, x))
  iapply h
  iexact H
theorem ctx_lev : ctx X W K ⊢ levAts L lv := by
  unfold ctx; iintro ⟨-, -, H⟩; iexact H

/-- Device `c` has made its first `n` payments. -/
def owesE (c : Dev nD) (n : ℕ) : sProp 𝕄 := iprop(∃ Ws, owes (c : Thread nD τ) (owed c n) Ws)
def pos (c : Dev nD) (x : SemId) : sProp 𝕄 := atPos ER (cell c x) 0 ∅ 0
def tok (c : Dev nD) (x : SemId) (b : Bool) : sProp 𝕄 := dutyTok ER (cell c x) 0 b
def tick (c : Dev nD) (x : SemId) : sProp 𝕄 := cred (tallyAt (cell c x) () (units x))
def zero (c : Dev nD) (x : SemId) : sProp 𝕄 := semVal (cell c x) 0

/-- What a sender needs for a message; what it waits with; what the receiver waits with. -/
def kitS (c : Dev nD) (m : Msg) : sProp 𝕄 := iprop(tok c (.snd m) false ∗ tok (fwd m.2.1 c) (.rcv m) false ∗ pos (F := F) c (.snd m))
def pendS (c : Dev nD) (m : Msg) : sProp 𝕄 := iprop(tick c (.snd m) ∗ pos (F := F) c (.snd m))
def kitR (c : Dev nD) (m : Msg) : sProp 𝕄 := iprop(tick c (.rcv m) ∗ pos (F := F) c (.rcv m))

variable (c : Dev nD)

/-- A wait for all of a cell with one duty; the cell then closes. -/
theorem wait_one {x : SemId} (h : dutiesAt c x = {false}) {sem : DmaSem sig} (hx : semLoc x = .dma sem) (n : ℕ)
    (hlv : (levAts L lv : sProp 𝕄) ⊢ MayWait (c : Thread nD τ) (semLoc x) () (owed c n))
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = units x) :
    iprop(ctx X W K ∗ tick c x ∗ pos c x ∗ owesE c n)
      ⊢ WP c (Prog.lift (.waitDma2 sem srcw dstw hsrc hdst)) fun _ => iprop(pay X W c false x ∗ zero c x ∗ owesE c n) := by
  iintro ⟨#Hc, Ht, Hp, Ho⟩
  unfold owesE tick pos zero
  icases Ho with ⟨%Ws, Ho⟩
  ihave #HI := (ctx_inv X W K c x) $$ Hc
  ihave #HL := (ctx_lev X W K) $$ Hc
  ihave HM := hlv $$ HL
  have hwait := Rounds.wp_wait_rest_token (defs := defs₀ (F := F)) 𝒱₀ ER (Rd X W) (c : Thread nD τ) none (κ := K (c, x)) (Es := Set.univ)
      (Q := fun _ => iprop(pay X W c false x ∗ semVal (cell c x) 0 ∗ ∃ Ws, owes (c : Thread nD τ) (owed c n) Ws))
      (k := Prog.ret)
      (w := .waitDma2 sem srcw dstw hsrc hdst) (wpE_waitDma2_eq 𝒱₀ (c : Thread nD τ) none Set.univ) (Set.mem_univ _) () (O := owed c n) (W := Ws) (R := 0) (m := 0) (T := ∅)
      (by rw [Nat.zero_add, hN, ← hx]; exact (expect_one X W c h).symm)
  rw [← hx, hN] at hwait
  iapply hwait $$ [Ht Hp Ho HM]
  · isplitr; · iexact HI
    isplitl [Ht]; · iexact Ht
    isplitl [Ho]; · iexact Ho
    isplitl [HM]; · iexact HM
    iexact Hp
  iintro ⟨Ho, Hp, -, Hpay⟩
  ihave Hpay := (Entails.of_eq (rest_one X W c h)) $$ Hpay
  imod (Rounds.cell_close ER (Rd X W) (Set.mem_univ (K (c, x))) (fun h => h) (R := 0 + 1) (duties_later X W (cell c x))) $$ [Hp] with Hz
  · isplitr; · iexact HI
    iexact Hp
  rw [wp_ret]
  imodintro
  isplitl [Hpay]; · iexact Hpay
  isplitl [Hz]; · iexact Hz
  iexists _
  iexact Ho

/-- A cell without duties closes. -/
theorem close_none {x : SemId} (h : dutiesAt c x = ∅) : iprop(ctx X W K ∗ pos c x) ⊢ iprop(|={Set.univ}=> zero c x) := by
  unfold pos zero
  iintro ⟨#Hc, Hp⟩
  ihave #HI := (ctx_inv X W K c x) $$ Hc
  iapply (Rounds.cell_close ER (Rd X W) (Set.mem_univ (K (c, x))) (fun h => h) (R := 0) (fun r _ => by
    rcases Nat.eq_zero_or_pos r with rfl | hr
    · rw [duties_cell, h]
    · exact duties_later X W _ r hr))
  isplitr; · iexact HI
  iexact Hp

theorem tally_msg (m : Msg) : tally c (.msg m) = tallyAt (cell (fwd m.2.1 c) (.rcv m)) () (NM m.1) := if_neg (by simp)
theorem tally_am {k : Fin 8} (hk : k ≠ c) : tally c (.am k) = tallyAt (cell k (.amr c)) () NA := if_neg fun h => hk (Pay.am.inj h)

/-- One transfer onto another device's cell. -/
theorem send_one {xs xr : SemId} {cr : Dev nD} (hs : dutiesAt c xs = {false}) (hr : dutiesAt cr xr = {false}) {semS semR : DmaSem sig}
    (hxs : semLoc xs = .dma semS) (hxr : semLoc xr = .dma semR) (y : Pay)
    {sp sp' : Space} {s : Shape} {e : EltTy}
    {src : Memref sig .tc sp s e} {dst : Memref sig .tc sp' s e} {hsc : dst.view.ref.isScScratch = false}
    {hsrc : src.view.WordExact} {hdst : dst.view.WordExact}
    {hsem : DmaTarget.Typed sp (SemLoc.dma semR) (.remote (Dev.tc cr : Thread nD τ) dst (.dma semS) hsc)}
    (hN : dst.view.dmaCredit = units xr) (hNs : units xs = units xr)
    (hy : tally c y = tallyAt (cell cr xr) () (units xr))
    {q : PosShare TreeShare} {V : s.Idx → Elt F e} {R : sProp 𝕄}
    (hp1 : own c src q V ⊢ pay X W c false xs) (hp2 : iprop(own cr dst fullShare V ∗ R) ⊢ pay X W cr false xr) :
    iprop(ctx X W K ∗ (tok c xs false ∗ tok cr xr false ∗ pos c xs) ∗ own c src q V ∗ any (F := F) cr dst ∗ R ∗ owesE c (ord y))
      ⊢ WP c (Prog.lift (.enqueueDma src (.remote (Dev.tc cr : Thread nD τ) dst (.dma semS) hsc) (.dma semR) hsrc hdst hsem))
          fun _ => iprop((tick c xs ∗ pos c xs) ∗ owesE c (ord y + 1)) := by
  iintro ⟨#Hc, ⟨Ht1, Ht2, Hp⟩, Hs, Hd, HR, Ho⟩
  unfold owesE tick pos tok any own owns
  icases Ho with ⟨%Ws, Ho⟩
  icases Hs with ⟨%fs, %hfs, Hs⟩
  icases Hd with ⟨%Xd, %fd, -, Hd⟩
  ihave #HI1 := (ctx_inv X W K c xs) $$ Hc
  ihave #HI2 := (ctx_inv X W K cr xr) $$ Hc
  ihave #HR1 := (ctx_reached X W K c xs) $$ Hc
  ihave #HR2 := (ctx_reached X W K cr xr) $$ Hc
  have hsend := Rounds.wp_send_pointsTo_with (defs := defs₀ (F := F)) 𝒱₀ ER (Rd X W) (c : Thread nD τ) none (Γ := .empty) (c' := (cr : Thread nD τ)) (Es := Set.univ)
      (src := src) (dst := dst) (hsc := hsc) (sS := .dma semS) (sem := .dma semR) (hsrc := hsrc) (hdst := hdst) (hsem := hsem)
      (Q := fun _ => iprop((cred (tallyAt (cell c xs) () (units xs)) ∗ atPos ER (cell c xs) 0 ∅ 0) ∗ ∃ Ws, owes (c : Thread nD τ) (owed c (ord y + 1)) Ws))
      (k := Prog.ret) (q := q) (fs := fs) (fd := fd) (F := R)
      (κ₁ := K (c, xs)) (κ₂ := K (cr, xr)) (r₁ := 0) (r₂ := 0) (d₁ := false) (d₂ := false)
      (by rw [← hxs]; exact (duties_cell X W c xs).symm ▸ hs.symm ▸ Finset.mem_singleton_self _)
      (by rw [← hxr]; exact (duties_cell X W cr xr).symm ▸ hr.symm ▸ Finset.mem_singleton_self _)
      () () (units xr) hN (by rw [← hxs, ← hNs]; exact amount_cell X W c xs false) (by rw [← hxr]; exact amount_cell X W cr xr false)
      (owed c (ord y + 1)) (O₀ := owed c (ord y)) (by rw [← hxr, owed_step, hy]) (W := Ws)
      (by
        rw [← hxs]; refine BIBase.Entails.trans ?_ ((hp1).trans (Entails.of_eq (payload_cell X W c xs false).symm))
        unfold own owns; iintro H; iexists fs; isplitr; · ipureintro; exact hfs
        iexact H)
      (by
        rw [← hxr]; refine BIBase.Entails.trans (sep_mono_left ?_) ((hp2).trans (Entails.of_eq (payload_cell X W cr xr false).symm))
        rw [show src.view.read (Elt F) fs = V from hfs]
        exact own_landed cr dst fd V)
  have e1 : cell c xs = ((c : Thread nD τ), .dma semS) := by rw [cell, hxs]
  have e2 : cell cr xr = ((cr : Thread nD τ), .dma semR) := by rw [cell, hxr]
  rw [e1] at hsend ⊢
  rw [e2]
  iapply hsend $$ [Hs Hd HR Ho Ht1 Ht2]
  · isplitr; · iexact HI1
    isplitr; · iexact HI2
    isplitl [Hs]; · iexact Hs
    isplitl [Hd HR]
    · isplitl [Hd]; · iexact Hd
      iexact HR
    isplitl [Ho]; · iexact Ho
    isplitl [Ht1]; · iexact Ht1
    isplitr; · iexact HR1
    isplitl [Ht2]; · iexact Ht2
    iexact HR2
  iintro ⟨Hcr, Ho⟩
  rw [wp_ret, hNs]
  imodintro
  isplitr [Ho]
  · isplitl [Hcr]; · iexact Hcr
    iexact Hp
  iexists _
  iexact Ho

end Rules

end Cert.KernelIdeal.Hand
-- ==== Proof.Reduce.lean ====
/- The reduction around the ring. -/
module

public import proofs.«01_k».proof.Proof.Step

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x512.Idx → Elt F .bf16) (W : Dev nD → S512x2048.Idx → Elt F .bf16) (K : Dev nD × SemId → ℕ) (c : Dev nD)

/-- The inputs, staged. -/
def ins : sProp 𝕄 := iprop(own c xM fullShare (X c) ∗ own c wM fullShare (W c))

theorem pay_snd0 (b d : Bool) (s : Fin 7) (u : Fin 4) : pay X W c b (.snd (0, d, s, u)) = any c (sSl d u) := by
  simp [pay]
theorem pay_snd1 (b d : Bool) (s : Fin 7) (u : Fin 4) :
    pay X W c b (.snd (1, d, s, u)) = own c (gSl d (agChunk d c s.val) u) fullShare.left (GS X W d (agChunk d c s.val) u) := by
  simp [pay]
theorem pay_rcv0 (b d : Bool) (s : Fin 7) (u : Fin 4) :
    pay X W c b (.rcv (0, d, s, u)) = iprop(own c (rSl d s u) fullShare (SA X W d s.val (bwd d c) u) ∗ riders c d s.val u) := by
  simp [pay]
theorem pay_rcv1 (b d : Bool) (s : Fin 7) (u : Fin 4) :
    pay X W c b (.rcv (1, d, s, u)) = own c (gSl d (agChunk d c (s.val + 1)) u) fullShare (GS X W d (agChunk d c (s.val + 1)) u) := by
  simp [pay]

/-! ## Messages -/

theorem rsSend_spec (d : Bool) (s : Fin 7) (u : Fin 4) :
    iprop(ctx X W K ∗ kitS c (0, d, s, u) ∗ own c (sSl d u) fullShare (SA X W d s.val c u) ∗ any (F := F) (fwd d c) (rSl d s u)
        ∗ riders (fwd d c) d s.val u ∗ owesE c (ord (.msg (0, d, s, u))))
      ⊢ WP c (rsSend d c s u) fun _ => iprop(pendS c (0, d, s, u) ∗ owesE c (ord (.msg (0, d, s, u)) + 1)) :=
  send_one X W K c (xs := .snd (0, d, s, u)) (xr := .rcv (0, d, s, u)) (cr := fwd d c) rfl rfl rfl rfl (.msg (0, d, s, u)) (credit_rSl d s u) rfl
    (tally_msg c (0, d, s, u)) (by rw [pay_snd0]; exact any_intro _ _ _) (by rw [pay_rcv0, bwd_fwd])

theorem rsWaitR_spec (d : Bool) (s : Fin 7) (u : Fin 4) (n : ℕ) (hn : 2 + 2 * (4 * (s.val + 1) + u.val) ≤ n ∨ 58 ≤ n) :
    iprop(ctx X W K ∗ kitR c (0, d, s, u) ∗ owesE c n)
      ⊢ WP c (rsWaitR d s u) fun _ => iprop((own c (rSl d s u) fullShare (SA X W d s.val (bwd d c) u) ∗ riders c d s.val u)
          ∗ zero c (.rcv (0, d, s, u)) ∗ owesE c n) := by
  have h := wait_one X W K c (x := .rcv (0, d, s, u)) rfl (sem := dsem (sR 0 d s u)) rfl n
    (mayWait c _ n (2 + (4 * s.val + u.val)) (lv_cell c (.rcv (0, d, s, u))).le
      (level_gt c n _ (by omega) (fun _ => by have := s.isLt; omega) (fun _ => by have := s.isLt; have := u.isLt; omega) (fun _ => by have := s.isLt; have := u.isLt; omega)))
    (srcw := sSl d u) (dstw := rSl d s u) (hsrc := sSl_words d u) (hdst := rSl_words d s u) (credit_rSl d s u)
  rw [pay_rcv0] at h
  unfold rsWaitR kitR
  refine BIBase.Entails.trans ?_ h
  iintro ⟨Hc, ⟨Ht, Hp⟩, Ho⟩
  isplitl [Hc]; · iexact Hc
  isplitl [Ht]; · iexact Ht
  isplitl [Hp] <;> iassumption

theorem rsWaitS_spec (d : Bool) (s : Fin 7) (u : Fin 4) (n : ℕ) :
    iprop(ctx X W K ∗ pendS c (0, d, s, u) ∗ owesE c n)
      ⊢ WP c (rsWaitS d s u) fun _ => iprop(any (F := F) c (sSl d u) ∗ zero c (.snd (0, d, s, u)) ∗ owesE c n) := by
  have h := wait_one X W K c (x := .snd (0, d, s, u)) rfl (sem := dsem (sS 0 d s u)) rfl n (mayWait0 c _ n (lv_cell c (.snd (0, d, s, u))))
    (srcw := rSl d s u) (dstw := sSl d u) (hsrc := rSl_words d s u) (hdst := sSl_words d u) (credit_sSl d u)
  rw [pay_snd0] at h
  unfold rsWaitS pendS
  refine BIBase.Entails.trans ?_ h
  iintro ⟨Hc, ⟨Ht, Hp⟩, Ho⟩
  isplitl [Hc]; · iexact Hc
  isplitl [Ht]; · iexact Ht
  isplitl [Hp] <;> iassumption

/-! ## One part of one step -/

theorem rsPart_spec (d : Bool) (s : Fin 7) (u : Fin 4) :
    ins X W c ⊢ WP c (rsPart d c s u) fun v => iprop(⌜v = paD X W d c s.val u⌝ ∗ ins X W c) := by
  unfold ins rsPart
  simp only [Prog.lift, Prog.bind_op, Prog.bind_ret, Prog.pure_eq_ret]
  iintro ⟨Hx, Hw⟩
  iapply (ld c) $$ Hx; iintro Hx
  iapply (ld c) $$ Hw; iintro Hw
  rw [WP_ret]; imodintro
  isplitr; · ipureintro; rfl
  isplitl [Hx] <;> iassumption

theorem rsLoadR_spec (d : Bool) (s : Fin 7) (u : Fin 4) (V : S128x1024.Idx → Elt F .bf16) :
    own c (rSl d s u) fullShare V ⊢ WP c (rsLoadR d s u) fun r => iprop(⌜r = unsqR V⌝ ∗ own c (rSl d s u) fullShare V) := by
  unfold rsLoadR
  rw [own_squeeze]
  simp only [Prog.lift]
  iintro H
  iapply (ldS c) $$ H; iintro H
  rw [WP_ret]; imodintro
  isplitr; · ipureintro; rfl
  iexact H

theorem rsHead_spec (s : Fin 7) (u : Fin 4) (n : ℕ) (hn : 2 + 2 * (4 * (s.val + 1) + u.val) ≤ n ∨ 58 ≤ n) :
    iprop(ctx X W K ∗ ins X W c ∗ both (fun d => kitR (F := F) c (0, d, s, u)) ∗ owesE c n)
      ⊢ WP c (rsHead c s u) fun v => iprop(⌜v = (SM X W false s.val c u, SM X W true s.val c u)⌝ ∗ ins X W c
          ∗ both (fun d => any (F := F) c (rSl d s u)) ∗ both (fun d => zero (F := F) c (.rcv (0, d, s, u))) ∗ riders c false s.val u ∗ owesE c n) := by
  unfold rsHead
  rw [both_eq]
  iintro ⟨#Hc, Hi, ⟨Hk1, Hk2⟩, Ho⟩
  iapply (seqW c (rsPart_spec X W c false s u)) $$ Hi
  iintro %v ⟨%hv, Hi⟩; subst hv
  iapply (seqW c (rsPart_spec X W c true s u)) $$ Hi
  iintro %v ⟨%hv, Hi⟩; subst hv
  iapply (seqW c (rsWaitR_spec X W K c false s u n hn)) $$ [Hk1 Ho]
  · isplitr; · iexact Hc
    isplitl [Hk1] <;> iassumption
  iintro %_ ⟨⟨Hr1, Hrd⟩, Hz1, Ho⟩
  iapply (seqW c (rsWaitR_spec X W K c true s u n hn)) $$ [Hk2 Ho]
  · isplitr; · iexact Hc
    isplitl [Hk2] <;> iassumption
  iintro %_ ⟨⟨Hr2, -⟩, Hz2, Ho⟩
  iapply (seqW c (rsLoadR_spec c false s u _)) $$ Hr1
  iintro %v ⟨%hv, Hr1⟩; subst hv
  iapply (seqW c (rsLoadR_spec c true s u _)) $$ Hr2
  iintro %v ⟨%hv, Hr2⟩; subst hv
  rw [Prog.pure_eq_ret]; rw [WP_ret]; imodintro
  isplitr; · ipureintro; rfl
  isplitl [Hi]; · iexact Hi
  isplitl [Hr1 Hr2]
  · rw [both_eq]
    isplitl [Hr1]
    · iapply (any_intro c (rSl false s u) _) $$ Hr1
    · iapply (any_intro c (rSl true s u) _) $$ Hr2
  isplitl [Hz1 Hz2]
  · rw [both_eq]; isplitl [Hz1] <;> iassumption
  isplitl [Hrd] <;> iassumption

theorem rsStoreS_spec (d : Bool) (u : Fin 4) (v : FVec F S128x1024 .bf16) :
    any (F := F) c (sSl d u) ⊢ WP c (rsStoreS d u v) fun _ => own c (sSl d u) fullShare v := by
  unfold rsStoreS any
  simp only [Prog.lift, Prog.bind_op, Prog.bind_ret]
  iintro ⟨%Y, H⟩
  iapply (ldS c) $$ H; iintro H
  iapply (stS c) $$ H; iintro H
  rw [WP_ret]; imodintro; iexact H

theorem rsStoreA_spec (d : Bool) (u : Fin 4) (v : FVec F S128x1024 .f32) :
    any (F := F) c ((accM d).slice (rcS u) (fun _ => rfl)) ⊢ WP c (rsStoreA d u v) fun _ => own c ((accM d).slice (rcS u) (fun _ => rfl)) fullShare v := by
  unfold rsStoreA any
  simp only [Prog.lift, Prog.bind_op, Prog.bind_ret]
  iintro ⟨%Y, H⟩
  iapply (ldS c) $$ H; iintro H
  iapply (stS c) $$ H; iintro H
  rw [WP_ret]; imodintro; iexact H

/-- The row that stays: device `c`'s own, on the device where the messages of this step began. -/
def keep (s : ℕ) (u : Fin 4) : sProp 𝕄 := if u = 0 then any (F := F) (rot false (7 - s) c) (aSl c) else iprop(emp)

theorem bundle_split (s : Fin 7) :
    bundle (F := F) (rot false (7 - s.val) c) s.val ⊢ iprop(any (F := F) (rot false (7 - s.val) c) (aSl c)
      ∗ bundle (F := F) (rot false (7 - (s.val + 1)) (fwd false c)) (s.val + 1)) := by
  unfold bundle
  rw [rot_on]
  have hs : (Finset.univ.filter fun t : Fin 7 => s.val ≤ t.val) = insert s (Finset.univ.filter fun t : Fin 7 => s.val + 1 ≤ t.val) := by
    ext t
    simp only [Finset.mem_filter, Finset.mem_univ, true_and, Finset.mem_insert, Fin.ext_iff]
    omega
  rw [hs, bigSep_insert (by simp), rot_keep]
  exact BIBase.Entails.rfl

theorem riders_split (s : Fin 7) (u : Fin 4) :
    riders (F := F) c false s.val u ⊢ iprop(keep (F := F) c s.val u ∗ riders (F := F) (fwd false c) false (s.val + 1) u) := by
  unfold riders keep
  by_cases hu : u = 0
  · simp only [hu, and_self, if_true]
    exact bundle_split (F := F) c s
  · simp only [hu, and_false, if_false]
    exact Laws.sep_emp.2

theorem riders_true (s : ℕ) (u : Fin 4) : (emp : sProp 𝕄) ⊢ riders (F := F) c true s u := by
  unfold riders; rw [if_neg (fun h => absurd h.1 (by decide))]

/-- What one part of a middle step takes, and gives. -/
def midA (s : Fin 6) (u : Fin 4) : sProp 𝕄 :=
  iprop(both (fun d => kitR (F := F) c (0, d, s.castSucc, u)) ∗ both (fun d => pendS (F := F) c (0, d, s.castSucc, u))
    ∗ both (fun d => kitS (F := F) c (0, d, s.succ, u)) ∗ both (fun d => any (F := F) (fwd d c) (rSl d s.succ u)))
def midB (s : Fin 6) (u : Fin 4) : sProp 𝕄 :=
  iprop(both (fun d => any (F := F) c (rSl d s.castSucc u)) ∗ both (fun d => zero (F := F) c (.rcv (0, d, s.castSucc, u)))
    ∗ both (fun d => zero (F := F) c (.snd (0, d, s.castSucc, u))) ∗ keep (F := F) c s.val u ∗ both (fun d => pendS (F := F) c (0, d, s.succ, u)))

theorem ord_rs (d : Bool) (s : Fin 7) (u : Fin 4) : ord (.msg (0, d, s, u)) = 2 + (2 * (4 * s.val + u.val) + d.toNat) := rfl

theorem rsMid_spec (s : Fin 6) (u : Fin 4) :
    iprop(midA c s u ∗ ctx X W K ∗ ins X W c ∗ owesE c (2 + 2 * (4 * (s.val + 1) + u.val)))
      ⊢ WP c (rsMid c s u) fun _ => iprop(midB c s u ∗ ctx X W K ∗ ins X W c ∗ owesE c (2 + 2 * (4 * (s.val + 1) + u.val) + 2)) := by
  unfold midA midB rsMid
  iintro ⟨⟨Hr, Hp, Hk, Hs⟩, #Hc, Hi, Ho⟩
  have hh := rsHead_spec X W K c s.castSucc u _ (Or.inl le_rfl)
  have hd := riders_split (F := F) c s.castSucc u
  simp only [Fin.val_castSucc] at hh hd
  iapply (seqW c hh) $$ [Hi Hr Ho]
  · isplitr; · iexact Hc
    isplitl [Hi]; · iexact Hi
    isplitl [Hr]; · iexact Hr
    iexact Ho
  iintro %v ⟨%hv, Hi, Hrs, Hzr, Hrd, Ho⟩; subst hv
  simp only [both_eq]
  icases Hp with ⟨Hp1, Hp2⟩
  icases Hk with ⟨Hk1, Hk2⟩
  icases Hs with ⟨Hs1, Hs2⟩
  iapply (seqW c (rsWaitS_spec X W K c false s.castSucc u _)) $$ [Hp1 Ho]
  · isplitr; · iexact Hc
    isplitl [Hp1] <;> iassumption
  iintro %_ ⟨Ha1, Hz1, Ho⟩
  iapply (seqW c (rsWaitS_spec X W K c true s.castSucc u _)) $$ [Hp2 Ho]
  · isplitr; · iexact Hc
    isplitl [Hp2] <;> iassumption
  iintro %_ ⟨Ha2, Hz2, Ho⟩
  ihave Hrd := hd $$ Hrd
  icases Hrd with ⟨Hkeep, Hrd⟩
  iapply (seqW c (rsStoreS_spec c false u _)) $$ Ha1
  iintro %_ Ha1
  iapply (seqW c (show iprop(ctx X W K ∗ kitS c (0, false, s.succ, u) ∗ own c (sSl false u) fullShare (SA X W false (s.val + 1) c u) ∗ any (F := F) (fwd false c) (rSl false s.succ u)
        ∗ riders (fwd false c) false (s.val + 1) u ∗ owesE c (2 + 2 * (4 * (s.val + 1) + u.val)))
      ⊢ WP c (rsSend false c s.succ u) fun _ => iprop(pendS c (0, false, s.succ, u) ∗ owesE c (2 + 2 * (4 * (s.val + 1) + u.val) + 1)) from
      rsSend_spec X W K c false s.succ u)) $$ [Hk1 Ha1 Hs1 Hrd Ho]
  · isplitr; · iexact Hc
    isplitl [Hk1]; · iexact Hk1
    isplitl [Ha1]; · iexact Ha1
    isplitl [Hs1]; · iexact Hs1
    isplitl [Hrd] <;> iassumption
  iintro %_ ⟨Hn1, Ho⟩
  iapply (seqW c (rsStoreS_spec c true u _)) $$ Ha2
  iintro %_ Ha2
  iapply (lastW c (show iprop(ctx X W K ∗ kitS c (0, true, s.succ, u) ∗ own c (sSl true u) fullShare (SA X W true (s.val + 1) c u) ∗ any (F := F) (fwd true c) (rSl true s.succ u)
        ∗ riders (fwd true c) true (s.val + 1) u ∗ owesE c (2 + 2 * (4 * (s.val + 1) + u.val) + 1))
      ⊢ WP c (rsSend true c s.succ u) fun _ => iprop(pendS c (0, true, s.succ, u) ∗ owesE c (2 + 2 * (4 * (s.val + 1) + u.val) + 2)) from
      rsSend_spec X W K c true s.succ u)) $$ [Hk2 Ha2 Hs2 Ho]
  · isplitr; · iexact Hc
    isplitl [Hk2]; · iexact Hk2
    isplitl [Ha2]; · iexact Ha2
    isplitl [Hs2]; · iexact Hs2
    isplitr; · iapply (riders_true (F := F) (fwd true c) (s.val + 1) u); iempintro
    iassumption
  iintro %_ ⟨Hn2, Ho⟩
  isplitr [Hi Ho]
  · isplitl [Hrs]; · iexact Hrs
    isplitl [Hzr]; · iexact Hzr
    isplitl [Hz1 Hz2]; · isplitl [Hz1] <;> iassumption
    isplitl [Hkeep]; · iexact Hkeep
    isplitl [Hn1] <;> iassumption
  isplitr; · iexact Hc
  isplitl [Hi] <;> iassumption

end Cert.KernelIdeal.Hand
-- ==== Proof.Reduce2.lean ====
/- The reduction, whole; the table of maxima. -/
module

public import proofs.«01_k».proof.Proof.Reduce

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x512.Idx → Elt F .bf16) (W : Dev nD → S512x2048.Idx → Elt F .bf16) (K : Dev nD × SemId → ℕ) (c : Dev nD)

/-! ## Families -/

theorem bigSep_hole {n : ℕ} (k : Fin n) (Φ : Fin n → sProp 𝕄) :
    bigSep Finset.univ Φ ⊣⊢ iprop(Φ k ∗ bigSep Finset.univ fun i => if i = k then iprop(emp) else Φ i) := by
  have h : (bigSep Finset.univ fun i => if i = k then iprop(emp) else Φ i) = iprop(emp ∗ bigSep (Finset.univ.erase k) Φ) := by
    rw [bigSep_univ_at _ k, if_pos rfl]
    congr 1
    exact bigSep_congr fun i hi => if_neg (Finset.ne_of_mem_erase hi)
  rw [h, bigSep_univ_at Φ k]
  constructor
  · iintro ⟨H, Hs⟩
    isplitl [H]; · iexact H
    isplitr; · iempintro
    iexact Hs
  · iintro ⟨H, -, Hs⟩
    isplitl [H] <;> iassumption

theorem own_deal {sp : Space} {sh : Shape} {e : EltTy} (M : Memref sig .tc sp sh e) (q : PosShare TreeShare) (V : sh.Idx → Elt F e) :
    ∀ n : ℕ, (own c M q V : sProp 𝕄) ⊣⊢ iprop(own c M (Transfers.shareDrop q n) V
      ∗ bigSep Finset.univ fun i : Fin n => own c M (Transfers.shareTokN q i.val) V)
  | 0 => by
    rw [Finset.univ_eq_empty, bigSep_empty]; exact ⟨Laws.sep_emp.2, Laws.sep_emp.1⟩
  | n + 1 => by
    rw [bigSep_fin_last]
    have ih := own_deal M q V n
    have hh := own_halves c M (Transfers.shareDrop q n) V
    constructor
    · refine ih.1.trans ((sep_mono_left hh.1).trans ?_)
      iintro ⟨⟨Hd, Ht⟩, Hs⟩
      isplitl [Hd]; · iexact Hd
      isplitl [Ht]; · iexact Ht
      iexact Hs
    · refine BIBase.Entails.trans ?_ ((sep_mono_left hh.2).trans ih.2)
      iintro ⟨Hd, Ht, Hs⟩
      isplitl [Hd Ht]
      · isplitl [Hd]; · iexact Hd
        iexact Ht
      iexact Hs

/-! ## The middle steps -/

def midA' (s : Fin 6) (u : Fin 4) : sProp 𝕄 :=
  iprop(both (fun d => kitR (F := F) c (0, d, s.castSucc, u))
    ∗ both (fun d => kitS (F := F) c (0, d, s.succ, u)) ∗ both (fun d => any (F := F) (fwd d c) (rSl d s.succ u)))
def midB' (s : Fin 6) (u : Fin 4) : sProp 𝕄 :=
  iprop(both (fun d => any (F := F) c (rSl d s.castSucc u)) ∗ both (fun d => zero (F := F) c (.rcv (0, d, s.castSucc, u)))
    ∗ both (fun d => zero (F := F) c (.snd (0, d, s.castSucc, u))) ∗ keep (F := F) c s.val u)
def pend0 (s : Fin 7) : sProp 𝕄 := bigSep Finset.univ fun u : Fin 4 => both (fun d => pendS (F := F) c (0, d, s, u))

theorem midB_split (s : Fin 6) (u : Fin 4) :
    midB (F := F) c s u ⊢ iprop(midB' (F := F) c s u ∗ both (fun d => pendS (F := F) c (0, d, s.succ, u))) := by
  unfold midB midB'
  iintro ⟨H1, H2, H3, H4, H5⟩
  isplitr [H5]
  · isplitl [H1]; · iexact H1
    isplitl [H2]; · iexact H2
    isplitl [H3] <;> iassumption
  iexact H5

/-- What stands before step `s`. -/
def rsI (s : Fin 7) : sProp 𝕄 := iprop(pend0 c s ∗ ctx X W K ∗ ins X W c ∗ owesE c (2 + 8 * (s.val + 1)))

theorem rsMids_spec :
    iprop((bigSep Finset.univ fun s : Fin 6 => bigSep Finset.univ fun u : Fin 4 => midA' (F := F) c s u) ∗ rsI X W K c 0)
      ⊢ WP c (seqN 6 fun s => seqN 4 (rsMid c s)) fun _ =>
        iprop((bigSep Finset.univ fun s : Fin 6 => bigSep Finset.univ fun u : Fin 4 => midB' (F := F) c s u) ∗ rsI X W K c (Fin.last 6)) := by
  refine loopW c 6 (fun s => seqN 4 (rsMid c s)) (fun s => bigSep Finset.univ fun u : Fin 4 => midA' (F := F) c s u)
    (fun s => bigSep Finset.univ fun u : Fin 4 => midB' (F := F) c s u) (rsI X W K c) (fun s => ?_)
  unfold rsI
  have h := loopW c 4 (rsMid c s) (fun u => midA (F := F) c s u) (fun u => midB (F := F) c s u)
    (fun u => iprop(ctx X W K ∗ ins X W c ∗ owesE c (2 + 2 * (4 * (s.val + 1) + u.val)))) (fun u => rsMid_spec X W K c s u)
  have hA : (bigSep Finset.univ fun u : Fin 4 => midA (F := F) c s u)
      = iprop((bigSep Finset.univ fun u : Fin 4 => both (fun d => kitR (F := F) c (0, d, s.castSucc, u)))
        ∗ pend0 c s.castSucc ∗ bigSep Finset.univ fun u : Fin 4 => iprop(both (fun d => kitS (F := F) c (0, d, s.succ, u)) ∗ both (fun d => any (F := F) (fwd d c) (rSl d s.succ u)))) := by
    unfold midA pend0; rw [bigSep_sep', bigSep_sep']
  have hA' : (bigSep Finset.univ fun u : Fin 4 => midA' (F := F) c s u)
      = iprop((bigSep Finset.univ fun u : Fin 4 => both (fun d => kitR (F := F) c (0, d, s.castSucc, u)))
        ∗ bigSep Finset.univ fun u : Fin 4 => iprop(both (fun d => kitS (F := F) c (0, d, s.succ, u)) ∗ both (fun d => any (F := F) (fwd d c) (rSl d s.succ u)))) := by
    unfold midA'; rw [bigSep_sep']
  have hB : (bigSep Finset.univ fun u : Fin 4 => midB (F := F) c s u) ⊢ iprop((bigSep Finset.univ fun u : Fin 4 => midB' (F := F) c s u) ∗ pend0 c s.succ) := by
    unfold pend0
    rw [← bigSep_sep']
    exact bigSep_mono fun u _ => midB_split (F := F) c s u
  rw [hA] at h
  rw [hA']
  have e0 : 2 + 2 * (4 * (s.val + 1) + (0 : Fin 5).val) = 2 + 8 * (s.castSucc.val + 1) := by simp; omega
  have e1 : 2 + 2 * (4 * (s.val + 1) + (Fin.last 4).val) = 2 + 8 * (s.succ.val + 1) := by simp; omega
  rw [e0, e1] at h
  iintro ⟨⟨H1, H2⟩, Hp, Hr⟩
  iapply (lastW c h) $$ [H1 H2 Hp Hr]
  · isplitr [Hr]
    · isplitl [H1]; · iexact H1
      isplitl [Hp] <;> iassumption
    iexact Hr
  iintro %_ ⟨HB, Hr⟩
  ihave HB := hB $$ HB
  icases HB with ⟨HB, Hp⟩
  isplitl [HB]; · iexact HB
  isplitl [Hp] <;> iassumption

/-! ## The last step -/

abbrev aP (d : Bool) (u : Fin 4) : Memref sig .tc .vmem S128x1024 .f32 := (accM d).slice (rcS u) (fun _ => rfl)

def endA (u : Fin 4) : sProp 𝕄 :=
  iprop(both (fun d => kitR (F := F) c (0, d, 6, u)) ∗ both (fun d => pendS (F := F) c (0, d, 6, u)) ∗ both (fun d => any (F := F) c (aP d u)))
def endB (u : Fin 4) : sProp 𝕄 :=
  iprop(both (fun d => any (F := F) c (rSl d 6 u)) ∗ both (fun d => zero (F := F) c (.rcv (0, d, 6, u)))
    ∗ both (fun d => zero (F := F) c (.snd (0, d, 6, u))) ∗ keep (F := F) c 6 u ∗ both (fun d => any (F := F) c (sSl d u))
    ∗ both (fun d => own c (aP d u) fullShare (accV (SM X W d 6 c u))))

theorem rsEnd_spec (u : Fin 4) :
    iprop(endA c u ∗ ctx X W K ∗ ins X W c ∗ owesE c 58)
      ⊢ WP c (rsEnd c u) fun _ => iprop(endB X W c u ∗ ctx X W K ∗ ins X W c ∗ owesE c 58) := by
  unfold endA endB rsEnd
  iintro ⟨⟨Hr, Hp, Ha⟩, #Hc, Hi, Ho⟩
  have hh := rsHead_spec X W K c 6 u 58 (Or.inr le_rfl)
  iapply (seqW c hh) $$ [Hi Hr Ho]
  · isplitr; · iexact Hc
    isplitl [Hi]; · iexact Hi
    isplitl [Hr]; · iexact Hr
    iexact Ho
  iintro %v ⟨%hv, Hi, Hrs, Hzr, Hrd, Ho⟩; subst hv
  simp only [both_eq]
  icases Hp with ⟨Hp1, Hp2⟩
  icases Ha with ⟨Ha1, Ha2⟩
  iapply (seqW c (rsStoreA_spec c false u (accV (SM X W false 6 c u)))) $$ Ha1
  iintro %_ Ha1
  iapply (seqW c (rsStoreA_spec c true u (accV (SM X W true 6 c u)))) $$ Ha2
  iintro %_ Ha2
  iapply (seqW c (rsWaitS_spec X W K c false 6 u _)) $$ [Hp1 Ho]
  · isplitr; · iexact Hc
    isplitl [Hp1] <;> iassumption
  iintro %_ ⟨Hs1, Hz1, Ho⟩
  iapply (lastW c (rsWaitS_spec X W K c true 6 u _)) $$ [Hp2 Ho]
  · isplitr; · iexact Hc
    isplitl [Hp2] <;> iassumption
  iintro %_ ⟨Hs2, Hz2, Ho⟩
  ihave Hrd := (riders_split (F := F) c 6 u) $$ Hrd
  icases Hrd with ⟨Hkeep, -⟩
  isplitr [Hi Ho]
  · isplitl [Hrs]; · iexact Hrs
    isplitl [Hzr]; · iexact Hzr
    isplitl [Hz1 Hz2]; · isplitl [Hz1] <;> iassumption
    isplitl [Hkeep]; · iexact Hkeep
    isplitl [Hs1 Hs2]; · isplitl [Hs1] <;> iassumption
    isplitl [Ha1] <;> iassumption
  isplitr; · iexact Hc
  isplitl [Hi] <;> iassumption

theorem rsEnds_spec :
    iprop((bigSep Finset.univ fun u : Fin 4 => endA (F := F) c u) ∗ ctx X W K ∗ ins X W c ∗ owesE c 58)
      ⊢ WP c (seqN 4 (rsEnd c)) fun _ => iprop((bigSep Finset.univ fun u : Fin 4 => endB X W c u) ∗ ctx X W K ∗ ins X W c ∗ owesE c 58) :=
  loopW c 4 (rsEnd c) (fun u => endA (F := F) c u) (fun u => endB X W c u) (fun _ => iprop(ctx X W K ∗ ins X W c ∗ owesE c 58)) (fun u => rsEnd_spec X W K c u)

/-! ## The first step -/

theorem storeH_spec (d : Bool) (v : FVec F S512x1024 .bf16) :
    any (F := F) c (sendM d) ⊢ WP c (storeH d v) fun _ => own c (sendM d) fullShare v := by
  unfold storeH any
  simp only [Prog.lift, Prog.bind_op, Prog.bind_ret]
  have e (V : S512x1024.Idx → Elt F .bf16) := own_full c (sendM d) (off := ![0, 0]) Facts₀.inb_S512x1024_S512x1024_0_0 fullShare V
  iintro ⟨%Y, H⟩
  ihave H := (Entails.of_eq (e Y).symm) $$ H
  iapply (ldS c) $$ H; iintro H
  iapply (stS c) $$ H; iintro H
  rw [WP_ret]; imodintro
  iapply (Entails.of_eq (e v)) $$ H

theorem loadX_spec (r : Rect S4096x512) (hl : xM.view.LoadsAt r.toLoadRect) :
    own c xM fullShare (X c) ⊢ WP (F := F) c (Prog.lift (.load xM r.toLoadRect hl)) fun v => iprop(⌜v = fun j => X c (r.emb j)⌝ ∗ own c xM fullShare (X c)) := by
  simp only [Prog.lift]
  iintro H
  iapply (ld c) $$ H; iintro H
  rw [WP_ret]; imodintro
  isplitr; · ipureintro; rfl
  iexact H

theorem loadW_spec (r : Rect S512x2048) (hl : wM.view.LoadsAt r.toLoadRect) :
    own c wM fullShare (W c) ⊢ WP (F := F) c (Prog.lift (.load wM r.toLoadRect hl)) fun v => iprop(⌜v = fun j => W c (r.emb j)⌝ ∗ own c wM fullShare (W c)) := by
  simp only [Prog.lift]
  iintro H
  iapply (ld c) $$ H; iintro H
  rw [WP_ret]; imodintro
  isplitr; · ipureintro; rfl
  iexact H

theorem storeH0_spec (d : Bool) (x : Vec F S512x512 .bf16) (w : Vec F S512x2048 .bf16) (hx : x = fun j => X c ((rcX0 c).emb j)) (hw : w = fun j => W c (rcW0.emb j)) :
    any (F := F) c (sendM d) ⊢ WP c (storeH d (sendV0 d (firstV x w))) fun _ => own c (sendM d) fullShare (SA0 X W d c) := by
  subst hx hw; exact storeH_spec c d _

def firstA (u : Fin 4) : sProp 𝕄 :=
  iprop(both (fun d => kitS (F := F) c (0, d, 0, u)) ∗ both (fun d => any (F := F) (fwd d c) (rSl d 0 u)) ∗ riders (F := F) (fwd false c) false 0 u)

theorem rsFirst_spec :
    iprop((bigSep Finset.univ fun u : Fin 4 => firstA (F := F) c u) ∗ both (fun d => any (F := F) c (sendM d)) ∗ ctx X W K ∗ ins X W c ∗ owesE c 2)
      ⊢ WP c (rsFirst c) fun _ => iprop(pend0 c 0 ∗ ctx X W K ∗ ins X W c ∗ owesE c 10) := by
  unfold rsFirst pend0
  have hl := loopW c 4 (fun u => do rsSend (F := F) false c 0 u; rsSend true c 0 u)
    (fun u => iprop(firstA (F := F) c u ∗ both (fun d => own c (sSl d u) fullShare (SA X W d 0 c u))))
    (fun u => both (fun d => pendS (F := F) c (0, d, 0, u)))
    (fun u => iprop(ctx X W K ∗ owesE c (2 + 2 * u.val))) (fun u => by
      unfold firstA
      simp only [both_eq]
      iintro ⟨⟨⟨⟨Hk1, Hk2⟩, ⟨Hs1, Hs2⟩, Hrd⟩, Ha1, Ha2⟩, #Hc, Ho⟩
      have h1 := rsSend_spec X W K c false 0 u
      have h2 := rsSend_spec X W K c true 0 u
      simp only [Fin.val_zero] at h1 h2
      rw [show ord (.msg (0, false, 0, u)) = 2 + 2 * (Fin.castSucc u).val from by simp [ord]] at h1
      rw [show ord (.msg (0, true, 0, u)) = 2 + 2 * (Fin.castSucc u).val + 1 from by simp [ord]; omega] at h2
      rw [show 2 + 2 * u.succ.val = 2 + 2 * (Fin.castSucc u).val + 1 + 1 from by simp; omega]
      iapply (seqW c h1) $$ [Hk1 Ha1 Hs1 Hrd Ho]
      · isplitr; · iexact Hc
        isplitl [Hk1]; · iexact Hk1
        isplitl [Ha1]; · iexact Ha1
        isplitl [Hs1]; · iexact Hs1
        isplitl [Hrd] <;> iassumption
      iintro %_ ⟨Hn1, Ho⟩
      iapply (lastW c h2) $$ [Hk2 Ha2 Hs2 Ho]
      · isplitr; · iexact Hc
        isplitl [Hk2]; · iexact Hk2
        isplitl [Ha2]; · iexact Ha2
        isplitl [Hs2]; · iexact Hs2
        isplitr; · iapply (riders_true (F := F) (fwd true c) 0 u); iempintro
        iassumption
      iintro %_ ⟨Hn2, Ho⟩
      isplitl [Hn1 Hn2]; · isplitl [Hn1] <;> iassumption
      isplitr; · iexact Hc
      iexact Ho)
  have hp : ∀ d, (own c (sendM d) fullShare (SA0 X W d c) : sProp 𝕄) ⊢ bigSep Finset.univ fun u : Fin 4 => own c (sSl d u) fullShare (SA X W d 0 c u) :=
    fun d => own_parts c (sendM d) (fun _ _ => rfl) tilesS fullShare (SA0 X W d c)
  have hb : (bigSep Finset.univ fun u : Fin 4 => both (fun d => own c (sSl d u) fullShare (SA X W d 0 c u)))
      = iprop((bigSep Finset.univ fun u : Fin 4 => own c (sSl false u) fullShare (SA X W false 0 c u)) ∗ bigSep Finset.univ fun u : Fin 4 => own c (sSl true u) fullShare (SA X W true 0 c u)) := by
    unfold both; rw [bigSep_sep']
  rw [bigSep_sep', hb] at hl
  unfold ins
  rw [both_eq]
  iintro ⟨HA, ⟨Hs1, Hs2⟩, #Hc, ⟨Hx, Hw⟩, Ho⟩
  iapply (seqW c (loadX_spec X c (rcX0 c) _)) $$ Hx
  iintro %x ⟨%hx, Hx⟩
  iapply (seqW c (loadW_spec W c rcW0 _)) $$ Hw
  iintro %w ⟨%hw, Hw⟩
  iapply (seqW c (storeH0_spec X W c false x w hx hw)) $$ Hs1
  iintro %_ Hs1
  iapply (seqW c (storeH0_spec X W c true x w hx hw)) $$ Hs2
  iintro %_ Hs2
  ihave Hs1 := (hp false) $$ Hs1
  ihave Hs2 := (hp true) $$ Hs2
  iapply (lastW c hl) $$ [HA Hs1 Hs2 Ho]
  · isplitl [HA Hs1 Hs2]
    · isplitl [HA]; · iexact HA
      isplitl [Hs1] <;> iassumption
    isplitr; · iexact Hc
    iexact Ho
  iintro %_ ⟨HB, -, Ho⟩
  isplitl [HB]; · iexact HB
  isplitr; · iexact Hc
  isplitl [Hx Hw]; · isplitl [Hx] <;> iassumption
  iexact Ho

/-! ## The handshake -/

theorem tally_bar (b : Bool) : tally c (.bar b) = tallyAt (cell (bwd b c) .bar) () 1 := if_neg (by simp)

theorem barrier_spec :
    iprop(ctx X W K ∗ tok (F := F) (fwd true c) .bar false ∗ tok (F := F) (fwd false c) .bar true ∗ pos (F := F) c .bar ∗ cred (tallyAt (cell c .bar) () 2)
        ∗ slots (F := F) false c ∗ slots (F := F) true c ∗ owesE (F := F) c 0)
      ⊢ WP c (barrierP (F := F) c) fun _ => iprop(slots (F := F) false (fwd false c) ∗ slots (F := F) true (fwd true c) ∗ zero c .bar ∗ owesE c 2) := by
  unfold barrierP
  simp only [semSignalWord, semWaitWord, Prog.lift, Prog.bind_op, Prog.bind_ret]
  iintro ⟨#Hc, Ht1, Ht2, Hp, Hcr, Hs1, Hs2, Ho⟩
  ihave #HI1 := (ctx_inv X W K (fwd true c) .bar) $$ Hc
  ihave #HI2 := (ctx_inv X W K (fwd false c) .bar) $$ Hc
  ihave #HI := (ctx_inv X W K c .bar) $$ Hc
  ihave #HR1 := (ctx_reached X W K (fwd true c) .bar) $$ Hc
  ihave #HR2 := (ctx_reached X W K (fwd false c) .bar) $$ Hc
  ihave #HL := (ctx_lev X W K) $$ Hc
  unfold owesE tok pos zero
  icases Ho with ⟨%Ws, Ho⟩
  have ht1 : tally c (.bar false) = tallyAt (cell (fwd true c) .bar) () 1 := by rw [tally_bar, ← fwd_not]; rfl
  have ht2 : tally c (.bar true) = tallyAt (cell (fwd false c) .bar) () 1 := by rw [tally_bar, ← fwd_not]; rfl
  have hq1 : slots (F := F) false c ⊢ (Rd X W).payload ((fwd true c : Thread nD τ), .reg barS) 0 false := by
    show _ ⊢ (Rd X W).payload (cell (fwd true c) .bar) 0 false
    rw [payload_cell]; show _ ⊢ slots false (fwd false (fwd true c))
    rw [show fwd true c = bwd false c from fwd_not false c, fwd_bwd]
  have hq2 : slots (F := F) true c ⊢ (Rd X W).payload ((fwd false c : Thread nD τ), .reg barS) 0 true := by
    show _ ⊢ (Rd X W).payload (cell (fwd false c) .bar) 0 true
    rw [payload_cell]; show _ ⊢ slots true (fwd true (fwd false c))
    rw [show fwd false c = bwd true c from fwd_not true c, fwd_bwd]
  iapply (Rounds.wp_signal 𝒱₀ ER (Rd X W) (c : Thread nD τ) none (dst := (fwd true c : Thread nD τ)) (κ := K (fwd true c, .bar))
      (d := false) (show false ∈ (Rd X W).duties (cell (fwd true c) .bar) 0 from by rw [duties_cell]; exact Finset.mem_univ _) ((amount_cell X W (fwd true c) .bar false).trans (by decide)) () (owed c 1)
      ((owed_step c (.bar false)).trans (by rw [ht1]; rfl))) $$ [Ho Ht1 Hs1]
  · isplitr; · iexact HI1
    isplitl [Ho]; · iexact Ho
    isplitl [Ht1]; · iexact Ht1
    isplitl [Hs1]; · iapply hq1 $$ Hs1
    iexact HR1
  iintro Ho
  iapply (Rounds.wp_signal 𝒱₀ ER (Rd X W) (c : Thread nD τ) none (dst := (fwd false c : Thread nD τ)) (κ := K (fwd false c, .bar))
      (d := true) (show true ∈ (Rd X W).duties (cell (fwd false c) .bar) 0 from by rw [duties_cell]; exact Finset.mem_univ _) ((amount_cell X W (fwd false c) .bar true).trans (by decide)) () (owed c 2)
      ((owed_step c (.bar true)).trans (by rw [ht2]; rfl))) $$ [Ho Ht2 Hs2]
  · isplitr; · iexact HI2
    isplitl [Ho]; · iexact Ho
    isplitl [Ht2]; · iexact Ht2
    isplitl [Hs2]; · iapply hq2 $$ Hs2
    iexact HR2
  iintro Ho
  have hlv : (levAts L lv : sProp 𝕄) ⊢ MayWait (c : Thread nD τ) (.reg barS) () (owed c 2) :=
    mayWait c _ 2 1 (lv_cell c .bar).le (level_gt c 2 _ (by omega) (fun _ => by omega) (fun _ => by omega) (fun _ => by omega))
  iapply (Rounds.wp_wait_rest_token 𝒱₀ ER (Rd X W) (c : Thread nD τ) none (κ := K (c, .bar))
      (wpE_semWait_eq 𝒱₀ (c : Thread nD τ) none Set.univ) (Set.mem_univ _) () (O := owed c 2) (W := Ws) (R := 0) (m := 0) (T := ∅)
      ((show 0 + _ = 2 by decide).trans (expect_bar X W c).symm)) $$ [Hcr Ho Hp]
  · isplitr; · iexact HI
    isplitl [Hcr]; · iexact Hcr
    isplitl [Ho]; · iexact Ho
    isplitr; · iapply hlv; iexact HL
    iexact Hp
  iintro ⟨Ho, Hp, -, Hpay⟩
  have hrb : bigSep ((Rd X W).duties ((c : Thread nD τ), .reg barS) 0 \ ∅) (fun d => (Rd X W).payload ((c : Thread nD τ), .reg barS) 0 d)
      = iprop(slots (F := F) false (fwd false c) ∗ slots (F := F) true (fwd true c)) := rest_bar X W c
  ihave Hpay := (Entails.of_eq hrb) $$ Hpay
  icases Hpay with ⟨Hq1, Hq2⟩
  imod (Rounds.cell_close ER (Rd X W) (Set.mem_univ (K (c, .bar))) (fun h => h) (R := 0 + 1) (duties_later X W (cell c .bar))) $$ [Hp] with Hz
  · isplitr; · iexact HI
    iexact Hp
  rw [wp_ret]; imodintro
  isplitl [Hq1]; · iexact Hq1
  isplitl [Hq2]; · iexact Hq2
  isplitl [Hz]; · iexact Hz
  iexists _; iexact Ho

/-! ## The maxima -/

theorem loadH_spec (d : Bool) (V : S512x1024.Idx → Elt F .f32) :
    own c (accM d) fullShare V ⊢ WP c (loadH d) fun v => iprop(⌜v = V⌝ ∗ own c (accM d) fullShare V) := by
  unfold loadH
  simp only [Prog.lift]
  iintro H
  iapply (ld c) $$ H; iintro H
  rw [WP_ret]; imodintro
  isplitr
  · ipureintro; funext j; exact congrArg V (Rect.emb_unit_full _ j)
  iexact H

theorem amRow_spec :
    iprop(both (fun d => own c (accM d) fullShare (ACW X W d c)) ∗ any (F := F) c (aSl c))
      ⊢ WP c (amRow c) fun _ => iprop(both (fun d => own c (accM d) fullShare (ACW X W d c)) ∗ own c (aSl c) fullShare (AMrow X W c)) := by
  unfold amRow any
  rw [both_eq]
  iintro ⟨⟨Ha, Hb⟩, %Y, Hr⟩
  iapply (seqW c (loadH_spec c false _)) $$ Ha
  iintro %v ⟨%hv, Ha⟩; subst hv
  iapply (seqW c (loadH_spec c true _)) $$ Hb
  iintro %v ⟨%hv, Hb⟩; subst hv
  simp only [Prog.lift, Prog.bind_op, Prog.bind_ret]
  iapply (ldS c) $$ Hr; iintro Hr
  iapply (stS c) $$ Hr; iintro Hr
  rw [WP_ret]; imodintro
  isplitl [Ha Hb]; · isplitl [Ha] <;> iassumption
  iexact Hr

/-- What a row's transfer to device `k` takes; what it leaves to wait with. -/
def amKit (k : Fin 8) : sProp 𝕄 :=
  if k = c then pos (F := F) c (.ams k) else
    iprop((tok (F := F) c (.ams k) false ∗ tok (F := F) k (.amr c) false ∗ pos (F := F) c (.ams k)) ∗ any (F := F) k (aSl c))
def amP (k : Fin 8) : sProp 𝕄 :=
  if k = c then iprop(own c (aSl c) (Transfers.shareTokN fullShare k.val) (AMrow X W c) ∗ pos (F := F) c (.ams k)) else
    iprop(tick (F := F) c (.ams k) ∗ pos (F := F) c (.ams k))
def amR (k : Fin 8) : sProp 𝕄 :=
  if k = c then pos (F := F) c (.amr k) else iprop(tick (F := F) c (.amr k) ∗ pos (F := F) c (.amr k))

theorem amSend_spec (k : Fin 8) :
    iprop((amKit (F := F) c k ∗ own c (aSl c) (Transfers.shareTokN fullShare k.val) (AMrow X W c)) ∗ ctx X W K ∗ owesE c (58 + k.val))
      ⊢ WP c (amSend c k) fun _ => iprop(amP X W c k ∗ ctx X W K ∗ owesE c (58 + k.val + 1)) := by
  unfold amKit amP amSend
  by_cases hk : k = c
  · simp only [if_pos hk]
    rw [Prog.pure_eq_ret, WP_ret]
    iintro ⟨⟨Hp, Ha⟩, #Hc, Ho⟩
    imodintro
    isplitl [Hp Ha]; · isplitl [Ha] <;> iassumption
    isplitr; · iexact Hc
    have ho : owed c (58 + k.val) = owed c (58 + k.val + 1) := by
      have := owed_step c (.am k)
      rw [show tally c (.am k) = 0 from if_pos (by rw [hk]), add_zero] at this
      exact this
    unfold owesE; rw [ho]; iexact Ho
  · simp only [if_neg hk]
    have h := send_one X W K c (xs := .ams k) (xr := .amr c) (cr := k) (if_neg hk) (if_neg (Ne.symm hk)) (semS := dsem (mS k)) (semR := dsem (mR c)) rfl rfl (.am k)
      (src := aSl c) (dst := aSl c) (hsc := rfl) (hsrc := View.wordExact_bits rfl) (hdst := View.wordExact_bits rfl) (hsem := ⟨⟨rfl, Or.inl rfl⟩, trivial⟩)
      (credit_aSl c) rfl (tally_am c hk) (q := Transfers.shareTokN fullShare k.val) (V := AMrow X W c) (R := iprop(emp))
      BIBase.Entails.rfl Laws.sep_emp.1
    iintro ⟨⟨⟨Hk, Hs⟩, Ha⟩, #Hc, Ho⟩
    iapply (lastW c h) $$ [Hk Hs Ha Ho]
    · isplitr; · iexact Hc
      isplitl [Hk]; · iexact Hk
      isplitl [Ha]; · iexact Ha
      isplitl [Hs]; · iexact Hs
      isplitr; · iempintro
      iexact Ho
    iintro %_ ⟨Hp, Ho⟩
    isplitl [Hp]; · iexact Hp
    isplitr; · iexact Hc
    iexact Ho

def amB (k : Fin 8) : sProp 𝕄 :=
  iprop(own c (aSl c) (Transfers.shareTokN fullShare k.val) (AMrow X W c) ∗ (if k = c then iprop(emp) else own c (aSl k) fullShare (AMrow X W k))
    ∗ zero (F := F) c (.ams k) ∗ zero (F := F) c (.amr k))

theorem amWait_spec (k : Fin 8) :
    iprop((amP X W c k ∗ amR (F := F) c k) ∗ ctx X W K ∗ owesE c 66)
      ⊢ WP c (amWait c k) fun _ => iprop(amB X W c k ∗ ctx X W K ∗ owesE c 66) := by
  unfold amP amR amB amWait
  by_cases hk : k = c
  · simp only [if_pos hk]
    rw [Prog.pure_eq_ret, WP_ret]
    iintro ⟨⟨⟨Ha, Hp⟩, Hr⟩, #Hc, Ho⟩
    imod (close_none X W K c (x := .ams k) (if_pos hk)) $$ [Hp] with Hz1
    · isplitr; · iexact Hc
      iexact Hp
    imod (close_none X W K c (x := .amr k) (if_pos hk)) $$ [Hr] with Hz2
    · isplitr; · iexact Hc
      iexact Hr
    imodintro
    isplitr [Ho]
    · isplitl [Ha]; · iexact Ha
      isplitr; · iempintro
      isplitl [Hz1] <;> iassumption
    isplitr; · iexact Hc
    iexact Ho
  · simp only [if_neg hk]
    have h1 := wait_one X W K c (x := .amr k) (if_neg hk) (sem := dsem (mR k)) rfl 66
      (mayWait c _ 66 40 (lv_cell c (.amr k)).le (level_gt c 66 _ (by omega) (fun _ => by omega) (fun _ => by omega) (fun _ => by omega)))
      (srcw := aSl k) (dstw := aSl k) (hsrc := View.wordExact_bits rfl) (hdst := View.wordExact_bits rfl) (credit_aSl k)
    have h2 := wait_one X W K c (x := .ams k) (if_neg hk) (sem := dsem (mS k)) rfl 66 (mayWait0 c _ 66 (lv_cell c (.ams k)))
      (srcw := aSl c) (dstw := aSl c) (hsrc := View.wordExact_bits rfl) (hdst := View.wordExact_bits rfl) (credit_aSl c)
    rw [show pay X W c false (.amr k) = own c (aSl k) fullShare (AMrow X W k) from rfl] at h1
    rw [show pay X W c false (.ams k) = own c (aSl c) (Transfers.shareTokN fullShare k.val) (AMrow X W c) from rfl] at h2
    iintro ⟨⟨⟨Ht1, Hp1⟩, Ht2, Hp2⟩, #Hc, Ho⟩
    iapply (seqW c h1) $$ [Ht2 Hp2 Ho]
    · isplitr; · iexact Hc
      isplitl [Ht2]; · iexact Ht2
      isplitl [Hp2] <;> iassumption
    iintro %_ ⟨Hr, Hz2, Ho⟩
    iapply (lastW c h2) $$ [Ht1 Hp1 Ho]
    · isplitr; · iexact Hc
      isplitl [Ht1]; · iexact Ht1
      isplitl [Hp1] <;> iassumption
    iintro %_ ⟨Ha, Hz1, Ho⟩
    isplitr [Ho]
    · isplitl [Ha]; · iexact Ha
      isplitl [Hr]; · iexact Hr
      isplitl [Hz1] <;> iassumption
    isplitr; · iexact Hc
    iexact Ho

end Cert.KernelIdeal.Hand
-- ==== Proof.Gather.lean ====
/- The gather around the ring, and the copies of finished chunks to the output. -/
module

public import proofs.«01_k».proof.Proof.Reduce2

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x512.Idx → Elt F .bf16) (W : Dev nD → S512x2048.Idx → Elt F .bf16) (K : Dev nD × SemId → ℕ) (c : Dev nD)

/-! ## Both directions -/

theorem both_sep (Φ Ψ : Bool → sProp 𝕄) : both (fun d => iprop(Φ d ∗ Ψ d)) ⊣⊢ iprop(both Φ ∗ both Ψ) := by
  rw [both_eq, both_eq, both_eq]
  constructor
  · iintro ⟨⟨H1, H2⟩, H3, H4⟩
    isplitl [H1 H3]
    · isplitl [H1] <;> iassumption
    isplitl [H2] <;> iassumption
  · iintro ⟨⟨H1, H2⟩, H3, H4⟩
    isplitl [H1 H3]
    · isplitl [H1] <;> iassumption
    isplitl [H2] <;> iassumption

theorem both_mono {Φ Ψ : Bool → sProp 𝕄} (h : ∀ d, Φ d ⊢ Ψ d) : both Φ ⊢ both Ψ := by
  rw [both_eq, both_eq]; exact BI.BIClass.sep_mono (h false) (h true)

/-- The two directions' runs of a piece, one after the other, and what follows. -/
theorem twoW {α : Type} {p : Bool → P (F := F) PUnit} {k : P (F := F) α} {Q : α → sProp 𝕄} (A B : Bool → sProp 𝕄) (I₀ I₁ I₂ : sProp 𝕄)
    (h0 : iprop(A false ∗ I₀) ⊢ WP c (p false) fun _ => iprop(B false ∗ I₁)) (h1 : iprop(A true ∗ I₁) ⊢ WP c (p true) fun _ => iprop(B true ∗ I₂)) :
    iprop(both A ∗ I₀) ⊢ iprop((iprop(both B ∗ I₂) -∗ WP c k Q) -∗ WP c (p false >>= fun _ => p true >>= fun _ => k) Q) := by
  rw [both_eq, both_eq]
  iintro ⟨⟨Ha, Hb⟩, HI⟩ Hk
  iapply (seqW c h0) $$ [Ha HI]
  · isplitl [Ha] <;> iassumption
  iintro %_ ⟨Ha, HI⟩
  iapply (seqW c h1) $$ [Hb HI]
  · isplitl [Hb] <;> iassumption
  iintro %_ ⟨Hb, HI⟩
  iapply Hk
  isplitl [Ha Hb]
  · isplitl [Ha] <;> iassumption
  iassumption

theorem twoLast {p : Bool → P (F := F) PUnit} (A B : Bool → sProp 𝕄) (I₀ I₁ I₂ : sProp 𝕄)
    (h0 : iprop(A false ∗ I₀) ⊢ WP c (p false) fun _ => iprop(B false ∗ I₁)) (h1 : iprop(A true ∗ I₁) ⊢ WP c (p true) fun _ => iprop(B true ∗ I₂)) :
    iprop(both A ∗ I₀) ⊢ WP c (p false >>= fun _ => p true) fun _ => iprop(both B ∗ I₂) := by
  rw [both_eq, both_eq]
  iintro ⟨⟨Ha, Hb⟩, HI⟩
  iapply (seqW c h0) $$ [Ha HI]
  · isplitl [Ha] <;> iassumption
  iintro %_ ⟨Ha, HI⟩
  iapply (lastW c h1) $$ [Hb HI]
  · isplitl [Hb] <;> iassumption
  iintro %_ ⟨Hb, HI⟩
  isplitl [Ha Hb]
  · isplitl [Ha] <;> iassumption
  iassumption

/-! ## Chunks and their parts -/

abbrev cSl (d : Bool) (k : Fin 8) : Memref sig .tc .vmem S512x1024 .fp8e4m3 := (agM d).slice (rcC k) (fun _ => rfl)

theorem chunk_split (d : Bool) (k : Fin 8) (q : PosShare TreeShare) :
    own c (cSl d k) q (GC X W d k) ⊢ bigSep Finset.univ fun u : Fin 4 => own c (gSl d k u) q (GS X W d k u) := by
  refine (own_parts c (cSl d k) (fun _ _ => rfl) tilesS q (GC X W d k)).trans (Entails.of_eq ?_)
  exact bigSep_congr fun u _ => own_chunk c d k u q _

theorem chunk_join (d : Bool) (k : Fin 8) (q : PosShare TreeShare) :
    (bigSep Finset.univ fun u : Fin 4 => own c (gSl d k u) q (GS X W d k u)) ⊢ own c (cSl d k) q (GC X W d k) := by
  refine BIBase.Entails.trans (Entails.of_eq ?_) (own_join c (cSl d k) (fun _ _ => rfl) tilesS q (GC X W d k))
  exact bigSep_congr fun u _ => (own_chunk c d k u q _).symm

/-! ## Messages -/

/-- A part of the chunk of step `s`, at the given share. -/
abbrev gp (d : Bool) (s : ℕ) (u : Fin 4) (q : PosShare TreeShare) : sProp 𝕄 := own c (gSl d (agChunk d c s) u) q (GS X W d (agChunk d c s) u)

theorem agSend_spec (d : Bool) (s : Fin 7) (u : Fin 4) :
    iprop(ctx X W K ∗ kitS c (1, d, s, u) ∗ gp X W c d s.val u fullShare.left ∗ any (F := F) (fwd d c) (gSl d (agChunk d c s.val) u)
        ∗ owesE c (ord (.msg (1, d, s, u))))
      ⊢ WP c (agSend d c s u) fun _ => iprop(pendS c (1, d, s, u) ∗ owesE c (ord (.msg (1, d, s, u)) + 1)) := by
  have h := send_one X W K c (xs := .snd (1, d, s, u)) (xr := .rcv (1, d, s, u)) (cr := fwd d c) rfl rfl (semS := dsem (sS 1 d s u)) (semR := dsem (sR 1 d s u)) rfl rfl
    (.msg (1, d, s, u)) (src := gSl d (agChunk d c s) u) (dst := gSl d (agChunk d c s) u) (hsc := rfl) (hsrc := gSl_words d _ u) (hdst := gSl_words d _ u)
    (hsem := ⟨⟨rfl, Or.inl rfl⟩, trivial⟩) (q := fullShare.left) (V := GS X W d (agChunk d c s) u) (R := iprop(emp)) (credit_gSl d _ u) rfl
    (tally_msg c (1, d, s, u)) (by rw [pay_snd1]) (by rw [pay_rcv1, agChunk_fwd]; exact Laws.sep_emp.1)
  unfold agSend kitS pendS
  refine BIBase.Entails.trans ?_ h
  iintro ⟨Hc, Hk, Hg, Ha, Ho⟩
  isplitl [Hc]; · iexact Hc
  isplitl [Hk]; · iexact Hk
  isplitl [Hg]; · iexact Hg
  isplitl [Ha]; · iexact Ha
  isplitr; · iempintro
  iexact Ho

theorem agWaitR_spec (d : Bool) (s : Fin 7) (u : Fin 4) (n : ℕ) (hn : 66 + 2 * (4 * (s.val + 1) + u.val) ≤ n ∨ 122 ≤ n) :
    iprop(ctx X W K ∗ kitR c (1, d, s, u) ∗ owesE c n)
      ⊢ WP c (agWaitR d c s u) fun _ => iprop(gp X W c d (s.val + 1) u fullShare ∗ zero c (.rcv (1, d, s, u)) ∗ owesE c n) := by
  have h := wait_one X W K c (x := .rcv (1, d, s, u)) rfl (sem := dsem (sR 1 d s u)) rfl n
    (mayWait c _ n (50 + (4 * s.val + u.val)) (lv_cell c (.rcv (1, d, s, u))).le
      (level_gt c n _ (by omega) (fun _ => by omega) (fun _ => by omega) (fun _ => by omega)))
    (srcw := gSl d (agChunk d c s) u) (dstw := gSl d (agChunk d c s) u) (hsrc := gSl_words d _ u) (hdst := gSl_words d _ u) (credit_gSl d _ u)
  rw [pay_rcv1] at h
  unfold agWaitR kitR
  refine BIBase.Entails.trans ?_ h
  iintro ⟨Hc, ⟨Ht, Hp⟩, Ho⟩
  isplitl [Hc]; · iexact Hc
  isplitl [Ht]; · iexact Ht
  isplitl [Hp] <;> iassumption

theorem agWaitS_spec (d : Bool) (s : Fin 7) (u : Fin 4) (n : ℕ) :
    iprop(ctx X W K ∗ pendS c (1, d, s, u) ∗ owesE c n)
      ⊢ WP c (agWaitS d c s u) fun _ => iprop(gp X W c d s.val u fullShare.left ∗ zero c (.snd (1, d, s, u)) ∗ owesE c n) := by
  have h := wait_one X W K c (x := .snd (1, d, s, u)) rfl (sem := dsem (sS 1 d s u)) rfl n (mayWait0 c _ n (lv_cell c (.snd (1, d, s, u))))
    (srcw := gSl d (agChunk d c s) u) (dstw := gSl d (agChunk d c s) u) (hsrc := gSl_words d _ u) (hdst := gSl_words d _ u) (credit_gSl d _ u)
  rw [pay_snd1] at h
  unfold agWaitS pendS
  refine BIBase.Entails.trans ?_ h
  iintro ⟨Hc, ⟨Ht, Hp⟩, Ho⟩
  isplitl [Hc]; · iexact Hc
  isplitl [Ht]; · iexact Ht
  isplitl [Hp] <;> iassumption

/-! ## The own chunk -/

theorem quantP_spec (d : Bool) :
    iprop(own c (accM d) fullShare (ACW X W d c) ∗ any (F := F) c (cSl d (agChunk d c 0)))
      ⊢ WP c (quantP d c (invV (AM X W))) fun _ => iprop(own c (accM d) fullShare (ACW X W d c)
          ∗ own c (cSl d (agChunk d c 0)) fullShare (GC X W d (agChunk d c 0))) := by
  have e : GC X W d (agChunk d c 0) = quantV (invV (AM X W)) (ACW X W d c) := by unfold GC; rw [agChunk_zero, bwd_fwd]
  rw [e]
  unfold quantP loadC any
  iintro ⟨Ha, %Y, Hr⟩
  iapply (seqW c (loadH_spec c d _)) $$ Ha
  iintro %v ⟨%hv, Ha⟩; subst hv
  simp only [Prog.lift, Prog.bind_op, Prog.bind_ret]
  iapply (ldS c) $$ Hr; iintro Hr
  iapply (stS c) $$ Hr; iintro Hr
  rw [WP_ret]; imodintro
  isplitl [Ha] <;> iassumption

/-! ## Copies out -/

abbrev copySem (i : Fin 4) : SemLoc sig := .dma (dsem (cS i))
def NO : ℕ := (oSl false 0).view.dmaCredit
theorem NO_pos : 0 < NO := View.dmaCredit_pos _ (by decide)
theorem credit_oSl (d : Bool) (k : Fin 8) : (oSl d k).view.dmaCredit = NO := rfl
theorem lv_copy (i : Fin 4) : lv ((c : Thread nD τ), copySem i) () = 0 := by unfold lv; rw [decode_dsem, semAt_cS]

/-- A staging slot at rest. -/
def idle (i : Fin 4) : sProp 𝕄 := iprop(any (F := F) c (tSl i) ∗ semVal ((c : Thread nD τ), copySem i) 0)
/-- The block of the output for the `j`-th copy, free; filled; on its way. -/
def blank (d : Bool) (j : ℕ) : sProp 𝕄 := any (F := F) c (oSl d (agChunk d c j))
def filled (d : Bool) (j : ℕ) : sProp 𝕄 := own c (oSl d (agChunk d c j)) fullShare (OB X W d (agChunk d c j))
def flies (d : Bool) (j : ℕ) : sProp 𝕄 :=
  Transfers.Flight EC (c : Thread nD τ) (copySem (slot d j)) () NO iprop(filled X W c d j ∗ any (F := F) c (tSl (slot d j)))
/-- What the `j`-th copy waits for, and what it finds finished. -/
def prior (d : Bool) (j : ℕ) : sProp 𝕄 := if j < 2 then idle (F := F) c (slot d j) else flies X W c d (j - 2)
def found (d : Bool) (j : ℕ) : sProp 𝕄 := if j < 2 then iprop(emp) else filled X W c d (j - 2)

theorem outWait_spec (d : Bool) (j n : ℕ) :
    iprop(ctx X W K ∗ flies X W c d j ∗ owesE c n)
      ⊢ WP c (outWait d c j) fun _ => iprop(filled X W c d j ∗ idle c (slot d j) ∗ owesE c n) := by
  unfold outWait flies idle owesE
  simp only [Prog.lift]
  iintro ⟨#Hc, Hf, %Ws, Ho⟩
  ihave #HL := (ctx_lev X W K) $$ Hc
  have hm : (levAts L lv : sProp 𝕄) ⊢ MayWait (c : Thread nD τ) (copySem (slot d j)) () (owed c n) := mayWait0 c _ n (lv_copy c _)
  have h := Transfers.wp_waitLocalO (defs := defs₀ (F := F)) EC 𝒱₀ (c : Thread nD τ) none (sem := dsem (cS (slot d j)))
    (srcw := tSl (slot d j)) (dstw := oSl d (agChunk d c j)) (hsrc := tSl_words _) (hdst := oSl_words d _)
    (Q := fun _ => iprop(filled X W c d j ∗ (any (F := F) c (tSl (slot d j)) ∗ semVal ((c : Thread nD τ), copySem (slot d j)) 0) ∗ ∃ Ws, owes (c : Thread nD τ) (owed c n) Ws))
    (k := Prog.ret) () (N := NO) (credit_oSl d _) (D := iprop(filled X W c d j ∗ any (F := F) c (tSl (slot d j)))) (O := owed c n) (W := Ws)
  iapply h $$ [Hf Ho]
  · isplitl [Hf]; · iexact Hf
    isplitl [Ho]; · iexact Ho
    iapply hm; iexact HL
  iintro ⟨⟨Hd, Ht⟩, Hz, Ho⟩
  rw [wp_ret]; imodintro
  isplitl [Hd]; · iexact Hd
  isplitl [Ht Hz]
  · isplitl [Ht] <;> iassumption
  iexists _; iexact Ho

theorem staged (i : Fin 4) (V : S1x512x1024.Idx → Elt F .bf16) :
    own c (stM.slice (rcT i) (fun _ => rfl)) fullShare V ⊢ own c (tSl i) fullShare (sqT V) := by
  refine Entails.of_eq ?_
  rw [own_squeeze]
  congr 1
  funext x
  unfold sqT
  rw [Shape.reshapeEquiv_reshapeEquiv, Shape.reshapeEquiv_self]

theorem outPut_spec (d : Bool) (j : ℕ) (q : PosShare TreeShare) :
    iprop(own c (cSl d (agChunk d c j)) q (GC X W d (agChunk d c j)) ∗ blank (F := F) c d j ∗ idle (F := F) c (slot d j))
      ⊢ WP c (outPut d c (scaleV (AM X W)) j) fun _ => iprop(own c (cSl d (agChunk d c j)) q (GC X W d (agChunk d c j)) ∗ flies X W c d j) := by
  unfold outPut loadC blank idle any
  simp only [Prog.lift, Prog.bind_op, Prog.bind_ret]
  iintro ⟨Hg, ⟨%Yo, Hob⟩, ⟨%Yt, Ht⟩, Hz⟩
  iapply (ldS c) $$ Hg; iintro Hg
  ihave Ht := (Entails.of_eq (own_squeeze c (stM.slice (rcT (slot d j)) (fun _ => rfl)) Facts₀.squeezes_S1x512x1024_S512x1024 fullShare Yt)) $$ Ht
  iapply (ldS c) $$ Ht; iintro Ht
  iapply (stS c) $$ Ht; iintro Ht
  ihave Ht := (staged c (slot d j) _) $$ Ht
  unfold own owns
  icases Ht with ⟨%ft, %hft, Ht⟩
  icases Hob with ⟨%fo, %hfo, Hob⟩
  have hdel : iprop(((oSl d (agChunk d c j)).view.loc (c : Thread nD τ) ↦[(oSl d (agChunk d c j)).view.set]{fullShare}
        (oSl d (agChunk d c j)).view.write (Elt F) fo (ReadAs.same.apply (Val := Elt F) (OB X W d (agChunk d c j))) Finset.univ)
      ∗ ((tSl (slot d j)).view.loc (c : Thread nD τ) ↦[(tSl (slot d j)).view.set]{fullShare} ft))
      ⊢ iprop(filled X W c d j ∗ any (F := F) c (tSl (slot d j))) :=
    BI.BIClass.sep_mono (own_landed c _ fo _) ((own_fst c _ _ ft).trans (any_intro c _ _))
  have h := Transfers.wp_dmaLocal (defs := defs₀ (F := F)) EC 𝒱₀ (c : Thread nD τ) none (src := tSl (slot d j)) (via := .same) (dst := oSl d (agChunk d c j)) (sm := copySem (slot d j))
    (hsrc := tSl_words _) (hdst := oSl_words d _) (hsem := ⟨Or.inl rfl, trivial⟩) (k := Prog.ret)
    (Q := fun _ => iprop(own c (cSl d (agChunk d c j)) q (GC X W d (agChunk d c j)) ∗ flies X W c d j))
    (q := fullShare) (fs := ft) (fd := fo) () NO (credit_oSl d _) NO_pos (Finset.Subset.refl _)
  rw [show (tSl (slot d j)).view.read (Elt F) ft = OB X W d (agChunk d c j) from hft] at h
  iapply h $$ [Ht Hob Hz]
  · isplitl [Ht]; · iexact Ht
    isplitl [Hob]; · iexact Hob
    iexact Hz
  iintro Hf
  rw [wp_ret]; imodintro
  isplitl [Hg]
  · unfold own owns; iexact Hg
  unfold flies
  iapply (Transfers.Flight_mono EC (c : Thread nD τ) hdel) $$ Hf

/-- The `j`-th copy of a direction, with what it has to wait for first. -/
theorem emitP_spec (d : Bool) (j : ℕ) (q : PosShare TreeShare) (n : ℕ) :
    iprop((own c (cSl d (agChunk d c j)) q (GC X W d (agChunk d c j)) ∗ blank (F := F) c d j ∗ prior X W c d j) ∗ ctx X W K ∗ owesE c n)
      ⊢ WP c (emitP d c (scaleV (AM X W)) j) fun _ => iprop((own c (cSl d (agChunk d c j)) q (GC X W d (agChunk d c j)) ∗ flies X W c d j ∗ found X W c d j)
          ∗ ctx X W K ∗ owesE c n) := by
  unfold emitP prior found
  by_cases hj : j < 2
  · simp only [if_pos hj]
    iintro ⟨⟨Hg, Hb, Hi⟩, #Hc, Ho⟩
    iapply (lastW c (outPut_spec X W c d j q)) $$ [Hg Hb Hi]
    · isplitl [Hg]; · iexact Hg
      isplitl [Hb] <;> iassumption
    iintro %_ ⟨Hg, Hf⟩
    isplitl [Hg Hf]
    · isplitl [Hg]; · iexact Hg
      isplitl [Hf]; · iexact Hf
      iempintro
    isplitr; · iexact Hc
    iexact Ho
  · simp only [if_neg hj]
    have hs : slot d (j - 2) = slot d j := Fin.ext (by show 2 * d.toNat + (j - 2) % 2 = 2 * d.toNat + j % 2; omega)
    have h := outWait_spec X W K c d (j - 2) n
    rw [hs] at h
    iintro ⟨⟨Hg, Hb, Hi⟩, #Hc, Ho⟩
    iapply (seqW c h) $$ [Hi Ho]
    · isplitr; · iexact Hc
      isplitl [Hi] <;> iassumption
    iintro %_ ⟨Hfd, Hi, Ho⟩
    iapply (lastW c (outPut_spec X W c d j q)) $$ [Hg Hb Hi]
    · isplitl [Hg]; · iexact Hg
      isplitl [Hb] <;> iassumption
    iintro %_ ⟨Hg, Hf⟩
    isplitr [Ho]
    · isplitl [Hg]; · iexact Hg
      isplitl [Hf] <;> iassumption
    isplitr; · iexact Hc
    iexact Ho

/-! ## The steps -/

/-- What a part's sending takes besides the part; what is held until its departure is waited for. -/
def goes (d : Bool) (s : Fin 7) (u : Fin 4) : sProp 𝕄 := iprop(kitS (F := F) c (1, d, s, u) ∗ any (F := F) (fwd d c) (gSl d (agChunk d c s.val) u))
def hold (d : Bool) (s : Fin 7) (u : Fin 4) : sProp 𝕄 := iprop(pendS (F := F) c (1, d, s, u) ∗ gp X W c d s.val u fullShare.right)
/-- A part that has left: the room is free again. -/
def left (d : Bool) (s : Fin 7) (u : Fin 4) : sProp 𝕄 := iprop(any (F := F) c (gSl d (agChunk d c s.val) u) ∗ zero (F := F) c (.snd (1, d, s, u)))

theorem go_spec (d : Bool) (s : Fin 7) (u : Fin 4) (n : ℕ) (hn : ord (.msg (1, d, s, u)) = n) :
    iprop((goes (F := F) c d s u ∗ gp X W c d s.val u fullShare) ∗ ctx X W K ∗ owesE c n)
      ⊢ WP c (agSend d c s u) fun _ => iprop(hold X W c d s u ∗ ctx X W K ∗ owesE c (n + 1)) := by
  subst hn
  unfold goes hold
  iintro ⟨⟨⟨Hk, Ha⟩, Hg⟩, #Hc, Ho⟩
  ihave Hg := (own_halves c _ _ _).1 $$ Hg
  icases Hg with ⟨Hl, Hr⟩
  iapply (lastW c (agSend_spec X W K c d s u)) $$ [Hk Ha Hl Ho]
  · isplitr; · iexact Hc
    isplitl [Hk]; · iexact Hk
    isplitl [Hl]; · iexact Hl
    isplitl [Ha] <;> iassumption
  iintro %_ ⟨Hp, Ho⟩
  isplitl [Hp Hr]
  · isplitl [Hp] <;> iassumption
  isplitr; · iexact Hc
  iexact Ho

theorem left_spec (d : Bool) (s : Fin 7) (u : Fin 4) (n : ℕ) :
    iprop(hold X W c d s u ∗ ctx X W K ∗ owesE c n) ⊢ WP c (agWaitS d c s u) fun _ => iprop(left (F := F) c d s u ∗ ctx X W K ∗ owesE c n) := by
  unfold hold left
  iintro ⟨⟨Hp, Hr⟩, #Hc, Ho⟩
  iapply (lastW c (agWaitS_spec X W K c d s u n)) $$ [Hp Ho]
  · isplitr; · iexact Hc
    isplitl [Hp] <;> iassumption
  iintro %_ ⟨Hl, Hz, Ho⟩
  isplitl [Hl Hr Hz]
  · isplitl [Hl Hr]
    · iapply (any_intro c _ _)
      iapply (own_halves c _ _ _).2
      isplitl [Hl] <;> iassumption
    iexact Hz
  isplitr; · iexact Hc
  iexact Ho

theorem come_spec (d : Bool) (s : Fin 7) (u : Fin 4) (n : ℕ) (hn : 66 + 2 * (4 * (s.val + 1) + u.val) ≤ n ∨ 122 ≤ n) :
    iprop(kitR (F := F) c (1, d, s, u) ∗ ctx X W K ∗ owesE c n)
      ⊢ WP c (agWaitR d c s u) fun _ => iprop((gp X W c d (s.val + 1) u fullShare ∗ zero (F := F) c (.rcv (1, d, s, u))) ∗ ctx X W K ∗ owesE c n) := by
  iintro ⟨Hk, #Hc, Ho⟩
  iapply (lastW c (agWaitR_spec X W K c d s u n hn)) $$ [Hk Ho]
  · isplitr; · iexact Hc
    isplitl [Hk] <;> iassumption
  iintro %_ ⟨Hg, Hz, Ho⟩
  isplitl [Hg Hz]
  · isplitl [Hg] <;> iassumption
  isplitr; · iexact Hc
  iexact Ho

def midGA (s : Fin 6) (u : Fin 4) : sProp 𝕄 :=
  iprop(both (fun d => kitR (F := F) c (1, d, s.castSucc, u)) ∗ both (fun d => goes (F := F) c d s.succ u))
def midGB (s : Fin 6) (u : Fin 4) : sProp 𝕄 :=
  iprop(both (fun d => zero (F := F) c (.rcv (1, d, s.castSucc, u))) ∗ both (fun d => hold X W c d s.succ u))

theorem agMid_spec (s : Fin 6) (u : Fin 4) :
    iprop(midGA (F := F) c s u ∗ ctx X W K ∗ owesE c (66 + 2 * (4 * (s.val + 1) + u.val)))
      ⊢ WP c (agMid c s u) fun _ => iprop(midGB X W c s u ∗ ctx X W K ∗ owesE c (66 + 2 * (4 * (s.val + 1) + u.val) + 2)) := by
  unfold midGA midGB agMid
  have hr := twoW (k := agSend false c s.succ u >>= fun _ => agSend true c s.succ u)
    (Q := fun _ => iprop((both (fun d => zero (F := F) c (.rcv (1, d, s.castSucc, u))) ∗ both (fun d => hold X W c d s.succ u)) ∗ ctx X W K ∗ owesE c (66 + 2 * (4 * (s.val + 1) + u.val) + 2)))
    c (p := fun d => agWaitR d c s.castSucc u) (fun d => kitR (F := F) c (1, d, s.castSucc, u))
    (fun d => iprop(gp X W c d (s.castSucc.val + 1) u fullShare ∗ zero (F := F) c (.rcv (1, d, s.castSucc, u)))) _ _ _
    (come_spec X W K c false s.castSucc u (66 + 2 * (4 * (s.val + 1) + u.val)) (Or.inl le_rfl)) (come_spec X W K c true s.castSucc u _ (Or.inl le_rfl))
  have hs := twoLast c (p := fun d => agSend d c s.succ u) (fun d => iprop(goes (F := F) c d s.succ u ∗ gp X W c d s.succ.val u fullShare)) (fun d => hold X W c d s.succ u) _ _ _
    (go_spec X W K c false s.succ u (66 + 2 * (4 * (s.val + 1) + u.val)) rfl)
    (go_spec X W K c true s.succ u (66 + 2 * (4 * (s.val + 1) + u.val) + 1) rfl)
  iintro ⟨⟨Hr, Hg⟩, #Hc, Ho⟩
  iapply hr $$ [Hr Ho]
  · isplitl [Hr]; · iexact Hr
    isplitr; · iexact Hc
    iexact Ho
  iintro ⟨Hb, -, Ho⟩
  ihave Hb := (both_sep _ _).1 $$ Hb
  icases Hb with ⟨Hgp, Hz⟩
  iapply (lastW c hs) $$ [Hg Hgp Ho]
  · isplitl [Hg Hgp]
    · iapply (both_sep _ _).2
      isplitl [Hg]; · iexact Hg
      iexact Hgp
    isplitr; · iexact Hc
    iexact Ho
  iintro %_ ⟨Hh, -, Ho⟩
  isplitl [Hz Hh]
  · isplitl [Hz] <;> iassumption
  isplitr; · iexact Hc
  iexact Ho

def endG (u : Fin 4) : sProp 𝕄 := both (fun d => iprop(gp X W c d 7 u fullShare ∗ zero (F := F) c (.rcv (1, d, 6, u))))

theorem agEnd_spec (u : Fin 4) :
    iprop(both (fun d => kitR (F := F) c (1, d, 6, u)) ∗ ctx X W K ∗ owesE c 122)
      ⊢ WP c (agEnd c u) fun _ => iprop(endG X W c u ∗ ctx X W K ∗ owesE c 122) :=
  twoLast c (p := fun d => agWaitR d c 6 u) (fun d => kitR (F := F) c (1, d, 6, u))
    (fun d => iprop(gp X W c d 7 u fullShare ∗ zero (F := F) c (.rcv (1, d, 6, u)))) _ _ _
    (come_spec X W K c false 6 u 122 (Or.inr le_rfl)) (come_spec X W K c true 6 u 122 (Or.inr le_rfl))

/-- The chunk that has arrived goes to the output; the departures of the step are waited for. -/
theorem agAfter_spec (s : Fin 7) (q : PosShare TreeShare) (n : ℕ) :
    iprop((both (fun d => iprop(own c (cSl d (agChunk d c (s.val + 1))) q (GC X W d (agChunk d c (s.val + 1))) ∗ blank (F := F) c d (s.val + 1) ∗ prior X W c d (s.val + 1)))
        ∗ bigSep Finset.univ fun u : Fin 4 => both (fun d => hold X W c d s u)) ∗ ctx X W K ∗ owesE c n)
      ⊢ WP c (agAfter c (scaleV (AM X W)) s) fun _ =>
        iprop((both (fun d => iprop(own c (cSl d (agChunk d c (s.val + 1))) q (GC X W d (agChunk d c (s.val + 1))) ∗ flies X W c d (s.val + 1) ∗ found X W c d (s.val + 1)))
          ∗ bigSep Finset.univ fun u : Fin 4 => both (fun d => left (F := F) c d s u)) ∗ ctx X W K ∗ owesE c n) := by
  unfold agAfter
  have he := fun (k : P (F := F) PUnit) (Q : PUnit → sProp (MT nD τ sig Unit (Elt F) ℕ UU ℕ)) =>
    twoW (k := k) (Q := Q) c (p := fun d => emitP d c (scaleV (AM X W)) (s.val + 1))
    (fun d => iprop(own c (cSl d (agChunk d c (s.val + 1))) q (GC X W d (agChunk d c (s.val + 1))) ∗ blank (F := F) c d (s.val + 1) ∗ prior X W c d (s.val + 1)))
    (fun d => iprop(own c (cSl d (agChunk d c (s.val + 1))) q (GC X W d (agChunk d c (s.val + 1))) ∗ flies X W c d (s.val + 1) ∗ found X W c d (s.val + 1))) _ _ _
    (emitP_spec X W K c false (s.val + 1) q n) (emitP_spec X W K c true (s.val + 1) q n)
  have hl := loopW c 4 (fun u => do agWaitS (F := F) false c s u; agWaitS true c s u) (fun u => both (fun d => hold X W c d s u))
    (fun u => both (fun d => left (F := F) c d s u)) (fun _ => iprop(ctx X W K ∗ owesE c n))
    (fun u => twoLast c (p := fun d => agWaitS d c s u) (fun d => hold X W c d s u) (fun d => left (F := F) c d s u) _ _ _
      (left_spec X W K c false s u n) (left_spec X W K c true s u n))
  iintro ⟨⟨Hg, Hh⟩, HI⟩
  iapply (he _ _) $$ [Hg HI]
  · isplitl [Hg] <;> iassumption
  iintro ⟨Hg, HI⟩
  iapply (lastW c hl) $$ [Hh HI]
  · isplitl [Hh] <;> iassumption
  iintro %_ ⟨Hl, HI⟩
  isplitl [Hg Hl]
  · isplitl [Hg] <;> iassumption
  iassumption

theorem bigSep_both {n : ℕ} (Φ : Bool → Fin n → sProp 𝕄) :
    (bigSep Finset.univ fun u => both (fun d => Φ d u)) = both (fun d => bigSep Finset.univ (Φ d)) := by
  unfold both; rw [bigSep_sep']

theorem chunks_split (s : ℕ) (q : PosShare TreeShare) :
    both (fun d => own c (cSl d (agChunk d c s)) q (GC X W d (agChunk d c s))) ⊢ bigSep Finset.univ fun u : Fin 4 => both (fun d => gp X W c d s u q) := by
  rw [bigSep_both]; exact both_mono fun d => chunk_split X W c d _ q
theorem chunks_join (s : ℕ) (q : PosShare TreeShare) :
    (bigSep Finset.univ fun u : Fin 4 => both (fun d => gp X W c d s u q)) ⊢ both (fun d => own c (cSl d (agChunk d c s)) q (GC X W d (agChunk d c s))) := by
  rw [bigSep_both]; exact both_mono fun d => chunk_join X W c d _ q

theorem holds_eq (s : Fin 7) :
    (bigSep Finset.univ fun u : Fin 4 => both (fun d => hold X W c d s u))
      ⊣⊢ iprop((bigSep Finset.univ fun u : Fin 4 => both (fun d => pendS (F := F) c (1, d, s, u))) ∗ bigSep Finset.univ fun u : Fin 4 => both (fun d => gp X W c d s.val u fullShare.right)) := by
  rw [← bigSep_sep']
  have h := fun u : Fin 4 => both_sep (fun d => pendS (F := F) c (1, d, s, u)) (fun d => gp X W c d s.val u fullShare.right)
  exact ⟨bigSep_mono fun u _ => (h u).1, bigSep_mono fun u _ => (h u).2⟩

/-- What stands before step `s`. -/
def agI (s : Fin 7) : sProp 𝕄 :=
  iprop((both (fun d => flies X W c d s.val) ∗ both (fun d => prior X W c d (s.val + 1)) ∗ bigSep Finset.univ fun u : Fin 4 => both (fun d => hold X W c d s u))
    ∗ ctx X W K ∗ owesE c (66 + 8 * (s.val + 1)))

def stepGA (s : Fin 6) : sProp 𝕄 := iprop((bigSep Finset.univ fun u : Fin 4 => midGA (F := F) c s u) ∗ both (fun d => blank (F := F) c d (s.val + 1)))
def stepGB (s : Fin 6) : sProp 𝕄 :=
  iprop((bigSep Finset.univ fun u : Fin 4 => both (fun d => zero (F := F) c (.rcv (1, d, s.castSucc, u))))
    ∗ (bigSep Finset.univ fun u : Fin 4 => both (fun d => left (F := F) c d s.castSucc u)) ∗ both (fun d => found X W c d (s.val + 1)))

/-- The chunk that has arrived, its copy begun. -/
theorem after_spec (s : Fin 7) (q : PosShare TreeShare) (n : ℕ) :
    iprop((both (fun d => own c (cSl d (agChunk d c (s.val + 1))) q (GC X W d (agChunk d c (s.val + 1)))) ∗ both (fun d => blank (F := F) c d (s.val + 1))
        ∗ both (fun d => prior X W c d (s.val + 1)) ∗ bigSep Finset.univ fun u : Fin 4 => both (fun d => hold X W c d s u)) ∗ ctx X W K ∗ owesE c n)
      ⊢ WP c (agAfter c (scaleV (AM X W)) s) fun _ =>
        iprop((both (fun d => own c (cSl d (agChunk d c (s.val + 1))) q (GC X W d (agChunk d c (s.val + 1)))) ∗ both (fun d => flies X W c d (s.val + 1))
          ∗ both (fun d => found X W c d (s.val + 1)) ∗ bigSep Finset.univ fun u : Fin 4 => both (fun d => left (F := F) c d s u)) ∗ ctx X W K ∗ owesE c n) := by
  iintro ⟨⟨Hg, Hb, Hp, Hh⟩, HI⟩
  iapply (lastW c (agAfter_spec X W K c s q n)) $$ [Hg Hb Hp Hh HI]
  · isplitr [HI]
    · isplitl [Hg Hb Hp]
      · iapply (both_sep _ _).2
        isplitl [Hg]; · iexact Hg
        iapply (both_sep _ _).2
        isplitl [Hb] <;> iassumption
      iexact Hh
    iexact HI
  iintro %_ ⟨⟨Hg, Hl⟩, HI⟩
  ihave Hg := (both_sep _ _).1 $$ Hg
  icases Hg with ⟨Hg, Hf⟩
  ihave Hf := (both_sep _ _).1 $$ Hf
  icases Hf with ⟨Hf, Hn⟩
  isplitr [HI]
  · isplitl [Hg]; · iexact Hg
    isplitl [Hf]; · iexact Hf
    isplitl [Hn] <;> iassumption
  iexact HI

theorem agStep_spec (s : Fin 6) :
    iprop(stepGA (F := F) c s ∗ agI X W K c s.castSucc) ⊢ WP c (agStep c (scaleV (AM X W)) s) fun _ => iprop(stepGB X W c s ∗ agI X W K c s.succ) := by
  have hl := loopW c 4 (agMid c s) (fun u => midGA (F := F) c s u) (fun u => midGB X W c s u)
    (fun u => iprop(ctx X W K ∗ owesE c (66 + 2 * (4 * (s.val + 1) + u.val)))) (fun u => agMid_spec X W K c s u)
  have e0 : 66 + 2 * (4 * (s.val + 1) + (0 : Fin 5).val) = 66 + 8 * (s.castSucc.val + 1) := by simp; omega
  have e1 : 66 + 2 * (4 * (s.val + 1) + (Fin.last 4).val) = 66 + 8 * (s.succ.val + 1) := by simp; omega
  rw [e0, e1] at hl
  have hB : (bigSep Finset.univ fun u : Fin 4 => midGB X W c s u)
      = iprop((bigSep Finset.univ fun u : Fin 4 => both (fun d => zero (F := F) c (.rcv (1, d, s.castSucc, u)))) ∗ bigSep Finset.univ fun u : Fin 4 => both (fun d => hold X W c d s.succ u)) := by
    unfold midGB; rw [bigSep_sep']
  rw [hB] at hl
  have hq : ∀ d, prior X W c d (s.succ.val + 1) = flies X W c d s.castSucc.val := fun d => by
    show (if s.val + 1 + 1 < 2 then _ else _) = _
    rw [if_neg (by omega)]; rfl
  have ha := after_spec X W K c s.castSucc fullShare.right (66 + 8 * (s.succ.val + 1))
  simp only [show s.castSucc.val + 1 = s.succ.val from rfl] at ha
  unfold stepGA stepGB agI agStep
  simp only [hq]
  simp only [show s.castSucc.val + 1 = s.succ.val from rfl, show s.val + 1 = s.succ.val from rfl] at hl ⊢
  iintro ⟨⟨HA, Hb⟩, ⟨Hf, Hp, Hh⟩, HI⟩
  iapply (seqW c hl) $$ [HA HI]
  · isplitl [HA] <;> iassumption
  iintro %_ ⟨⟨Hz, Hs⟩, HI⟩
  ihave Hs := (holds_eq X W c s.succ).1 $$ Hs
  icases Hs with ⟨Hpd, Hg⟩
  ihave Hg := (chunks_join X W c s.succ.val fullShare.right) $$ Hg
  iapply (lastW c ha) $$ [Hg Hb Hp Hh HI]
  · isplitr [HI]
    · isplitl [Hg]; · iexact Hg
      isplitl [Hb]; · iexact Hb
      isplitl [Hp] <;> iassumption
    iexact HI
  iintro %_ ⟨⟨Hg, Hf', Hn, Hl⟩, HI⟩
  ihave Hg := (chunks_split X W c s.succ.val fullShare.right) $$ Hg
  isplitl [Hz Hl Hn]
  · isplitl [Hz]; · iexact Hz
    isplitl [Hl] <;> iassumption
  isplitr [HI]
  · isplitl [Hf']; · iexact Hf'
    isplitl [Hf]; · iexact Hf
    iapply (holds_eq X W c s.succ).2
    isplitl [Hpd] <;> iassumption
  iexact HI

theorem agSteps_spec :
    iprop((bigSep Finset.univ fun s : Fin 6 => stepGA (F := F) c s) ∗ agI X W K c 0)
      ⊢ WP c (seqN 6 (agStep c (scaleV (AM X W)))) fun _ => iprop((bigSep Finset.univ fun s : Fin 6 => stepGB X W c s) ∗ agI X W K c (Fin.last 6)) :=
  loopW c 6 _ (fun s => stepGA (F := F) c s) (fun s => stepGB X W c s) (agI X W K c) (agStep_spec X W K c)

theorem agStart_spec :
    iprop(((bigSep Finset.univ fun u : Fin 4 => both (fun d => goes (F := F) c d 0 u)) ∗ both (fun d => own c (cSl d (agChunk d c 0)) fullShare (GC X W d (agChunk d c 0))))
        ∗ ctx X W K ∗ owesE c 66)
      ⊢ WP c (agStart c) fun _ => iprop((bigSep Finset.univ fun u : Fin 4 => both (fun d => hold X W c d 0 u)) ∗ ctx X W K ∗ owesE c 74) := by
  unfold agStart
  have hl := loopW c 4 (fun u => do agSend (F := F) false c 0 u; agSend true c 0 u)
    (fun u => both (fun d => iprop(goes (F := F) c d 0 u ∗ gp X W c d 0 u fullShare)))
    (fun u => both (fun d => hold X W c d 0 u)) (fun u => iprop(ctx X W K ∗ owesE c (66 + 2 * u.val)))
    (fun u => twoLast c (p := fun d => agSend d c 0 u) (fun d => iprop(goes (F := F) c d 0 u ∗ gp X W c d 0 u fullShare)) (fun d => hold X W c d 0 u) _ _ _
      (go_spec X W K c false 0 u (66 + 2 * u.val) (by show 66 + (2 * (4 * 0 + u.val) + 0) = _; omega))
      (go_spec X W K c true 0 u (66 + 2 * u.val + 1) (by show 66 + (2 * (4 * 0 + u.val) + 1) = _; omega)))
  have e0 : 66 + 2 * (0 : Fin 5).val = 66 := rfl
  have e1 : 66 + 2 * (Fin.last 4).val = 74 := rfl
  rw [e0, e1] at hl
  iintro ⟨⟨Hg, Hc⟩, HI⟩
  ihave Hc := (chunks_split X W c 0 fullShare) $$ Hc
  iapply (lastW c hl) $$ [Hg Hc HI]
  · isplitl [Hg Hc]
    · have h : iprop((bigSep Finset.univ fun u : Fin 4 => both (fun d => goes (F := F) c d 0 u)) ∗ bigSep Finset.univ fun u : Fin 4 => both (fun d => gp X W c d 0 u fullShare))
          ⊢ bigSep Finset.univ fun u : Fin 4 => both (fun d => iprop(goes (F := F) c d 0 u ∗ gp X W c d 0 u fullShare)) := by
        rw [← bigSep_sep']; exact bigSep_mono fun u _ => (both_sep (fun d => goes (F := F) c d 0 u) (fun d => gp X W c d 0 u fullShare)).2
      iapply h
      isplitl [Hg] <;> iassumption
    iexact HI
  iintro %_ ⟨Hh, HI⟩
  isplitl [Hh] <;> iassumption

theorem agLast_spec :
    iprop(((bigSep Finset.univ fun u : Fin 4 => both (fun d => kitR (F := F) c (1, d, 6, u))) ∗ both (fun d => blank (F := F) c d 7)) ∗ agI X W K c 6)
      ⊢ WP c (agLast c (scaleV (AM X W))) fun _ =>
        iprop(((bigSep Finset.univ fun u : Fin 4 => both (fun d => zero (F := F) c (.rcv (1, d, 6, u)))) ∗ (bigSep Finset.univ fun u : Fin 4 => both (fun d => left (F := F) c d 6 u))
          ∗ (bigSep Finset.univ fun u : Fin 4 => both (fun d => gp X W c d 7 u fullShare))
          ∗ both (fun d => found X W c d 7) ∗ both (fun d => flies X W c d 6) ∗ both (fun d => flies X W c d 7)) ∗ ctx X W K ∗ owesE c 122) := by
  have hl := loopW c 4 (agEnd c) (fun u => both (fun d => kitR (F := F) c (1, d, 6, u))) (fun u => endG X W c u)
    (fun _ => iprop(ctx X W K ∗ owesE c 122)) (fun u => agEnd_spec X W K c u)
  have hB : (bigSep Finset.univ fun u : Fin 4 => endG X W c u)
      ⊢ iprop((bigSep Finset.univ fun u : Fin 4 => both (fun d => gp X W c d 7 u fullShare)) ∗ bigSep Finset.univ fun u : Fin 4 => both (fun d => zero (F := F) c (.rcv (1, d, 6, u)))) := by
    rw [← bigSep_sep']; exact bigSep_mono fun u _ => (both_sep (fun d => gp X W c d 7 u fullShare) (fun d => zero (F := F) c (.rcv (1, d, 6, u)))).1
  have ha := after_spec X W K c 6 fullShare 122
  simp only [show (6 : Fin 7).val + 1 = 7 from rfl] at ha
  unfold agI agLast
  simp only [show (6 : Fin 7).val + 1 = 7 from rfl, show (6 : Fin 7).val = 6 from rfl]
  iintro ⟨⟨HA, Hb⟩, ⟨Hf, Hp, Hh⟩, HI⟩
  iapply (seqW c hl) $$ [HA HI]
  · isplitl [HA] <;> iassumption
  iintro %_ ⟨HB, HI⟩
  ihave HB := hB $$ HB
  icases HB with ⟨Hg, Hz⟩
  ihave Hg := (chunks_join X W c 7 fullShare) $$ Hg
  iapply (lastW c ha) $$ [Hg Hb Hp Hh HI]
  · isplitr [HI]
    · isplitl [Hg]; · iexact Hg
      isplitl [Hb]; · iexact Hb
      isplitl [Hp] <;> iassumption
    iexact HI
  iintro %_ ⟨⟨Hg, Hf', Hn, Hl⟩, HI⟩
  ihave Hg := (chunks_split X W c 7 fullShare) $$ Hg
  isplitr [HI]
  · isplitl [Hz]; · iexact Hz
    isplitl [Hl]; · iexact Hl
    isplitl [Hg]; · iexact Hg
    isplitl [Hn]; · iexact Hn
    isplitl [Hf] <;> iassumption
  iexact HI

theorem finalP_spec :
    iprop((both (fun d => flies X W c d 6) ∗ both (fun d => flies X W c d 7)) ∗ ctx X W K ∗ owesE c 122)
      ⊢ WP c (finalP c) fun _ =>
        iprop((both (fun d => filled X W c d 6) ∗ both (fun d => filled X W c d 7) ∗ both (fun d => iprop(idle (F := F) c (slot d 6) ∗ idle (F := F) c (slot d 7)))) ∗ owesE c 122) := by
  unfold finalP
  simp only [both_eq]
  iintro ⟨⟨⟨Ha, Hb⟩, Hc, Hd⟩, #Hx, Ho⟩
  iapply (seqW c (outWait_spec X W K c false 6 122)) $$ [Ha Ho]
  · isplitr; · iexact Hx
    isplitl [Ha] <;> iassumption
  iintro %_ ⟨Ha, Ia, Ho⟩
  iapply (seqW c (outWait_spec X W K c false 7 122)) $$ [Hc Ho]
  · isplitr; · iexact Hx
    isplitl [Hc] <;> iassumption
  iintro %_ ⟨Hc, Ic, Ho⟩
  iapply (seqW c (outWait_spec X W K c true 6 122)) $$ [Hb Ho]
  · isplitr; · iexact Hx
    isplitl [Hb] <;> iassumption
  iintro %_ ⟨Hb, Ib, Ho⟩
  iapply (lastW c (outWait_spec X W K c true 7 122)) $$ [Hd Ho]
  · isplitr; · iexact Hx
    isplitl [Hd] <;> iassumption
  iintro %_ ⟨Hd, Id, Ho⟩
  isplitr [Ho]
  · isplitl [Ha Hb]; · isplitl [Ha] <;> iassumption
    isplitl [Hc Hd]; · isplitl [Hc] <;> iassumption
    isplitl [Ia Ic]
    · isplitl [Ia] <;> iassumption
    isplitl [Ib] <;> iassumption
  iassumption

end Cert.KernelIdeal.Hand
-- ==== Proof.Parts.lean ====
/- Buffers and families of messages, dealt to the steps and collected from them. -/
module

public import proofs.«01_k».proof.Proof.Gather

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x512.Idx → Elt F .bf16) (W : Dev nD → S512x2048.Idx → Elt F .bf16) (K : Dev nD × SemId → ℕ) (c : Dev nD)

/-! ## Families over the steps, the parts and the directions -/

/-- Over the steps, parts and directions. -/
abbrev over (Φ : Bool → Fin 7 → Fin 4 → sProp 𝕄) : sProp 𝕄 := bigSep Finset.univ fun s : Fin 7 => bigSep Finset.univ fun u : Fin 4 => both fun d => Φ d s u

theorem over_prod (Φ : Bool → Fin 7 → Fin 4 → sProp 𝕄) :
    over Φ = both fun d => bigSep Finset.univ fun t : Fin 7 × Fin 4 => Φ d t.1 t.2 := by
  unfold over
  simp only [bigSep_both (fun d u => Φ d _ u), bigSep_univ_prod]
  rw [bigSep_both (fun d s => bigSep Finset.univ (Φ d s))]

theorem over_msgs (Φ : Msg → sProp 𝕄) :
    bigSep Finset.univ Φ = iprop(over (fun d s u => Φ (0, d, s, u)) ∗ over (fun d s u => Φ (1, d, s, u))) := by
  rw [bigSep_univ_prod, bigSep_univ_eq_bigSepL [(0 : Fin 2), 1] (by decide) (by decide), bigSepL_cons_cons, bigSepL_singleton,
    bigSep_univ_prod, bigSep_univ_prod (fun b : Bool × Fin 7 × Fin 4 => Φ (1, b)), over_prod, over_prod, both_univ, both_univ]
  rfl

theorem over_sep (Φ Ψ : Bool → Fin 7 → Fin 4 → sProp 𝕄) : over (fun d s u => iprop(Φ d s u ∗ Ψ d s u)) ⊣⊢ iprop(over Φ ∗ over Ψ) := by
  have e : ∀ Φ Ψ : Bool → Fin 7 → Fin 4 → sProp 𝕄, iprop(over Φ ∗ over Ψ)
      = bigSep Finset.univ fun s : Fin 7 => bigSep Finset.univ fun u : Fin 4 => iprop(both (fun d => Φ d s u) ∗ both fun d => Ψ d s u) := fun Φ Ψ => by
    unfold over; rw [← bigSep_sep']; simp only [bigSep_sep']
  rw [e]
  exact ⟨bigSep_mono fun s _ => bigSep_mono fun u _ => (both_sep (fun d => Φ d s u) (fun d => Ψ d s u)).1,
    bigSep_mono fun s _ => bigSep_mono fun u _ => (both_sep (fun d => Φ d s u) (fun d => Ψ d s u)).2⟩

theorem over_mono {Φ Ψ : Bool → Fin 7 → Fin 4 → sProp 𝕄} (h : ∀ d s u, Φ d s u ⊢ Ψ d s u) : over Φ ⊢ over Ψ :=
  bigSep_mono fun s _ => bigSep_mono fun u _ => both_mono fun d => h d s u

/-- The first step and the others; the last step and the others. -/
theorem over_first (Φ : Bool → Fin 7 → Fin 4 → sProp 𝕄) :
    over Φ = iprop((bigSep Finset.univ fun u : Fin 4 => both fun d => Φ d 0 u) ∗ bigSep Finset.univ fun s : Fin 6 => bigSep Finset.univ fun u : Fin 4 => both fun d => Φ d s.succ u) :=
  bigSep_fin_succ _
theorem over_last (Φ : Bool → Fin 7 → Fin 4 → sProp 𝕄) :
    over Φ = iprop((bigSep Finset.univ fun u : Fin 4 => both fun d => Φ d 6 u) ∗ bigSep Finset.univ fun s : Fin 6 => bigSep Finset.univ fun u : Fin 4 => both fun d => Φ d s.castSucc u) :=
  bigSep_fin_last _

/-! ## Buffers and their parts -/

theorem any_squeeze {sp : Space} {sh s' : Shape} {e : EltTy} (M : Memref sig .tc sp sh e) (h : sh.Squeezes s') :
    any (F := F) c (M.squeeze s' h) ⊣⊢ any (F := F) c M := by
  unfold any
  constructor
  · iintro ⟨%Y, H⟩
    ihave H := (Entails.of_eq (own_squeeze c M h fullShare Y)) $$ H
    iexists _; iexact H
  · iintro ⟨%Y, H⟩
    have e : (own c (M.squeeze s' h) fullShare (fun i => Y (Shape.reshapeEquiv h.numel_eq i)) : sProp 𝕄) = own c M fullShare Y := by
      rw [own_squeeze]; congr 1; funext x; rw [Shape.reshapeEquiv_reshapeEquiv, Shape.reshapeEquiv_self]
    iexists (fun i => Y (Shape.reshapeEquiv h.numel_eq i))
    iapply (Entails.of_eq e.symm) $$ H

theorem recv_parts (d : Bool) : any (F := F) c (recvM d) ⊣⊢ bigSep Finset.univ fun t : Fin 7 × Fin 4 => any (F := F) c (rSl d t.1 t.2) := by
  have h := fun t : Fin 7 × Fin 4 => any_squeeze (F := F) c ((recvM d).slice (rcR t.1 t.2) (fun _ => rfl)) Facts₀.squeezes_S1x128x1024_S128x1024
  exact ⟨(any_parts c (recvM d) (fun _ _ => rfl) tilesR).trans (bigSep_mono fun t _ => (h t).2),
    BIBase.Entails.trans (bigSep_mono fun t _ => (h t).1) (any_join c (recvM d) (fun _ _ => rfl) tilesR)⟩

theorem stage_parts : any (F := F) c stM ⊣⊢ bigSep Finset.univ fun i : Fin 4 => any (F := F) c (tSl i) := by
  have h := fun i : Fin 4 => any_squeeze (F := F) c (stM.slice (rcT i) (fun _ => rfl)) Facts₀.squeezes_S1x512x1024_S512x1024
  exact ⟨(any_parts c stM (fun _ _ => rfl) tilesT).trans (bigSep_mono fun t _ => (h t).2),
    BIBase.Entails.trans (bigSep_mono fun t _ => (h t).1) (any_join c stM (fun _ _ => rfl) tilesT)⟩

theorem any_chunk (d : Bool) (k : Fin 8) (u : Fin 4) : any (F := F) c ((cSl d k).slice (rcS u) (fun _ => rfl)) = any (F := F) c (gSl d k u) := by
  unfold any
  congr 1; funext Y; exact own_chunk c d k u _ Y

theorem chunk_parts (d : Bool) (k : Fin 8) : any (F := F) c (cSl d k) ⊣⊢ bigSep Finset.univ fun u : Fin 4 => any (F := F) c (gSl d k u) := by
  have e : (bigSep Finset.univ fun u : Fin 4 => any (F := F) c (gSl d k u)) = bigSep Finset.univ fun u : Fin 4 => any (F := F) c ((cSl d k).slice (rcS u) (fun _ => rfl)) :=
    bigSep_congr fun u _ => (any_chunk c d k u).symm
  rw [e]
  exact ⟨any_parts c (cSl d k) (fun _ _ => rfl) tilesS, any_join c (cSl d k) (fun _ _ => rfl) tilesS⟩

/-- The chunks in the order device `c` sees them. -/
def seenE (d : Bool) (c : Dev nD) : Fin 8 ≃ Fin 8 := Equiv.ofBijective (fun j => agChunk d c j.val) ⟨agChunk_inj d c, agChunk_surj d c⟩

theorem gather_parts (d : Bool) : any (F := F) c (agM d) ⊣⊢ bigSep Finset.univ fun j : Fin 8 => bigSep Finset.univ fun u : Fin 4 => any (F := F) c (gSl d (agChunk d c j.val) u) := by
  have e : (bigSep Finset.univ fun k : Fin 8 => any (F := F) c (cSl d k)) = bigSep Finset.univ fun j : Fin 8 => any (F := F) c (cSl d (agChunk d c j.val)) :=
    bigSep_univ_equiv (seenE d c) _
  have h := fun j : Fin 8 => chunk_parts (F := F) c d (agChunk d c j.val)
  constructor
  · refine (any_parts c (agM d) (fun _ _ => rfl) tilesC).trans ?_
    exact (Entails.of_eq e).trans (bigSep_mono fun j _ => (h j).1)
  · refine BIBase.Entails.trans ?_ (any_join c (agM d) (fun _ _ => rfl) tilesC)
    exact BIBase.Entails.trans (bigSep_mono fun j _ => (h j).2) (Entails.of_eq e.symm)

/-- What messages of a direction land in, made of the whole buffers; the own chunk is left. -/
theorem slots_make (d : Bool) : iprop(any (F := F) c (recvM d) ∗ any (F := F) c (agM d)) ⊢ iprop(slots (F := F) d c ∗ any (F := F) c (cSl d (agChunk d c 0))) := by
  unfold slots
  rw [bigSep_sep', bigSep_univ_prod (fun t : Fin 7 × Fin 4 => any (F := F) c (gSl d (agChunk d c (t.1.val + 1)) t.2))]
  iintro ⟨Hr, Hg⟩
  ihave Hr := (recv_parts c d).1 $$ Hr
  ihave Hg := (gather_parts c d).1 $$ Hg
  have e : (bigSep Finset.univ fun j : Fin 8 => bigSep Finset.univ fun u : Fin 4 => any (F := F) c (gSl d (agChunk d c j.val) u))
      = iprop((bigSep Finset.univ fun u : Fin 4 => any (F := F) c (gSl d (agChunk d c 0) u)) ∗ bigSep Finset.univ fun s : Fin 7 => bigSep Finset.univ fun u : Fin 4 => any (F := F) c (gSl d (agChunk d c (s.val + 1)) u)) :=
    bigSep_fin_succ _
  ihave Hg := (Entails.of_eq e) $$ Hg
  icases Hg with ⟨H0, Hg⟩
  ihave H0 := (chunk_parts c d _).2 $$ H0
  isplitl [Hr Hg]
  · isplitl [Hr] <;> iassumption
  iexact H0

/-- The neighbours' rooms, by step. -/
theorem slots_use : both (fun d => slots (F := F) d (fwd d c))
    ⊢ iprop(over (fun d s u => any (F := F) (fwd d c) (rSl d s u)) ∗ over (fun d s u => any (F := F) (fwd d c) (gSl d (agChunk d c s.val) u))) := by
  refine BIBase.Entails.trans ?_ (over_sep _ _).1
  rw [over_prod]
  refine both_mono fun d => Entails.of_eq ?_
  unfold slots
  exact bigSep_congr fun t _ => by rw [agChunk_fwd]

/-! ## The table's rows -/

theorem bigSep_if {n : ℕ} (k : Fin n) (Φ : Fin n → sProp 𝕄) :
    (bigSep Finset.univ fun i => if i = k then iprop(emp) else Φ i) ⊣⊢ bigSep (Finset.univ.erase k) Φ := by
  have h : (bigSep Finset.univ fun i => if i = k then iprop(emp) else Φ i) = iprop(emp ∗ bigSep (Finset.univ.erase k) Φ) := by
    rw [bigSep_univ_at _ k, if_pos rfl]
    congr 1
    exact bigSep_congr fun i hi => if_neg (Finset.ne_of_mem_erase hi)
  rw [h]
  exact ⟨by iintro ⟨-, H⟩; iexact H, by iintro H; isplitr; (· iempintro); iexact H⟩

theorem rots_inj : ∀ c : Fin 8, Function.Injective fun t : Fin 7 => rot false (t.val + 1) c := by decide
theorem rots_all : ∀ c : Fin 8, (Finset.univ.map ⟨fun t : Fin 7 => rot false (t.val + 1) c, rots_inj c⟩) = Finset.univ.erase c := by decide
theorem back_inj : ∀ c : Fin 8, Function.Injective fun s : Fin 7 => rot false (7 - s.val) c := by decide
theorem back_all : ∀ c : Fin 8, (Finset.univ.map ⟨fun s : Fin 7 => rot false (7 - s.val) c, back_inj c⟩) = Finset.univ.erase c := by decide

/-- The own row, and the others on their way. -/
theorem rows_make : any (F := F) c amM ⊢ iprop(any (F := F) c (aSl c) ∗ bundle (F := F) c 0) := by
  refine (any_parts c amM (fun _ _ => rfl) tilesA).trans (Entails.of_eq ?_)
  unfold bundle
  rw [bigSep_univ_at _ c, ← rots_all c, bigSep_map, Finset.filter_true_of_mem fun _ _ => Nat.zero_le _]
  rfl

/-- The rows kept along the way are all of the others' rows for this device. -/
theorem keeps_all : (bigSep Finset.univ fun s : Fin 7 => bigSep Finset.univ fun u : Fin 4 => keep (F := F) c s.val u)
    ⊢ bigSep Finset.univ fun k : Fin 8 => if k = c then iprop(emp) else any (F := F) k (aSl c) := by
  refine BIBase.Entails.trans ?_ (bigSep_if c _).2
  rw [← back_all c, bigSep_map]
  have h : ∀ s : Fin 7, (bigSep Finset.univ fun u : Fin 4 => keep (F := F) c s.val u) ⊢ any (F := F) (rot false (7 - s.val) c) (aSl c) := fun s => by
    have e : keep (F := F) c s.val 0 = any (F := F) (rot false (7 - s.val) c) (aSl c) := if_pos rfl
    exact e ▸ bigSep_elim (Finset.mem_univ (0 : Fin 4))
  exact bigSep_mono fun s _ => h s

/-! ## The output's blocks -/

theorem out_eq (Φ : Bool × Fin 8 → sProp 𝕄) : bigSep Finset.univ Φ = bigSep Finset.univ fun j : Fin 8 => both fun d => Φ (d, agChunk d c j.val) := by
  rw [bigSep_univ_prod, ← both_univ, bigSep_both (fun d (j : Fin 8) => Φ (d, agChunk d c j.val))]
  exact congrArg both (funext fun d => bigSep_univ_equiv (seenE d c) fun k => Φ (d, k))

theorem out_make : any (F := F) c oM ⊢ bigSep Finset.univ fun j : Fin 8 => both fun d => blank (F := F) c d j.val :=
  (any_parts c oM (fun _ _ => rfl) tilesO).trans (Entails.of_eq (out_eq c _))
theorem out_done : (bigSep Finset.univ fun j : Fin 8 => both fun d => filled X W c d j.val) ⊢ own c oM fullShare (OUT X W) :=
  BIBase.Entails.trans (Entails.of_eq (out_eq c (fun t => own c (oSl t.1 t.2) fullShare (OB X W t.1 t.2))).symm)
    (own_glue c oM (fun _ _ => rfl) tilesO fullShare fun t => OB X W t.1 t.2)

/-- The staging slots at rest. -/
theorem idles_eq : iprop(any (F := F) c stM ∗ bigSep Finset.univ fun i : Fin 4 => semVal ((c : Thread nD τ), copySem i) 0)
    ⊣⊢ both fun d => iprop(idle (F := F) c (slot d 0) ∗ idle (F := F) c (slot d 1)) := by
  have e : (bigSep Finset.univ fun i : Fin 4 => idle (F := F) c i) = iprop(idle (F := F) c (slot false 0) ∗ idle (F := F) c (slot false 1) ∗ idle (F := F) c (slot true 0) ∗ idle (F := F) c (slot true 1)) := by
    rw [bigSep_univ_eq_bigSepL [slot false 0, slot false 1, slot true 0, slot true 1] (by decide) (by decide), bigSepL_cons_cons, bigSepL_cons_cons, bigSepL_cons_cons, bigSepL_singleton]
    rfl
  have e' : (bigSep Finset.univ fun i : Fin 4 => idle (F := F) c i) = iprop((bigSep Finset.univ fun i : Fin 4 => any (F := F) c (tSl i)) ∗ bigSep Finset.univ fun i : Fin 4 => semVal ((c : Thread nD τ), copySem i) 0) := by
    unfold idle; rw [bigSep_sep']
  rw [both_eq]
  constructor
  · iintro ⟨Hs, Hz⟩
    ihave Hs := (stage_parts c).1 $$ Hs
    ihave H := (Entails.of_eq (e'.symm.trans e)) $$ [Hs Hz]
    · isplitl [Hs] <;> iassumption
    icases H with ⟨H0, H1, H2, H3⟩
    isplitl [H0 H1]
    · isplitl [H0] <;> iassumption
    isplitl [H2] <;> iassumption
  · iintro ⟨⟨H0, H1⟩, H2, H3⟩
    ihave H := (Entails.of_eq (e.symm.trans e')) $$ [H0 H1 H2 H3]
    · isplitl [H0]; · iexact H0
      isplitl [H1]; · iexact H1
      isplitl [H2] <;> iassumption
    icases H with ⟨Hs, Hz⟩
    isplitl [Hs]
    · iapply (stage_parts c).2 $$ Hs
    iexact Hz

end Cert.KernelIdeal.Hand
-- ==== Proof.Phases.lean ====
/- The three phases of the body: the reduction, the exchange of maxima, the gather. -/
module

public import proofs.«01_k».proof.Proof.Parts

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x512.Idx → Elt F .bf16) (W : Dev nD → S512x2048.Idx → Elt F .bf16) (K : Dev nD × SemId → ℕ) (c : Dev nD)

/-! ## The reduction -/

def redPre : sProp 𝕄 :=
  iprop(over (fun d s u => kitS (F := F) c (0, d, s, u)) ∗ over (fun d s u => kitR (F := F) c (0, d, s, u)) ∗ over (fun d s u => any (F := F) (fwd d c) (rSl d s u))
    ∗ bundle (F := F) c 0 ∗ both (fun d => any (F := F) c (sendM d)) ∗ both (fun d => any (F := F) c (accM d)))
def redPost : sProp 𝕄 :=
  iprop(over (fun d s u => zero (F := F) c (.snd (0, d, s, u))) ∗ over (fun d s u => zero (F := F) c (.rcv (0, d, s, u))) ∗ both (fun d => any (F := F) c (recvM d))
    ∗ (bigSep Finset.univ fun s : Fin 7 => bigSep Finset.univ fun u : Fin 4 => keep (F := F) c s.val u) ∗ both (fun d => any (F := F) c (sendM d))
    ∗ both (fun d => own c (accM d) fullShare (ACW X W d c)))

theorem riders_make : bundle (F := F) c 0 ⊢ bigSep Finset.univ fun u : Fin 4 => riders (F := F) (fwd false c) false 0 u := by
  rw [bigSep_univ_eq_bigSepL [(0 : Fin 4), 1, 2, 3] (by decide) (by decide), bigSepL_cons_cons, bigSepL_cons_cons, bigSepL_cons_cons, bigSepL_singleton]
  unfold riders
  rw [if_pos ⟨rfl, rfl⟩, if_neg (by decide), if_neg (by decide), if_neg (by decide), Nat.sub_zero, rot_zero]
  show _ ⊢ iprop(bundle (F := F) c 0 ∗ emp ∗ emp ∗ emp)
  iintro H
  isplitl [H]; · iexact H
  isplitr; · iempintro
  isplitr <;> iempintro

theorem first_make : iprop((bigSep Finset.univ fun u : Fin 4 => both fun d => kitS (F := F) c (0, d, 0, u)) ∗ (bigSep Finset.univ fun u : Fin 4 => both fun d => any (F := F) (fwd d c) (rSl d 0 u)) ∗ bundle (F := F) c 0)
    ⊢ bigSep Finset.univ fun u : Fin 4 => firstA (F := F) c u := by
  unfold firstA
  rw [bigSep_sep', bigSep_sep']
  exact sep_mono_right (sep_mono_right (riders_make c))

theorem mids_make : iprop((bigSep Finset.univ fun s : Fin 6 => bigSep Finset.univ fun u : Fin 4 => both fun d => kitR (F := F) c (0, d, s.castSucc, u))
      ∗ (bigSep Finset.univ fun s : Fin 6 => bigSep Finset.univ fun u : Fin 4 => both fun d => kitS (F := F) c (0, d, s.succ, u))
      ∗ (bigSep Finset.univ fun s : Fin 6 => bigSep Finset.univ fun u : Fin 4 => both fun d => any (F := F) (fwd d c) (rSl d s.succ u)))
    ⊢ bigSep Finset.univ fun s : Fin 6 => bigSep Finset.univ fun u : Fin 4 => midA' (F := F) c s u := by
  unfold midA'
  simp only [bigSep_sep']
  exact BIBase.Entails.rfl

theorem mids_done : (bigSep Finset.univ fun s : Fin 6 => bigSep Finset.univ fun u : Fin 4 => midB' (F := F) c s u)
    ⊢ iprop((bigSep Finset.univ fun s : Fin 6 => bigSep Finset.univ fun u : Fin 4 => both fun d => any (F := F) c (rSl d s.castSucc u))
      ∗ (bigSep Finset.univ fun s : Fin 6 => bigSep Finset.univ fun u : Fin 4 => both fun d => zero (F := F) c (.rcv (0, d, s.castSucc, u)))
      ∗ (bigSep Finset.univ fun s : Fin 6 => bigSep Finset.univ fun u : Fin 4 => both fun d => zero (F := F) c (.snd (0, d, s.castSucc, u)))
      ∗ (bigSep Finset.univ fun s : Fin 6 => bigSep Finset.univ fun u : Fin 4 => keep (F := F) c s.val u)) := by
  unfold midB'
  simp only [bigSep_sep']
  exact BIBase.Entails.rfl

theorem ends_make : iprop((bigSep Finset.univ fun u : Fin 4 => both fun d => kitR (F := F) c (0, d, 6, u)) ∗ pend0 (F := F) c 6 ∗ both (fun d => any (F := F) c (accM d)))
    ⊢ bigSep Finset.univ fun u : Fin 4 => endA (F := F) c u := by
  unfold endA
  rw [bigSep_sep', bigSep_sep']
  unfold pend0
  refine sep_mono_right (sep_mono_right ?_)
  rw [bigSep_both (fun d u => any (F := F) c (aP d u))]
  exact both_mono fun d => any_parts c (accM d) (fun _ _ => rfl) tilesS

theorem ends_done : (bigSep Finset.univ fun u : Fin 4 => endB X W c u)
    ⊢ iprop((bigSep Finset.univ fun u : Fin 4 => both fun d => any (F := F) c (rSl d 6 u)) ∗ (bigSep Finset.univ fun u : Fin 4 => both fun d => zero (F := F) c (.rcv (0, d, 6, u)))
      ∗ (bigSep Finset.univ fun u : Fin 4 => both fun d => zero (F := F) c (.snd (0, d, 6, u))) ∗ (bigSep Finset.univ fun u : Fin 4 => keep (F := F) c 6 u)
      ∗ both (fun d => any (F := F) c (sendM d)) ∗ both (fun d => own c (accM d) fullShare (ACW X W d c))) := by
  unfold endB
  simp only [bigSep_sep']
  refine sep_mono_right (sep_mono_right (sep_mono_right (sep_mono_right (BI.BIClass.sep_mono ?_ ?_))))
  · rw [bigSep_both (fun d u => any (F := F) c (sSl d u))]
    exact both_mono fun d => any_join c (sendM d) (fun _ _ => rfl) tilesS
  · rw [bigSep_both (fun d u => own c (aP d u) fullShare (accV (SM X W d 6 c u)))]
    exact both_mono fun d => own_glue c (accM d) (fun _ _ => rfl) tilesS fullShare fun u => accV (SM X W d 6 c u)

theorem keeps_join : iprop((bigSep Finset.univ fun u : Fin 4 => keep (F := F) c 6 u) ∗ bigSep Finset.univ fun s : Fin 6 => bigSep Finset.univ fun u : Fin 4 => keep (F := F) c s.val u)
    ⊢ bigSep Finset.univ fun s : Fin 7 => bigSep Finset.univ fun u : Fin 4 => keep (F := F) c s.val u :=
  Entails.of_eq (bigSep_fin_last (fun s : Fin 7 => bigSep Finset.univ fun u : Fin 4 => keep (F := F) c s.val u)).symm

theorem rsI_first : rsI X W K c 0 = iprop(pend0 c 0 ∗ ctx X W K ∗ ins X W c ∗ owesE c 10) := rfl
theorem rsI_last : rsI X W K c (Fin.last 6) = iprop(pend0 c 6 ∗ ctx X W K ∗ ins X W c ∗ owesE c 58) := rfl

variable {Q : PUnit → sProp (MT nD τ sig Unit (Elt F) ℕ UU ℕ)} {k : P (F := F) PUnit}

theorem reduce_spec :
    iprop(redPre (F := F) c ∗ ctx X W K ∗ ins X W c ∗ owesE c 2)
      ⊢ iprop((iprop(redPost X W c ∗ ins X W c ∗ owesE c 58) -∗ WP c k Q)
        -∗ WP c (rsFirst c >>= fun _ => (seqN 6 fun s => seqN 4 (rsMid c s)) >>= fun _ => seqN 4 (rsEnd c) >>= fun _ => k) Q) := by
  unfold redPre redPost
  iintro ⟨⟨HS, HR, HA, HB, Hs, Ha⟩, #Hc, Hi, Ho⟩ Hk
  ihave HS := (Entails.of_eq (over_first (fun d s u => kitS (F := F) c (0, d, s, u)))) $$ HS
  icases HS with ⟨HS0, HS⟩
  ihave HA := (Entails.of_eq (over_first (fun d s u => any (F := F) (fwd d c) (rSl d s u)))) $$ HA
  icases HA with ⟨HA0, HA⟩
  ihave HR := (Entails.of_eq (over_last (fun d s u => kitR (F := F) c (0, d, s, u)))) $$ HR
  icases HR with ⟨HR6, HR⟩
  iapply (seqW c (rsFirst_spec X W K c)) $$ [HS0 HA0 HB Hs Hi Ho]
  · isplitl [HS0 HA0 HB]
    · iapply (first_make c)
      isplitl [HS0]; · iexact HS0
      isplitl [HA0] <;> iassumption
    isplitl [Hs]; · iexact Hs
    isplitr; · iexact Hc
    isplitl [Hi] <;> iassumption
  iintro %_ ⟨Hp, -, Hi, Ho⟩
  iapply (seqW c (rsMids_spec X W K c)) $$ [HR HS HA Hp Hi Ho]
  · isplitl [HR HS HA]
    · iapply (mids_make c)
      isplitl [HR]; · iexact HR
      isplitl [HS] <;> iassumption
    iapply (Entails.of_eq (rsI_first X W K c).symm)
    isplitl [Hp]; · iexact Hp
    isplitr; · iexact Hc
    isplitl [Hi] <;> iassumption
  iintro %_ ⟨HM, HI⟩
  ihave HI := (Entails.of_eq (rsI_last X W K c)) $$ HI
  icases HI with ⟨Hp, -, Hi, Ho⟩
  ihave HM := (mids_done c) $$ HM
  icases HM with ⟨HMr, HMz, HMs, HMk⟩
  iapply (seqW c (rsEnds_spec X W K c)) $$ [HR6 Hp Ha Hi Ho]
  · isplitl [HR6 Hp Ha]
    · iapply (ends_make c)
      isplitl [HR6]; · iexact HR6
      isplitl [Hp] <;> iassumption
    isplitr; · iexact Hc
    isplitl [Hi] <;> iassumption
  iintro %_ ⟨HE, -, Hi, Ho⟩
  ihave HE := (ends_done X W c) $$ HE
  icases HE with ⟨HEr, HEz, HEs, HEk, Hs, Ha⟩
  iapply Hk
  isplitr [Hi Ho]
  · isplitl [HMs HEs]
    · iapply (Entails.of_eq (over_last (fun d s u => zero (F := F) c (.snd (0, d, s, u)))).symm)
      isplitl [HEs] <;> iassumption
    isplitl [HMz HEz]
    · iapply (Entails.of_eq (over_last (fun d s u => zero (F := F) c (.rcv (0, d, s, u)))).symm)
      isplitl [HEz] <;> iassumption
    isplitl [HMr HEr]
    · have h : over (fun d s u => any (F := F) c (rSl d s u)) ⊢ both (fun d => any (F := F) c (recvM d)) := by
        rw [over_prod]; exact both_mono fun d => (recv_parts c d).2
      iapply h
      iapply (Entails.of_eq (over_last (fun d s u => any (F := F) c (rSl d s u))).symm)
      isplitl [HEr] <;> iassumption
    isplitl [HMk HEk]
    · iapply (keeps_join c)
      isplitl [HEk] <;> iassumption
    isplitl [Hs] <;> iassumption
  isplitl [Hi] <;> iassumption

/-! ## The maxima -/

/-- What the row's transfer to device `k` takes, but for the room there. -/
def amKit₀ (k : Fin 8) : sProp 𝕄 :=
  if k = c then pos (F := F) c (.ams k) else iprop(tok (F := F) c (.ams k) false ∗ tok (F := F) k (.amr c) false ∗ pos (F := F) c (.ams k))

def maxPre : sProp 𝕄 :=
  iprop(both (fun d => own c (accM d) fullShare (ACW X W d c)) ∗ any (F := F) c (aSl c)
    ∗ (bigSep Finset.univ fun s : Fin 7 => bigSep Finset.univ fun u : Fin 4 => keep (F := F) c s.val u)
    ∗ (bigSep Finset.univ fun k : Fin 8 => amKit₀ (F := F) c k) ∗ bigSep Finset.univ fun k : Fin 8 => amR (F := F) c k)
def maxPost : sProp 𝕄 :=
  iprop(both (fun d => own c (accM d) fullShare (ACW X W d c)) ∗ own c amM fullShare (AM X W)
    ∗ (bigSep Finset.univ fun k : Fin 8 => zero (F := F) c (.ams k)) ∗ bigSep Finset.univ fun k : Fin 8 => zero (F := F) c (.amr k))

theorem kits_make :
    iprop(((bigSep Finset.univ fun k : Fin 8 => amKit₀ (F := F) c k) ∗ bigSep Finset.univ fun k : Fin 8 => if k = c then iprop(emp) else any (F := F) k (aSl c))
      ∗ bigSep Finset.univ fun k : Fin 8 => own c (aSl c) (Transfers.shareTokN fullShare k.val) (AMrow X W c))
      ⊢ bigSep Finset.univ fun k : Fin 8 => iprop(amKit (F := F) c k ∗ own c (aSl c) (Transfers.shareTokN fullShare k.val) (AMrow X W c)) := by
  have h : ∀ k : Fin 8, iprop(amKit₀ (F := F) c k ∗ if k = c then iprop(emp) else any (F := F) k (aSl c)) ⊢ amKit (F := F) c k := fun k => by
    unfold amKit amKit₀
    by_cases hk : k = c
    · simp only [if_pos hk]; exact Laws.sep_emp.1
    · simp only [if_neg hk]; exact BIBase.Entails.rfl
  rw [bigSep_sep', ← bigSep_sep']
  exact sep_mono_left (bigSep_mono fun k _ => h k)

theorem table_make :
    iprop(own c (aSl c) (Transfers.shareDrop fullShare 8) (AMrow X W c) ∗ bigSep Finset.univ fun k : Fin 8 => amB X W c k)
      ⊢ iprop(own c amM fullShare (AM X W) ∗ (bigSep Finset.univ fun k : Fin 8 => zero (F := F) c (.ams k)) ∗ bigSep Finset.univ fun k : Fin 8 => zero (F := F) c (.amr k)) := by
  unfold amB
  simp only [bigSep_sep']
  iintro ⟨Hd, Ht, Hr, Hz⟩
  isplitr [Hz]
  · iapply (own_glue c amM (fun _ _ => rfl) tilesA fullShare fun k => AMrow X W k)
    iapply (bigSep_hole c (fun k => own c (aSl k) fullShare (AMrow X W k))).2
    isplitl [Hd Ht]
    · iapply (own_deal c (aSl c) fullShare (AMrow X W c) 8).2
      isplitl [Hd] <;> iassumption
    iexact Hr
  iexact Hz

theorem maxima_spec {Q : PUnit → sProp (MT nD τ sig Unit (Elt F) ℕ UU ℕ)} {k : Vec F S8x128 .f32 → P (F := F) PUnit} :
    iprop(maxPre X W c ∗ ctx X W K ∗ owesE c 58)
      ⊢ iprop((iprop(maxPost X W c ∗ owesE c 66) -∗ WP c (k (AM X W)) Q)
        -∗ WP c (amRow c >>= fun _ => seqN 8 (amSend c) >>= fun _ => seqN 8 (amWait c)
          >>= fun _ => Prog.lift (.load amM rcA0.toLoadRect (View.loadsAt_vmem Facts₀.h_S8x128)) >>= k) Q) := by
  unfold maxPre maxPost
  have hs := loopW c 8 (amSend c) (fun k => iprop(amKit (F := F) c k ∗ own c (aSl c) (Transfers.shareTokN fullShare k.val) (AMrow X W c))) (fun k => amP X W c k)
    (fun k => iprop(ctx X W K ∗ owesE c (58 + k.val))) (fun k => amSend_spec X W K c k)
  have hw := loopW c 8 (amWait c) (fun k => iprop(amP X W c k ∗ amR (F := F) c k)) (fun k => amB X W c k)
    (fun k => iprop(ctx X W K ∗ owesE c 66)) (fun k => amWait_spec X W K c k)
  have e0 : 58 + (0 : Fin 9).val = 58 := rfl
  have e1 : 58 + (Fin.last 8).val = 66 := rfl
  rw [e0, e1] at hs
  iintro ⟨⟨Ha, Hr, Hk, Hn, Hw⟩, #Hc, Ho⟩ HQ
  iapply (seqW c (amRow_spec X W c)) $$ [Ha Hr]
  · isplitl [Ha] <;> iassumption
  iintro %_ ⟨Ha, Hr⟩
  ihave Hr := (own_deal c (aSl c) fullShare (AMrow X W c) 8).1 $$ Hr
  icases Hr with ⟨Hd, Ht⟩
  iapply (seqW c hs) $$ [Hk Hn Ht Ho]
  · isplitl [Hk Hn Ht]
    · iapply (kits_make X W c)
      isplitl [Hk Hn]
      · isplitl [Hn]; · iexact Hn
        iapply (keeps_all c) $$ Hk
      iexact Ht
    isplitr; · iexact Hc
    iexact Ho
  iintro %_ ⟨Hp, -, Ho⟩
  iapply (seqW c hw) $$ [Hp Hw Ho]
  · isplitl [Hp Hw]
    · iapply (Entails.of_eq (bigSep_sep' Finset.univ (fun k => amP X W c k) (fun k => amR (F := F) c k)).symm)
      isplitl [Hp] <;> iassumption
    isplitr; · iexact Hc
    iexact Ho
  iintro %_ ⟨HB, -, Ho⟩
  ihave HB := (table_make X W c) $$ [Hd HB]
  · isplitl [Hd] <;> iassumption
  icases HB with ⟨Hm, Hz⟩
  simp only [Prog.lift, Prog.bind_op, Prog.bind_ret]
  iapply (ld c) $$ Hm; iintro Hm
  have e : (fun j => AM X W (rcA0.emb j)) = AM X W := funext fun j => congrArg (AM X W) (Rect.emb_unit_full _ j)
  rw [e]
  iapply HQ
  isplitr [Ho]
  · isplitl [Ha]; · iexact Ha
    isplitl [Hm] <;> iassumption
  iexact Ho

/-! ## The gather -/

def gatPre : sProp 𝕄 :=
  iprop(both (fun d => own c (accM d) fullShare (ACW X W d c)) ∗ both (fun d => any (F := F) c (cSl d (agChunk d c 0)))
    ∗ over (fun d s u => kitS (F := F) c (1, d, s, u)) ∗ over (fun d s u => kitR (F := F) c (1, d, s, u)) ∗ over (fun d s u => any (F := F) (fwd d c) (gSl d (agChunk d c s.val) u))
    ∗ (bigSep Finset.univ fun j : Fin 8 => both fun d => blank (F := F) c d j.val) ∗ both fun d => iprop(idle (F := F) c (slot d 0) ∗ idle (F := F) c (slot d 1)))
def gatPost : sProp 𝕄 :=
  iprop(both (fun d => own c (accM d) fullShare (ACW X W d c)) ∗ over (fun d s u => zero (F := F) c (.snd (1, d, s, u))) ∗ over (fun d s u => zero (F := F) c (.rcv (1, d, s, u)))
    ∗ both (fun d => any (F := F) c (agM d)) ∗ own c oM fullShare (OUT X W) ∗ both fun d => iprop(idle (F := F) c (slot d 0) ∗ idle (F := F) c (slot d 1)))

/-- The first, the last and the others of eight. -/
theorem eight (Φ : ℕ → sProp 𝕄) : (bigSep Finset.univ fun j : Fin 8 => Φ j.val) = iprop(Φ 0 ∗ Φ 7 ∗ bigSep Finset.univ fun s : Fin 6 => Φ (s.val + 1)) := by
  rw [bigSep_fin_succ, bigSep_fin_last]; rfl
/-- The last three and the others of eight. -/
theorem eight' (Φ : ℕ → sProp 𝕄) : (bigSep Finset.univ fun j : Fin 8 => Φ j.val) = iprop(Φ 7 ∗ Φ 6 ∗ Φ 5 ∗ bigSep Finset.univ fun s : Fin 5 => Φ s.val) := by
  rw [bigSep_fin_last, bigSep_fin_last, bigSep_fin_last]; rfl

theorem steps_make :
    iprop((bigSep Finset.univ fun s : Fin 6 => bigSep Finset.univ fun u : Fin 4 => both fun d => kitR (F := F) c (1, d, s.castSucc, u))
      ∗ (bigSep Finset.univ fun s : Fin 6 => bigSep Finset.univ fun u : Fin 4 => both fun d => goes (F := F) c d s.succ u)
      ∗ bigSep Finset.univ fun s : Fin 6 => both fun d => blank (F := F) c d (s.val + 1))
      ⊢ bigSep Finset.univ fun s : Fin 6 => stepGA (F := F) c s := by
  unfold stepGA midGA
  simp only [bigSep_sep']
  iintro ⟨H1, H2, H3⟩
  isplitr [H3]
  · isplitl [H1] <;> iassumption
  iexact H3

theorem steps_done : (bigSep Finset.univ fun s : Fin 6 => stepGB X W c s)
    ⊢ iprop((bigSep Finset.univ fun s : Fin 6 => bigSep Finset.univ fun u : Fin 4 => both fun d => zero (F := F) c (.rcv (1, d, s.castSucc, u)))
      ∗ (bigSep Finset.univ fun s : Fin 6 => bigSep Finset.univ fun u : Fin 4 => both fun d => left (F := F) c d s.castSucc u)
      ∗ bigSep Finset.univ fun s : Fin 5 => both fun d => filled X W c d s.val) := by
  unfold stepGB
  rw [bigSep_sep', bigSep_sep']
  refine sep_mono_right (sep_mono_right ?_)
  rw [bigSep_fin_succ]
  have h : (bigSep Finset.univ fun s : Fin 5 => both fun d => found X W c d (s.succ.val + 1)) ⊢ bigSep Finset.univ fun s : Fin 5 => both fun d => filled X W c d s.val :=
    bigSep_mono fun s _ => both_mono fun d => by
      unfold found
      rw [if_neg (by simp)]
      exact BIBase.Entails.rfl
  iintro ⟨-, H⟩
  iapply h $$ H

theorem rooms_done : iprop(over (fun d s u => any (F := F) c (gSl d (agChunk d c s.val) u)) ∗ bigSep Finset.univ fun u : Fin 4 => both fun d => gp X W c d 7 u fullShare)
    ⊢ both fun d => any (F := F) c (agM d) := by
  have h : (bigSep Finset.univ fun u : Fin 4 => both fun d => gp X W c d 7 u fullShare) ⊢ bigSep Finset.univ fun u : Fin 4 => both fun d => any (F := F) c (gSl d (agChunk d c 7) u) :=
    bigSep_mono fun u _ => both_mono fun d => any_intro c _ _
  have e := bigSep_fin_last fun j : Fin 8 => bigSep Finset.univ fun u : Fin 4 => both fun d => any (F := F) c (gSl d (agChunk d c j.val) u)
  have hb : (bigSep Finset.univ fun j : Fin 8 => bigSep Finset.univ fun u : Fin 4 => both fun d => any (F := F) c (gSl d (agChunk d c j.val) u))
      ⊢ both fun d => any (F := F) c (agM d) := by
    have e1 : (bigSep Finset.univ fun j : Fin 8 => bigSep Finset.univ fun u : Fin 4 => both fun d => any (F := F) c (gSl d (agChunk d c j.val) u))
        = both fun d => bigSep Finset.univ fun j : Fin 8 => bigSep Finset.univ fun u : Fin 4 => any (F := F) c (gSl d (agChunk d c j.val) u) := by
      rw [← bigSep_both (fun d (j : Fin 8) => bigSep Finset.univ fun u : Fin 4 => any (F := F) c (gSl d (agChunk d c j.val) u))]
      exact bigSep_congr fun j _ => bigSep_both (fun d (u : Fin 4) => any (F := F) c (gSl d (agChunk d c j.val) u))
    rw [e1]
    exact both_mono fun d => (gather_parts c d).2
  refine BIBase.Entails.trans ?_ hb
  rw [e]
  iintro ⟨H1, H2⟩
  isplitl [H2]
  · iapply h $$ H2
  iexact H1

theorem goes_make : iprop(over (fun d s u => kitS (F := F) c (1, d, s, u)) ∗ over (fun d s u => any (F := F) (fwd d c) (gSl d (agChunk d c s.val) u)))
    ⊢ over fun d s u => goes (F := F) c d s u :=
  (over_sep (fun d s u => kitS (F := F) c (1, d, s, u)) (fun d s u => any (F := F) (fwd d c) (gSl d (agChunk d c s.val) u))).2
theorem left_split : (over fun d s u => left (F := F) c d s u)
    ⊢ iprop(over (fun d s u => any (F := F) c (gSl d (agChunk d c s.val) u)) ∗ over (fun d s u => zero (F := F) c (.snd (1, d, s, u)))) :=
  (over_sep (fun d s u => any (F := F) c (gSl d (agChunk d c s.val) u)) (fun d s u => zero (F := F) c (.snd (1, d, s, u)))).1

theorem agI_first : agI X W K c 0 = iprop((both (fun d => flies X W c d 0) ∗ both (fun d => prior X W c d 1) ∗ bigSep Finset.univ fun u : Fin 4 => both (fun d => hold X W c d 0 u))
    ∗ ctx X W K ∗ owesE c 74) := rfl
theorem agI_last : agI X W K c (Fin.last 6) = agI X W K c 6 := rfl

theorem gather_spec {Q : PUnit → sProp (MT nD τ sig Unit (Elt F) ℕ UU ℕ)} :
    iprop(gatPre X W c ∗ ctx X W K ∗ owesE c 66)
      ⊢ iprop((∀ v, iprop(gatPost X W c ∗ owesE c 122) -∗ Q v)
        -∗ WP c (quantP false c (invV (AM X W)) >>= fun _ => quantP true c (invV (AM X W)) >>= fun _ => emitP false c (scaleV (AM X W)) 0 >>= fun _ => emitP true c (scaleV (AM X W)) 0
          >>= fun _ => agStart c >>= fun _ => seqN 6 (agStep c (scaleV (AM X W))) >>= fun _ => agLast c (scaleV (AM X W)) >>= fun _ => finalP c) Q) := by
  unfold gatPre gatPost
  have h0 : both (fun d => idle (F := F) c (slot d 0)) = iprop(prior X W c false 0 ∗ prior X W c true 0) := rfl
  have h1 : both (fun d => idle (F := F) c (slot d 1)) = both fun d => prior X W c d 1 := rfl
  iintro ⟨⟨Ha, Hg, HS, HR, HA, HB, Hi⟩, #Hc, Ho⟩ HQ
  ihave Hgo := (goes_make c) $$ [HS HA]
  · isplitl [HS] <;> iassumption
  ihave Hgo := (Entails.of_eq (over_first (fun d s u => goes (F := F) c d s u))) $$ Hgo
  icases Hgo with ⟨Hgo0, Hgo⟩
  ihave HR := (Entails.of_eq (over_last (fun d s u => kitR (F := F) c (1, d, s, u)))) $$ HR
  icases HR with ⟨HR6, HR⟩
  ihave HB := (Entails.of_eq (eight (fun j => both fun d => blank (F := F) c d j))) $$ HB
  icases HB with ⟨HB0, HB7, HB⟩
  ihave Hi := (both_sep (fun d => idle (F := F) c (slot d 0)) (fun d => idle (F := F) c (slot d 1))).1 $$ Hi
  icases Hi with ⟨Hi0, Hi1⟩
  ihave Ha := (Entails.of_eq (both_eq (fun d => own c (accM d) fullShare (ACW X W d c)))) $$ Ha
  ihave Hg := (Entails.of_eq (both_eq (fun d => any (F := F) c (cSl d (agChunk d c 0))))) $$ Hg
  ihave HB0 := (Entails.of_eq (both_eq (fun d => blank (F := F) c d 0))) $$ HB0
  ihave Hi0 := (Entails.of_eq h0) $$ Hi0
  icases Ha with ⟨Ha0, Ha1⟩
  icases Hg with ⟨Hg0, Hg1⟩
  icases HB0 with ⟨Hb0, Hb1⟩
  icases Hi0 with ⟨Hp0, Hp1⟩
  iapply (seqW c (quantP_spec X W c false)) $$ [Ha0 Hg0]
  · isplitl [Ha0] <;> iassumption
  iintro %_ ⟨Ha0, Hg0⟩
  iapply (seqW c (quantP_spec X W c true)) $$ [Ha1 Hg1]
  · isplitl [Ha1] <;> iassumption
  iintro %_ ⟨Ha1, Hg1⟩
  iapply (seqW c (emitP_spec X W K c false 0 fullShare 66)) $$ [Hg0 Hb0 Hp0 Ho]
  · isplitl [Hg0 Hb0 Hp0]
    · isplitl [Hg0]; · iexact Hg0
      isplitl [Hb0] <;> iassumption
    isplitr; · iexact Hc
    iexact Ho
  iintro %_ ⟨⟨Hg0, Hf0, -⟩, -, Ho⟩
  iapply (seqW c (emitP_spec X W K c true 0 fullShare 66)) $$ [Hg1 Hb1 Hp1 Ho]
  · isplitl [Hg1 Hb1 Hp1]
    · isplitl [Hg1]; · iexact Hg1
      isplitl [Hb1] <;> iassumption
    isplitr; · iexact Hc
    iexact Ho
  iintro %_ ⟨⟨Hg1, Hf1, -⟩, -, Ho⟩
  iapply (seqW c (agStart_spec X W K c)) $$ [Hgo0 Hg0 Hg1 Ho]
  · isplitl [Hgo0 Hg0 Hg1]
    · isplitl [Hgo0]; · iexact Hgo0
      iapply (Entails.of_eq (both_eq (fun d => own c (cSl d (agChunk d c 0)) fullShare (GC X W d (agChunk d c 0)))).symm)
      isplitl [Hg0] <;> iassumption
    isplitr; · iexact Hc
    iexact Ho
  iintro %_ ⟨Hh, -, Ho⟩
  iapply (seqW c (agSteps_spec X W K c)) $$ [HR Hgo HB Hf0 Hf1 Hi1 Hh Ho]
  · isplitl [HR Hgo HB]
    · iapply (steps_make c)
      isplitl [HR]; · iexact HR
      isplitl [Hgo] <;> iassumption
    iapply (Entails.of_eq (agI_first X W K c).symm)
    isplitr [Ho]
    · isplitl [Hf0 Hf1]
      · iapply (Entails.of_eq (both_eq (fun d => flies X W c d 0)).symm)
        isplitl [Hf0] <;> iassumption
      isplitl [Hi1]
      · iapply (Entails.of_eq h1) $$ Hi1
      iexact Hh
    isplitr; · iexact Hc
    iexact Ho
  iintro %_ ⟨HB, HI⟩
  ihave HI := (Entails.of_eq (agI_last X W K c)) $$ HI
  ihave HB := (steps_done X W c) $$ HB
  icases HB with ⟨Hz, Hl, Hf⟩
  iapply (seqW c (agLast_spec X W K c)) $$ [HR6 HB7 HI]
  · isplitr [HI]
    · isplitl [HR6] <;> iassumption
    iexact HI
  iintro %_ ⟨⟨Hz6, Hl6, Hgp, Hf5, Hy6, Hy7⟩, -, Ho⟩
  iapply (lastW c (finalP_spec X W K c)) $$ [Hy6 Hy7 Ho]
  · isplitl [Hy6 Hy7]
    · isplitl [Hy6] <;> iassumption
    isplitr; · iexact Hc
    iexact Ho
  iintro %v ⟨⟨Hf6, Hf7, Hi⟩, Ho⟩
  iapply HQ
  ihave Hl := (Entails.of_eq (over_last (fun d s u => left (F := F) c d s u)).symm) $$ [Hl6 Hl]
  · isplitl [Hl6] <;> iassumption
  ihave Hl := (left_split c) $$ Hl
  icases Hl with ⟨Hl, Hs⟩
  isplitr [Ho]
  · isplitl [Ha0 Ha1]
    · iapply (Entails.of_eq (both_eq (fun d => own c (accM d) fullShare (ACW X W d c))).symm)
      isplitl [Ha0] <;> iassumption
    isplitl [Hs]; · iexact Hs
    isplitl [Hz Hz6]
    · iapply (Entails.of_eq (over_last (fun d s u => zero (F := F) c (.rcv (1, d, s, u)))).symm)
      isplitl [Hz6] <;> iassumption
    isplitl [Hl Hgp]
    · iapply (rooms_done X W c)
      isplitl [Hl] <;> iassumption
    isplitr [Hi]
    · iapply (out_done X W c)
      iapply (Entails.of_eq (eight' (fun j => both fun d => filled X W c d j)).symm)
      isplitl [Hf7]; · iexact Hf7
      isplitl [Hf6]; · iexact Hf6
      isplitl [Hf5]; · iexact Hf5
      iexact Hf
    iexact Hi
  iexact Ho

end Cert.KernelIdeal.Hand
-- ==== Proof.Body.lean ====
/- The body, from the barrier to the last wait. -/
module

public import proofs.«01_k».proof.Proof.Phases

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x512.Idx → Elt F .bf16) (W : Dev nD → S512x2048.Idx → Elt F .bf16) (K : Dev nD × SemId → ℕ) (c : Dev nD)

/-! ## The whole body -/

/-- What the schedule hands to device `c`. -/
def hand : sProp 𝕄 :=
  iprop((tok (F := F) (fwd true c) .bar false ∗ tok (F := F) (fwd false c) .bar true ∗ pos (F := F) c .bar ∗ cred (tallyAt (cell c .bar) () 2))
    ∗ (bigSep Finset.univ fun m : Msg => kitS (F := F) c m) ∗ (bigSep Finset.univ fun m : Msg => kitR (F := F) c m)
    ∗ (bigSep Finset.univ fun k : Fin 8 => amKit₀ (F := F) c k) ∗ bigSep Finset.univ fun k : Fin 8 => amR (F := F) c k)
/-- The scratch buffers. -/
def scratch : sProp 𝕄 :=
  iprop(both (fun d => any (F := F) c (recvM d)) ∗ both (fun d => any (F := F) c (sendM d)) ∗ both (fun d => any (F := F) c (accM d)) ∗ both (fun d => any (F := F) c (agM d))
    ∗ any (F := F) c amM ∗ any (F := F) c stM ∗ bigSep Finset.univ fun i : Fin 4 => semVal ((c : Thread nD τ), copySem i) 0)
/-- The cells at the end. -/
def zeros : sProp 𝕄 :=
  iprop(zero (F := F) c .bar ∗ (bigSep Finset.univ fun m : Msg => zero (F := F) c (.snd m)) ∗ (bigSep Finset.univ fun m : Msg => zero (F := F) c (.rcv m))
    ∗ (bigSep Finset.univ fun k : Fin 8 => zero (F := F) c (.ams k)) ∗ bigSep Finset.univ fun k : Fin 8 => zero (F := F) c (.amr k))

theorem slots_both : iprop(both (fun d => any (F := F) c (recvM d)) ∗ both (fun d => any (F := F) c (agM d)))
    ⊢ iprop(slots (F := F) false c ∗ slots (F := F) true c ∗ both fun d => any (F := F) c (cSl d (agChunk d c 0))) := by
  have h := slots_make (F := F) c
  simp only [both_eq]
  iintro ⟨⟨Hr0, Hr1⟩, Hg0, Hg1⟩
  ihave H0 := (h false) $$ [Hr0 Hg0]
  · isplitl [Hr0] <;> iassumption
  ihave H1 := (h true) $$ [Hr1 Hg1]
  · isplitl [Hr1] <;> iassumption
  icases H0 with ⟨Hs0, Hc0⟩
  icases H1 with ⟨Hs1, Hc1⟩
  isplitl [Hs0]; · iexact Hs0
  isplitl [Hs1]; · iexact Hs1
  isplitl [Hc0] <;> iassumption

theorem body_spec :
    iprop(hand (F := F) c ∗ scratch (F := F) c ∗ any (F := F) c oM ∗ ctx X W K ∗ ins X W c ∗ owesE c 0)
      ⊢ WP c (bodyAt c) fun _ => iprop(scratch (F := F) c ∗ zeros (F := F) c ∗ own c oM fullShare (OUT X W) ∗ ins X W c ∗ owesE c 122) := by
  unfold hand scratch zeros bodyAt
  iintro ⟨⟨⟨Ht0, Ht1, Hb, Hcr⟩, HS, HR, Ham, Hamr⟩, ⟨Hrv, Hsd, Hac, Hag, Hmx, Hst, Hcs⟩, HO, #Hc, Hi, Ho⟩
  ihave HS := (Entails.of_eq (over_msgs (fun m => kitS (F := F) c m))) $$ HS
  icases HS with ⟨HS0, HS1⟩
  ihave HR := (Entails.of_eq (over_msgs (fun m => kitR (F := F) c m))) $$ HR
  icases HR with ⟨HR0, HR1⟩
  ihave Hsl := (slots_both c) $$ [Hrv Hag]
  · isplitl [Hrv] <;> iassumption
  icases Hsl with ⟨Hl0, Hl1, Hch⟩
  ihave Hmx := (rows_make c) $$ Hmx
  icases Hmx with ⟨Hrow, Hbu⟩
  ihave HO := (out_make c) $$ HO
  ihave Hid := (idles_eq c).1 $$ [Hst Hcs]
  · isplitl [Hst] <;> iassumption
  iapply (seqW c (barrier_spec X W K c)) $$ [Ht0 Ht1 Hb Hcr Hl0 Hl1 Ho]
  · isplitr; · iexact Hc
    isplitl [Ht0]; · iexact Ht0
    isplitl [Ht1]; · iexact Ht1
    isplitl [Hb]; · iexact Hb
    isplitl [Hcr]; · iexact Hcr
    isplitl [Hl0]; · iexact Hl0
    isplitl [Hl1] <;> iassumption
  iintro %_ ⟨Hl0, Hl1, Hzb, Ho⟩
  ihave Hsl := (slots_use c) $$ [Hl0 Hl1]
  · iapply (Entails.of_eq (both_eq (fun d => slots (F := F) d (fwd d c))).symm)
    isplitl [Hl0] <;> iassumption
  icases Hsl with ⟨Hra, Hga⟩
  iapply (reduce_spec X W K c) $$ [HS0 HR0 Hra Hbu Hsd Hac Hi Ho]
  · unfold redPre
    isplitl [HS0 HR0 Hra Hbu Hsd Hac]
    · isplitl [HS0]; · iexact HS0
      isplitl [HR0]; · iexact HR0
      isplitl [Hra]; · iexact Hra
      isplitl [Hbu]; · iexact Hbu
      isplitl [Hsd] <;> iassumption
    isplitr; · iexact Hc
    isplitl [Hi] <;> iassumption
  unfold redPost
  iintro ⟨⟨Hz0, Hy0, Hrv, Hke, Hsd, Hac⟩, Hi, Ho⟩
  iapply (maxima_spec X W K c) $$ [Hac Hrow Hke Ham Hamr Ho]
  · unfold maxPre
    isplitl [Hac Hrow Hke Ham Hamr]
    · isplitl [Hac]; · iexact Hac
      isplitl [Hrow]; · iexact Hrow
      isplitl [Hke]; · iexact Hke
      isplitl [Ham] <;> iassumption
    isplitr; · iexact Hc
    iexact Ho
  unfold maxPost
  iintro ⟨⟨Hac, Hmx, Hzs, Hzr⟩, Ho⟩
  iapply (gather_spec X W K c) $$ [Hac Hch HS1 HR1 Hga HO Hid Ho]
  · unfold gatPre
    isplitl [Hac Hch HS1 HR1 Hga HO Hid]
    · isplitl [Hac]; · iexact Hac
      isplitl [Hch]; · iexact Hch
      isplitl [HS1]; · iexact HS1
      isplitl [HR1]; · iexact HR1
      isplitl [Hga]; · iexact Hga
      isplitl [HO] <;> iassumption
    isplitr; · iexact Hc
    iexact Ho
  unfold gatPost
  iintro %_ ⟨⟨Hac, Hz1, Hy1, Hag, HO, Hid⟩, Ho⟩
  ihave Hst := (idles_eq c).2 $$ Hid
  icases Hst with ⟨Hst, Hcs⟩
  isplitl [Hrv Hsd Hac Hag Hmx Hst Hcs]
  · isplitl [Hrv]; · iexact Hrv
    isplitl [Hsd]; · iexact Hsd
    isplitl [Hac]
    · have h : both (fun d => own c (accM d) fullShare (ACW X W d c)) ⊢ both fun d => any (F := F) c (accM d) := both_mono fun d => any_intro c _ _
      iapply h $$ Hac
    isplitl [Hag]; · iexact Hag
    isplitl [Hmx]; · iapply (any_intro c amM (AM X W)) $$ Hmx
    isplitl [Hst] <;> iassumption
  isplitl [Hzb Hz0 Hz1 Hy0 Hy1 Hzs Hzr]
  · isplitl [Hzb]; · iexact Hzb
    isplitl [Hz0 Hz1]
    · iapply (Entails.of_eq (over_msgs (fun m => zero (F := F) c (.snd m))).symm)
      isplitl [Hz0] <;> iassumption
    isplitl [Hy0 Hy1]
    · iapply (Entails.of_eq (over_msgs (fun m => zero (F := F) c (.rcv m))).symm)
      isplitl [Hy0] <;> iassumption
    isplitl [Hzs] <;> iassumption
  isplitl [HO]; · iexact HO
  isplitl [Hi] <;> iassumption

end Cert.KernelIdeal.Hand
-- ==== Proof.Deal.lean ====
/- The launch: cells opened, tokens and credit dealt out. -/
module

public import proofs.«01_k».proof.Proof.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x512.Idx → Elt F .bf16) (W : Dev nD → S512x2048.Idx → Elt F .bf16)

/-! ## The cells and their tokens -/

theorem bigSep_sem (Φ : SemId → sProp 𝕄) :
    bigSep Finset.univ Φ = iprop(Φ .bar ∗ (bigSep Finset.univ fun m => Φ (.snd m)) ∗ (bigSep Finset.univ fun m => Φ (.rcv m))
      ∗ (bigSep Finset.univ fun k => Φ (.ams k)) ∗ bigSep Finset.univ fun k => Φ (.amr k)) := by
  rw [bigSep_univ_equiv semIdEquiv Φ, bigSep_univ_sum, bigSep_univ_sum, bigSep_univ_sum, bigSep_univ_sum,
    bigSep_univ_eq_bigSepL [()] (by decide) (by decide), bigSepL_singleton]
  rfl

/-- The semaphores the body owns: the messages', the rows', the copies'. -/
abbrev Own : Type := Msg ⊕ Msg ⊕ Fin 8 ⊕ Fin 8 ⊕ Fin 4
def osem : Own → SemLoc sig
  | .inl m => semLoc (.snd m)
  | .inr (.inl m) => semLoc (.rcv m)
  | .inr (.inr (.inl k)) => semLoc (.ams k)
  | .inr (.inr (.inr (.inl k))) => semLoc (.amr k)
  | .inr (.inr (.inr (.inr i))) => copySem i

def osemAt : Own → Fin 244
  | .inl m => sS m.1 m.2.1 m.2.2.1 m.2.2.2
  | .inr (.inl m) => sR m.1 m.2.1 m.2.2.1 m.2.2.2
  | .inr (.inr (.inl k)) => mS k
  | .inr (.inr (.inr (.inl k))) => mR k
  | .inr (.inr (.inr (.inr i))) => cS i
theorem osem_eq (x : Own) : osem x = .dma (dsem (osemAt x)) := by rcases x with _ | _ | _ | _ | _ <;> rfl

theorem dsem_inj {a b : Fin 244} (h : dsem a = dsem b) : a = b := by
  have h' : 2 + a.val = 2 + b.val := congrArg Fin.val h
  exact Fin.ext (by omega)

def toSem : Own → SemId ⊕ Fin 4
  | .inl m => .inl (.snd m)
  | .inr (.inl m) => .inl (.rcv m)
  | .inr (.inr (.inl k)) => .inl (.ams k)
  | .inr (.inr (.inr (.inl k))) => .inl (.amr k)
  | .inr (.inr (.inr (.inr i))) => .inr i
theorem toSem_injective : Function.Injective toSem := by
  rintro (_ | _ | _ | _ | _) (_ | _ | _ | _ | _) h <;> simp_all [toSem]
theorem osem_toSem (x : Own) : osem x = match toSem x with | .inl y => semLoc y | .inr i => copySem i := by rcases x with _ | _ | _ | _ | _ <;> rfl
theorem decode_copy (i : Fin 4) : decode (copySem i) = none := (decode_dsem _).trans (semAt_cS i)
theorem copySem_inj {i j : Fin 4} (h : copySem i = copySem j) : i = j := by
  have h1 : dsem (cS i) = dsem (cS j) := SemLoc.dma.inj h
  have h2 : 240 + i.val = 240 + j.val := congrArg Fin.val (dsem_inj h1)
  exact Fin.ext (by omega)

theorem osem_injective : Function.Injective osem := fun x y h => by
  rw [osem_toSem, osem_toSem] at h
  apply toSem_injective
  revert h
  rcases toSem x with a | i <;> rcases toSem y with b | j <;> intro h
  · exact congrArg _ (semLoc_injective h)
  · have := congrArg decode h; simp only [decode_semLoc, decode_copy] at this; exact absurd this (by simp)
  · have := congrArg decode h; simp only [decode_semLoc, decode_copy] at this; exact absurd this (by simp)
  · exact congrArg _ (copySem_inj h)

theorem scoped_dsem : ∀ n : Fin 244, (SemLoc.dma (dsem n) : SemLoc sig).isScoped .tc = true := by decide
theorem ownSemFacts : Pipeline.OwnSemFacts cfg0.spec osem where
  isScoped x := by rw [osem_eq]; exact scoped_dsem _
  inj := osem_injective
  disj x w s h := by
    rw [osem_eq] at h
    have h1 : dsem (osemAt x) = (cfg0.spec w).sem s := SemLoc.dma.inj h
    have h2 : ∀ (w : Fin 2) (s : Fin (cfg0.spec w).nbuf), ((cfg0.spec w).sem s).val < 2 := by decide
    have h3 := h2 w s
    rw [← h1] at h3
    have h4 : 2 + (osemAt x).val < 2 := h3
    omega

theorem kcell_injective : Function.Injective (fun x : Dev nD × SemId => cell x.1 x.2) := fun x y h => by
  obtain ⟨h1, h2⟩ := cell_inj h
  exact Prod.ext h1 h2
def kcells : Finset (GSem nD τ sig) := Finset.univ.map ⟨_, kcell_injective⟩

/-- The tokens of a device's own cells. -/
abbrev TokId : Type := Bool ⊕ Msg ⊕ Msg ⊕ Fin 8 ⊕ Fin 8
def tokSem : TokId → SemId × Bool
  | .inl b => (.bar, b)
  | .inr (.inl m) => (.snd m, false)
  | .inr (.inr (.inl m)) => (.rcv m, false)
  | .inr (.inr (.inr (.inl k))) => (.ams k, false)
  | .inr (.inr (.inr (.inr k))) => (.amr k, false)
theorem tokSem_injective : Function.Injective tokSem := by
  rintro (_ | _ | _ | _ | _) (_ | _ | _ | _ | _) h <;> simp_all [tokSem]
def tokOf (x : Dev nD × TokId) : GSem nD τ sig × ℕ × Bool := (cell x.1 (tokSem x.2).1, 0, (tokSem x.2).2)
theorem tokOf_injective : Function.Injective tokOf := fun x y h => by
  obtain ⟨h1, h2⟩ := cell_inj (congrArg Prod.fst h)
  exact Prod.ext h1 (tokSem_injective (Prod.ext h2 (congrArg (fun z : GSem nD τ sig × ℕ × Bool => z.2.2) h)))
def ktoks : Finset (GSem nD τ sig × ℕ × Bool) := Finset.univ.map ⟨tokOf, tokOf_injective⟩

def u₀ : UU := (initOf (Pipeline.cells cfgs cellOf_inj) (Pipeline.launchToks cfgs cellOf_inj), (initOf kcells ktoks, 1))

variable (c : Dev nD)

/-- The tokens of device `c`'s own cells. -/
def toks : sProp 𝕄 :=
  iprop((tok (F := F) c .bar false ∗ tok (F := F) c .bar true) ∗ (bigSep Finset.univ fun m : Msg => tok (F := F) c (.snd m) false)
    ∗ (bigSep Finset.univ fun m : Msg => tok (F := F) c (.rcv m) false) ∗ (bigSep Finset.univ fun k : Fin 8 => tok (F := F) c (.ams k) false)
    ∗ bigSep Finset.univ fun k : Fin 8 => tok (F := F) c (.amr k) false)

def G : sProp 𝕄 :=
  iprop((bigSep Finset.univ fun x : SemId => roundState ER (Rd X W) (cell c x) 0)
    ∗ (bigSep Finset.univ fun x : SemId => iprop(pos (F := F) c x ∗ reached ER (cell c x) 0)) ∗ toks (F := F) c)

theorem toks_eq : (bigSep Finset.univ fun t : TokId => (dutyTok ER (cell c (tokSem t).1) 0 (tokSem t).2 : sProp 𝕄)) = toks c := by
  rw [bigSep_univ_sum, bigSep_univ_sum, bigSep_univ_sum, bigSep_univ_sum, ← both_univ]
  rfl

theorem fund_cells : BI.own (ER (initOf kcells ktoks)) ⊢ (|==> bigSep Finset.univ (G X W) : sProp 𝕄) := by
  have hX (Φ : GSem nD τ sig → sProp 𝕄) : bigSep kcells Φ = bigSep Finset.univ fun c : Dev nD => bigSep Finset.univ fun x : SemId => Φ (cell c x) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => toks_eq c
  iintro HX
  imod (Rounds.fund ER (Rd X W) kcells ktoks) $$ HX with ⟨Hst, Hr, Hat, Htok⟩
  imodintro
  ihave Hst := (Entails.of_eq (hX fun g => roundState ER (Rd X W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos; simp only [bigSep_sep']
  isplitl [Hst]; · iexact Hst
  isplitl [Hat Hr]
  · isplitl [Hat] <;> iassumption
  iexact Htok

/-! ## The semaphores at zero -/

def copies : sProp 𝕄 := bigSep Finset.univ fun i : Fin 4 => semVal ((c : Thread nD τ), copySem i) 0

theorem ownSems0_eq : (Pipeline.ownSems0 (Ix := Unit) (Name := ℕ) (U := UU) (Lvl := ℕ) (Val := Elt F) (τ := τ) osem c : sProp 𝕄)
    = iprop((bigSep Finset.univ fun m : Msg => zero (F := F) c (.snd m)) ∗ (bigSep Finset.univ fun m : Msg => zero (F := F) c (.rcv m))
      ∗ (bigSep Finset.univ fun k : Fin 8 => zero (F := F) c (.ams k)) ∗ (bigSep Finset.univ fun k : Fin 8 => zero (F := F) c (.amr k)) ∗ copies c) := by
  unfold Pipeline.ownSems0
  rw [bigSep_univ_sum, bigSep_univ_sum, bigSep_univ_sum, bigSep_univ_sum]
  rfl
theorem unscopedSems0_eq : (unscopedSems0 c : sProp 𝕄) = zero c .bar := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (iprop((bigSep Finset.univ fun x : SemId => zero (F := F) c x) ∗ copies c) : sProp 𝕄) := by
  rw [ownSems0_eq, unscopedSems0_eq, bigSep_sem]
  iintro ⟨⟨H1, H2, H3, H4, H5⟩, HB⟩
  isplitr [H5]
  · isplitl [HB]; · iexact HB
    isplitl [H1]; · iexact H1
    isplitl [H2]; · iexact H2
    isplitl [H3] <;> iassumption
  iexact H5

theorem open_cells : iprop((bigSep Finset.univ fun x : SemId => zero (F := F) c x) ∗ bigSep Finset.univ fun x : SemId => roundState ER (Rd X W) (cell c x) 0)
      ⊢ (|={Set.univ}=> bigSep Finset.univ fun x : SemId => iprop(∃ κ : ℕ, cellInv ER (Rd X W) κ (cell c x)) : sProp 𝕄) := by
  rw [← bigSep_sep']
  exact (bigSep_mono fun x _ => (Rounds.body_intro ER (Rd X W) (cell c x)).trans inv_alloc).trans (bigSep_fupd _ _)

theorem core_alloc :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun x : SemId => iprop(∃ κ : ℕ, cellInv ER (Rd X W) κ (cell c x)))
          ∗ ((bigSep Finset.univ fun x : SemId => pos (F := F) c x) ∗ bigSep Finset.univ fun x : SemId => reached ER (cell c x) 0) ∗ toks c ∗ copies c) := by
  unfold G
  rw [bigSep_sep']
  iintro ⟨Hos, Hus, Hst, Hat, Htok⟩
  ihave Hv := (sems0_eq (F := F) c) $$ [Hos Hus]
  · isplitl [Hos] <;> iassumption
  icases Hv with ⟨Hv, Hcp⟩
  imod (open_cells X W c) $$ [Hv Hst] with Hinv
  · isplitl [Hv] <;> iassumption
  imodintro
  isplitl [Hinv]; · iexact Hinv
  isplitl [Hat]; · iexact Hat
  isplitl [Htok] <;> iassumption

/-! ## The deal -/

/-- The tokens device `c` pays with. -/
def payToks : sProp 𝕄 :=
  iprop((tok (F := F) (fwd true c) .bar false ∗ tok (F := F) (fwd false c) .bar true) ∗ (bigSep Finset.univ fun m : Msg => tok (F := F) c (.snd m) false)
    ∗ (bigSep Finset.univ fun m : Msg => tok (F := F) (fwd m.2.1 c) (.rcv m) false) ∗ (bigSep Finset.univ fun k : Fin 8 => tok (F := F) c (.ams k) false)
    ∗ bigSep Finset.univ fun k : Fin 8 => tok (F := F) k (.amr c) false)

theorem bigSep_turn {α β : Type} [Fintype α] [Fintype β] [DecidableEq α] [DecidableEq β] (Φ : α → β → sProp (MT nD τ sig Unit (Elt F) ℕ UU ℕ)) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]; rfl

theorem toks_around : (bigSep Finset.univ fun c : Dev nD => (toks c : sProp 𝕄)) ⊢ bigSep Finset.univ fun c : Dev nD => payToks c := by
  have hr : (bigSep Finset.univ fun c : Dev nD => bigSep Finset.univ fun m : Msg => tok (F := F) c (.rcv m) false)
      = bigSep Finset.univ fun c : Dev nD => bigSep Finset.univ fun m : Msg => tok (F := F) (fwd m.2.1 c) (.rcv m) false := by
    rw [bigSep_turn, bigSep_turn (fun (c : Dev nD) (m : Msg) => tok (F := F) (fwd m.2.1 c) (.rcv m) false)]
    exact bigSep_congr fun m _ => bigSep_univ_equiv (ringE m.2.1) (fun c : Dev nD => tok (F := F) c (.rcv m) false)
  have ha : (bigSep Finset.univ fun c : Dev nD => bigSep Finset.univ fun k : Fin 8 => tok (F := F) c (.amr k) false)
      = bigSep Finset.univ fun c : Dev nD => bigSep Finset.univ fun k : Fin 8 => tok (F := F) k (.amr c) false := bigSep_turn _
  unfold toks payToks
  rw [bigSep_sep', bigSep_sep', bigSep_sep', bigSep_sep', bigSep_sep', bigSep_sep', bigSep_sep', bigSep_sep', bigSep_sep', bigSep_sep',
    bigSep_univ_equiv (ringE true) (fun c : Dev nD => tok (F := F) c .bar false),
    bigSep_univ_equiv (ringE false) (fun c : Dev nD => tok (F := F) c .bar true), hr, ha]
  exact BIBase.Entails.rfl

def records (K : Dev nD × SemId → ℕ) : sProp 𝕄 :=
  iprop((bigSep Finset.univ fun x : Dev nD × SemId => cellInv ER (Rd X W) (K x) (cell x.1 x.2)) ∗ bigSep Finset.univ fun x : Dev nD × SemId => reached ER (cell x.1 x.2) 0)
instance records_persistent (K : Dev nD × SemId → ℕ) : BI.Persistent (records X W K) := by unfold records; infer_instance

def linear : sProp 𝕄 := iprop((bigSep Finset.univ fun x : SemId => pos (F := F) c x) ∗ payToks (F := F) c ∗ copies (F := F) c)
def G' : sProp 𝕄 := iprop(∃ K, records X W K ∗ linear (F := F) c)

theorem with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × SemId → ℕ) (c : Dev nD) : iprop(records X W K ∗ linear (F := F) c) ⊢ G' X W c := by
  unfold G'
  iintro H
  iexists K
  iexact H

theorem regroup :
    (bigSep Finset.univ fun c : Dev nD => iprop((bigSep Finset.univ fun x : SemId => iprop(∃ κ : ℕ, cellInv ER (Rd X W) κ (cell c x)))
          ∗ ((bigSep Finset.univ fun x : SemId => pos (F := F) c x) ∗ bigSep Finset.univ fun x : SemId => reached ER (cell c x) 0) ∗ toks c ∗ copies c) : sProp 𝕄)
      ⊢ bigSep Finset.univ (G' X W) := by
  rw [bigSep_sep', bigSep_sep', bigSep_sep', bigSep_sep', ← bigSep_univ_prod (fun x : Dev nD × SemId => iprop(∃ κ : ℕ, cellInv ER (Rd X W) κ (cell x.1 x.2))),
    ← bigSep_univ_prod (fun x : Dev nD × SemId => (reached ER (cell x.1 x.2) 0 : sProp 𝕄))]
  iintro ⟨HI, ⟨Hat, #HR⟩, Htok, Hcp⟩
  ihave HK := (BI.bigSep_exists_pi Finset.univ (fun (x : Dev nD × SemId) (κ : ℕ) => (cellInv ER (Rd X W) κ (cell x.1 x.2) : sProp 𝕄))) $$ HI
  icases HK with ⟨%K, #HI⟩
  ihave Htk := (toks_around (F := F)) $$ Htok
  iapply (with_persistent (R := records X W K) fun c _ => G'_intro X W K c)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The credit -/

/-- What the other devices owe device `c` at launch. -/
def dues : CellTallies nD τ sig Unit :=
  tallyAt (cell c .bar) () 2 + (∑ m : Msg, tallyAt (cell c (.rcv m)) () (NM m.1) + ∑ k : Fin 8, if k = c then 0 else tallyAt (cell c (.amr k)) () NA)

theorem sum_owed (d : Dev nD) : owed d 0 = (∑ b : Bool, tallyAt (cell (bwd b d) .bar) () 1)
    + (∑ m : Msg, tallyAt (cell (fwd m.2.1 d) (.rcv m)) () (NM m.1) + ∑ k : Fin 8, if k = d then 0 else tallyAt (cell k (.amr d)) () NA) := by
  unfold owed
  rw [Finset.sum_congr rfl fun x _ => if_pos (Nat.zero_le (ord x)), ← Equiv.sum_comp payEquiv, Fintype.sum_sum_type, Fintype.sum_sum_type]
  refine congrArg₂ _ (Finset.sum_congr rfl fun b _ => ?_) (congrArg₂ _ (Finset.sum_congr rfl fun m _ => ?_) (Finset.sum_congr rfl fun k _ => ?_))
  · exact if_neg (fun h => Pay.noConfusion h)
  · exact if_neg (fun h => Pay.noConfusion h)
  · show (if Pay.am k = Pay.am d then 0 else _) = _
    by_cases hk : k = d
    · subst hk; rw [if_pos rfl, if_pos rfl]
    · rw [if_neg (fun h => hk (Pay.am.inj h)), if_neg hk]; rfl

theorem sum_dues : (∑ d : Dev nD, owed d 0) = ∑ d : Dev nD, dues d := by
  rw [Finset.sum_congr rfl fun d _ => sum_owed d]
  unfold dues
  simp only [Finset.sum_add_distrib]
  refine congrArg₂ _ ?_ (congrArg₂ _ ?_ ?_)
  · rw [Finset.sum_comm]
    have h : ∀ b : Bool, (∑ d : Dev nD, (tallyAt (cell (bwd b d) .bar) () 1 : CellTallies nD τ sig Unit)) = ∑ d : Dev nD, tallyAt (cell d .bar) () 1 := fun b =>
      Equiv.sum_comp (ringE b).symm fun d : Dev nD => (tallyAt (cell d .bar) () 1 : CellTallies nD τ sig Unit)
    rw [Finset.sum_congr rfl fun b _ => h b, Fintype.sum_bool, ← Finset.sum_add_distrib]
    exact Finset.sum_congr rfl fun d _ => tallyAt_add _ _ _ _
  · rw [Finset.sum_comm, Finset.sum_comm (f := fun (d : Dev nD) (m : Msg) => (tallyAt (cell d (.rcv m)) () (NM m.1) : CellTallies nD τ sig Unit))]
    exact Finset.sum_congr rfl fun m _ => Equiv.sum_comp (ringE m.2.1) fun d : Dev nD => (tallyAt (cell d (.rcv m)) () (NM m.1) : CellTallies nD τ sig Unit)
  · rw [Finset.sum_comm]
    exact Finset.sum_congr rfl fun k _ => Finset.sum_congr rfl fun d _ => by
      by_cases h : k = d
      · rw [if_pos h, if_pos h.symm]
      · rw [if_neg h, if_neg (Ne.symm h)]

theorem tallyAt_at {d : Dev nD} {x : SemId} {n : ℕ} {g : GSem nD τ sig} (h : g.1 ≠ (d.tc : Thread nD τ)) : (tallyAt (cell d x) () n : CellTallies nD τ sig Unit) g = 0 :=
  tallyAt_ne_cell (fun e => h (congrArg Prod.fst e)) _ _

theorem dues_at (d : Dev nD) (g : GSem nD τ sig) (h : dues d g ≠ 0) : g.1 = (d.tc : Thread nD τ) := by
  by_contra hn
  apply h
  unfold dues
  rw [Pi.add_apply, Pi.add_apply, tallyAt_at hn, Finset.sum_apply, Finset.sum_apply, Finset.sum_eq_zero fun m _ => tallyAt_at hn,
    Finset.sum_eq_zero fun k _ => by
      by_cases hk : k = d
      · rw [if_pos hk]; rfl
      · rw [if_neg hk]; exact tallyAt_at hn]
  rw [add_zero, add_zero]

theorem cred_sum {I : Type} [DecidableEq I] (s : Finset I) (T : I → CellTallies nD τ sig Unit) : (cred (∑ i ∈ s, T i) : sProp 𝕄) = bigSep s fun i => cred (T i) := by
  induction s using Finset.induction_on with
  | empty => rw [Finset.sum_empty, cred_zero, bigSep_empty]; rfl
  | insert a s ha ih => rw [Finset.sum_insert ha, bigSep_insert ha, BI.Entails.antisymm (cred_add _ _).1 (cred_add _ _).2, ih]; rfl

theorem creds : (Pipeline.launchCred (fun d => owed d 0) c : sProp 𝕄)
    ⊢ iprop(cred (tallyAt (cell c .bar) () 2) ∗ (bigSep Finset.univ fun m : Msg => tick (F := F) c (.rcv m))
      ∗ bigSep Finset.univ fun k : Fin 8 => if k = c then iprop(emp) else tick (F := F) c (.amr k)) := by
  rw [Pipeline.launchCred_of_sum (fun d => owed d 0) dues sum_dues dues_at c]
  have e : (fun k : Fin 8 => (cred (if k = c then 0 else tallyAt (cell c (.amr k)) () NA) : sProp 𝕄)) = fun k => if k = c then iprop(emp) else tick (F := F) c (.amr k) := by
    funext k
    by_cases hk : k = c
    · rw [if_pos hk, if_pos hk, cred_zero]
    · rw [if_neg hk, if_neg hk]; rfl
  unfold dues
  iintro H
  ihave H := (cred_add _ _).1 $$ H
  icases H with ⟨H1, H⟩
  ihave H := (cred_add _ _).1 $$ H
  icases H with ⟨H2, H3⟩
  isplitl [H1]; · iexact H1
  isplitl [H2]
  · iapply (Entails.of_eq (cred_sum Finset.univ fun m : Msg => tallyAt (cell c (.rcv m)) () (NM m.1))) $$ H2
  ihave H3 := (Entails.of_eq (cred_sum Finset.univ fun k : Fin 8 => if k = c then 0 else tallyAt (cell c (.amr k)) () NA)) $$ H3
  iapply (Entails.of_eq (congrArg (bigSep Finset.univ) e)) $$ H3

/-! ## What the body starts with -/

theorem rows_kits :
    iprop((bigSep Finset.univ fun k : Fin 8 => pos (F := F) c (.ams k)) ∗ (bigSep Finset.univ fun k : Fin 8 => tok (F := F) c (.ams k) false)
      ∗ bigSep Finset.univ fun k : Fin 8 => tok (F := F) k (.amr c) false) ⊢ bigSep Finset.univ fun k : Fin 8 => amKit₀ (F := F) c k := by
  rw [← bigSep_sep', ← bigSep_sep']
  have h : ∀ k : Fin 8, iprop(pos (F := F) c (.ams k) ∗ tok (F := F) c (.ams k) false ∗ tok (F := F) k (.amr c) false) ⊢ amKit₀ (F := F) c k := fun k => by
    unfold amKit₀
    by_cases hk : k = c
    · rw [if_pos hk]
      iintro ⟨H, -, -⟩; iexact H
    · rw [if_neg hk]
      iintro ⟨H1, H2, H3⟩
      isplitl [H2]; · iexact H2
      isplitl [H3] <;> iassumption
  exact bigSep_mono fun k _ => h k

theorem rows_waits :
    iprop((bigSep Finset.univ fun k : Fin 8 => pos (F := F) c (.amr k)) ∗ bigSep Finset.univ fun k : Fin 8 => if k = c then iprop(emp) else tick (F := F) c (.amr k))
      ⊢ bigSep Finset.univ fun k : Fin 8 => amR (F := F) c k := by
  rw [← bigSep_sep']
  have h : ∀ k : Fin 8, iprop(pos (F := F) c (.amr k) ∗ if k = c then iprop(emp) else tick (F := F) c (.amr k)) ⊢ amR (F := F) c k := fun k => by
    unfold amR
    by_cases hk : k = c
    · simp only [if_pos hk]
      exact Laws.sep_emp.1
    · simp only [if_neg hk]
      iintro ⟨H1, H2⟩
      isplitl [H2] <;> iassumption
  exact bigSep_mono fun k _ => h k

theorem hand_intro :
    iprop(((bigSep Finset.univ fun x : SemId => pos (F := F) c x) ∗ payToks (F := F) c) ∗ Pipeline.launchCred (fun d => owed d 0) c) ⊢ hand (F := F) c := by
  unfold payToks hand kitS kitR
  rw [bigSep_sem, bigSep_sep', bigSep_sep', bigSep_sep']
  iintro ⟨⟨⟨P1, P2, P3, P4, P5⟩, ⟨T1, T2⟩, T3, T4, T5, T6⟩, Hc⟩
  ihave Hc := (creds c) $$ Hc
  icases Hc with ⟨C1, C2, C3⟩
  isplitl [P1 T1 T2 C1]
  · isplitl [T1]; · iexact T1
    isplitl [T2]; · iexact T2
    isplitl [P1] <;> iassumption
  isplitl [P2 T3 T4]
  · isplitl [T3]; · iexact T3
    isplitl [T4] <;> iassumption
  isplitl [P3 C2]
  · isplitl [C2] <;> iassumption
  isplitl [P4 T5 T6]
  · iapply (rows_kits c)
    isplitl [P4]; · iexact P4
    isplitl [T5] <;> iassumption
  iapply (rows_waits c)
  isplitl [P5] <;> iassumption

end Cert.KernelIdeal.Hand
-- ==== Proof.Run.lean ====
/- The run of the program: every device's result, its arguments, its counters. -/
module

public import proofs.«01_k».proof.Proof.Deal
public import proofs.«01_k».proof.Proof.Gen.KernelIdeal.Frame
public import Idealize.ShloMosaic.Lib.Quiescent
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The operands as the body finds them. -/
def Xin (c : Dev nD) : S4096x512.Idx → Elt F .bf16 := iblk m c 0 t0_0
def Win (c : Dev nD) : S512x2048.Idx → Elt F .bf16 := iblk m c 1 t0_0

def Φ₀ (c : Dev nD) : sProp 𝕄 := iprop((∃ K, ctx (Xin m) (Win m) K ∗ hand (F := F) c) ∗ scratch (F := F) c ∗ any (F := F) c oM)
def Φ₁ (c : Dev nD) : sProp 𝕄 := iprop(scratch (F := F) c ∗ zeros (F := F) c ∗ own c oM fullShare (OUT (Xin m) (Win m)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xin m c
    | ⟨1, _⟩ => Win m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem share_eq (c : Dev nD) (w : Fin cfg0.W) : (dats m ρ 0 c).share w = fullShare := by unfold Dat.share; split <;> rfl

theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- A whole buffer at some contents, as the launch has it. -/
theorem any_whole (c : Dev nD) (b : Ref sig .tc) :
    iprop(∃ f : Buf (Elt F) ((c : Thread nD τ).loc b), ((c : Thread nD τ).loc b) ↦{fullShare} f) ⊣⊢ any (F := F) c (Memref.whole b) := by
  unfold any own
  constructor
  · iintro ⟨%f, H⟩
    iexists f
    rw [owns_whole_eq]
    iexists f
    isplitr; · (ipureintro; rfl)
    iexact H
  · iintro ⟨%V, H⟩
    ihave H := (Entails.of_eq (owns_whole_eq c b V)) $$ H
    icases H with ⟨%f, -, H⟩
    iexists f
    iexact H

/-! ## The body's obligation -/

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (Xin m c) ∗ stg c cc0_stg1_0 (Win m c))

theorem stg_own (c : Dev nD) (b : Ref sig .tc) (V : b.ty.Contents (Elt F)) : stg c b V = own c (Memref.whole b) fullShare V := (owns_whole_eq c b V).symm

theorem before_x (c : Dev nD) (d) : (dats m ρ 0 c).before (0 : Fin 2) t0_0 d = Xin m c := by
  unfold Dat.before; rw [if_pos (fetch0_0 t0_0)]; rfl
theorem before_w (c : Dev nD) (d) : (dats m ρ 0 c).before (1 : Fin 2) t0_0 d = Win m c := by
  unfold Dat.before; rw [if_pos (fetch0_1 t0_0)]; rfl

theorem owes_in (c : Dev nD) : (dats m ρ 0 c).owesAt () t0_0.castSucc ⊢ owesE (F := F) c 0 := by
  unfold Dat.owesAt Pipeline.owesWithin owesE
  iintro ⟨%Ws, -, H⟩
  iexists Ws
  iexact H
theorem owes_out (c : Dev nD) : owesE (F := F) c 122 ⊢ (dats m ρ 0 c).owesAt () t0_0.succ := by
  unfold Dat.owesAt Pipeline.owesWithin owesE
  rw [owed_end]
  iintro ⟨%Ws, H⟩
  iexists Ws
  isplitr; · ipureintro; exact fun _ _ => Or.inl trivial
  iexact H

theorem dev_wp (c : Dev nD) (b : Prog (TpuEff nD τ sig (Elt F) Λ₀ .tc) PUnit) (k : Dev nD → Prog (TpuEff nD τ sig (Elt F) Λ₀ .tc) PUnit)
    (hb : b = .op .deviceId k) (Q : PUnit → sProp (MT nD τ sig Unit (Elt F) ℕ UU ℕ)) : WP c b Q = WP c (k c) Q := by
  subst hb
  unfold WP
  rw [wp_deviceId]

theorem body_wp (c : Dev nD) (Q : PUnit → sProp (MT nD τ sig Unit (Elt F) ℕ UU ℕ)) : WP c body0 Q = WP c (bodyAt c) Q :=
  (dev_wp c body0 _ body_dev Q).trans (congrArg (fun p => WP c p Q) (body_eq c))

theorem sound_body (c : Dev nD) : bodyPre m ρ c ⊢ WP c body0 fun _ => bodyPost m ρ c := by
  rw [body_wp]
  unfold bodyPre bodyPost Φ₀ Φ₁
  simp only [before_x, before_w, stg_own]
  iintro ⟨⟨⟨%K, #Hc, Hh⟩, Hs, Hout⟩, Ho, ⟨%d0, Hx⟩, ⟨%d1, Hw⟩⟩
  ihave Ho := (owes_in m ρ c) $$ Ho
  iapply (lastW c (body_spec (Xin m) (Win m) K c)) $$ [Hh Hs Hout Ho Hx Hw]
  · isplitl [Hh]; · iexact Hh
    isplitl [Hs]; · iexact Hs
    isplitl [Hout]; · iexact Hout
    isplitr; · iexact Hc
    isplitl [Hx Hw]
    · unfold ins
      isplitl [Hx] <;> iassumption
    iexact Ho
  unfold ins
  iintro %_ ⟨Hs, Hz, Hout, ⟨Hx, Hw⟩, Ho⟩
  isplitl [Hs Hz Hout]
  · isplitl [Hs]; · iexact Hs
    isplitl [Hz] <;> iassumption
  isplitl [Ho]; · iapply (owes_out m ρ c) $$ Ho
  isplitl [Hx] <;> iassumption

theorem body_def : (defs₀ (F := F)) .tc cfg0.body (cfg0.bodyArgs t0_0 (cfg0.slots t0_0)) = body0 := rfl

set_option maxRecDepth 8000 in
theorem body_obligation (c : Dev nD) : BodyObligation (dats (F := F) m ρ 0 c) (defs₀ (F := F)) 𝒱₀ () Set.univ := fun t => by
  rw [fin_N0 t]
  rw [body_def]
  have h := sound_body m ρ c
  generalize hb : (body0 : P (F := F) PUnit) = b at h ⊢
  clear hb
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  exact h

/-! ## The launch's conditions -/

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' (Xin m) (Win m) c)
      ⊢ |={Set.univ}=> iprop(((∃ K, ctx (Xin m) (Win m) K ∗ hand (F := F) c) ∗ copies (F := F) c ∗ any (F := F) c oM) ∗ emp) := by
  rw [Pipeline.unscopedRestP_none]
  rw [show (Pipeline.unscopedRest cfg0.spec c (fun b => m ((c : Thread nD τ).loc b)) : sProp 𝕄) = _ from unscopedRest0_eq c _]
  unfold G' linear
  iintro ⟨Hout, #Hlev, Hcr, -, ⟨%K, #Hr, Hp, Ht, Hcp⟩⟩
  imodintro
  isplitl
  · isplitl [Hcr Hp Ht]
    · iexists K
      isplitr
      · unfold ctx records
        icases Hr with ⟨#H1, #H2⟩
        isplitr; · iexact H1
        isplitr; · iexact H2
        iexact Hlev
      iapply (hand_intro c)
      isplitl [Hp Ht]
      · isplitl [Hp] <;> iassumption
      iexact Hcr
    isplitl [Hcp]; · iexact Hcp
    iapply (any_whole c main_v1).1
    iexists _
    iexact Hout
  iempintro

theorem scratch_intro (c : Dev nD) : iprop(copies (F := F) c ∗ Pipeline.scopedRest cfg0.spec c) ⊢ scratch (F := F) c := by
  rw [show (Pipeline.scopedRest cfg0.spec c : sProp 𝕄) = _ from scopedRest0_eq c]
  have h := fun b => (any_whole (F := F) c b).1
  unfold scratch copies
  simp only [both_eq]
  iintro ⟨Hc, H0, H1, H2, H3, H4, H5, H6, H7, H8, H9⟩
  isplitl [H0 H1]
  · isplitl [H0]; · iapply (h cc0_scratch0) $$ H0
    iapply (h cc0_scratch1) $$ H1
  isplitl [H2 H3]
  · isplitl [H2]; · iapply (h cc0_scratch2) $$ H2
    iapply (h cc0_scratch3) $$ H3
  isplitl [H4 H5]
  · isplitl [H4]; · iapply (h cc0_scratch4) $$ H4
    iapply (h cc0_scratch5) $$ H5
  isplitl [H6 H7]
  · isplitl [H6]; · iapply (h cc0_scratch6) $$ H6
    iapply (h cc0_scratch7) $$ H7
  isplitl [H8]; · iapply (h cc0_scratch8) $$ H8
  isplitl [H9]; · iapply (h cc0_scratch9) $$ H9
  iexact Hc

theorem scratch_elim (c : Dev nD) : scratch (F := F) c ⊢ iprop(copies (F := F) c ∗ Pipeline.scopedRest cfg0.spec c) := by
  rw [show (Pipeline.scopedRest cfg0.spec c : sProp 𝕄) = _ from scopedRest0_eq c]
  have h := fun b => (any_whole (F := F) c b).2
  unfold scratch copies
  simp only [both_eq]
  iintro ⟨⟨H0, H1⟩, ⟨H2, H3⟩, ⟨H4, H5⟩, ⟨H6, H7⟩, H8, H9, Hc⟩
  isplitl [Hc]; · iexact Hc
  isplitl [H0]; · iapply (show any (F := F) c (recvM false) ⊢ _ from h cc0_scratch0) $$ H0
  isplitl [H1]; · iapply (show any (F := F) c (recvM true) ⊢ _ from h cc0_scratch1) $$ H1
  isplitl [H2]; · iapply (show any (F := F) c (sendM false) ⊢ _ from h cc0_scratch2) $$ H2
  isplitl [H3]; · iapply (show any (F := F) c (sendM true) ⊢ _ from h cc0_scratch3) $$ H3
  isplitl [H4]; · iapply (show any (F := F) c (accM false) ⊢ _ from h cc0_scratch4) $$ H4
  isplitl [H5]; · iapply (show any (F := F) c (accM true) ⊢ _ from h cc0_scratch5) $$ H5
  isplitl [H6]; · iapply (show any (F := F) c (agM false) ⊢ _ from h cc0_scratch6) $$ H6
  isplitl [H7]; · iapply (show any (F := F) c (agM true) ⊢ _ from h cc0_scratch7) $$ H7
  isplitl [H8]; · iapply (h cc0_scratch8) $$ H8
  iapply (h cc0_scratch9) $$ H9

theorem phi_in (c : Dev nD) :
    iprop(((∃ K, ctx (Xin m) (Win m) K ∗ hand (F := F) c) ∗ copies (F := F) c ∗ any (F := F) c oM)
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨⟨HK, Hcp, Hout⟩, -, Hr⟩
  isplitl [HK]; · iexact HK
  isplitl [Hcp Hr]
  · iapply (scratch_intro c)
    isplitl [Hcp] <;> iassumption
  iexact Hout

theorem phi_out (c : Dev nD) :
    (dats m ρ 0 c).Φ (Fin.last cfg0.N)
      ⊢ iprop((unscopedSems0 c ∗ own c oM fullShare (OUT (Xin m) (Win m))) ∗ Pipeline.ownSems0 osem c ∗ Pipeline.scopedRest cfg0.spec c) := by
  rw [show (dats m ρ 0 c).Φ (Fin.last cfg0.N) = Φ₁ m c from rfl, ownSems0_eq, unscopedSems0_eq]
  unfold Φ₁ zeros
  iintro ⟨Hs, ⟨Hb, H1, H2, H3, H4⟩, Hout⟩
  ihave Hs := (scratch_elim c) $$ Hs
  icases Hs with ⟨Hcp, Hr⟩
  isplitl [Hb Hout]
  · isplitl [Hb] <;> iassumption
  isplitr [Hr]
  · isplitl [H1]; · iexact H1
    isplitl [H2]; · iexact H2
    isplitl [H3]; · iexact H3
    isplitl [H4] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    have hl : ∀ (w : Fin 2) (s : Fin (cfg0.spec w).nbuf), lv ((0 : Dev nD).tc, .dma ((cfg0.spec w).sem s)) () = 0 := by decide
    rcases t with ⟨_ | _, ht⟩
    · exact mayWait0 c _ 0 (hl w s)
    · have h := mayWait0 (F := F) c (.dma ((cfg0.spec w).sem s)) 122 (hl w s)
      rw [owed_end] at h
      exact h

theorem out_read (c : Dev nD) (V : S4096x2048.Idx → Elt F .bf16) (s' : Phys nD τ sig (Elt F)) :
    iprop((unscopedSems0 c ∗ own c oM fullShare V) ∗ SI s')
      ⊢ |={Set.univ}=> iprop(⌜(∀ sm : SemLoc sig, sm.isScoped .tc = false → s'.mem.sem ((c.tc : Thread nD τ), sm) = 0) ∧ s'.mem.mem ((c : Thread nD τ).loc main_v1) = V⌝ ∗ (SI s' : sProp 𝕄)) := by
  iintro ⟨⟨Hu, Ho⟩, HSI⟩
  imod (Pipeline.unscopedSems0_read (X := unscopedSems0 c) (c := c) fupd_intro s') $$ [Hu HSI] with ⟨%hs, HSI⟩
  · isplitl [Hu] <;> iassumption
  ihave Ho := (Entails.of_eq (owns_whole_eq c main_v1 V)) $$ Ho
  icases Ho with ⟨%f, %hf, Ho⟩
  subst hf
  icombine HSI Ho gives %hm
  imodintro
  isplitr
  · ipureintro
    exact ⟨hs, funext fun i => hm i (Finset.mem_univ i)⟩
  iexact HSI

/-! ## The run -/

theorem fund_pair (X W) :
    (BI.own ((embR : Emb (UB × Counters) 𝕄).toFun (initOf kcells ktoks, 1)) : sProp 𝕄) ⊢ |==> bigSep Finset.univ (G (F := F) X W) := fund_cells X W

set_option maxRecDepth 20000 in
set_option maxHeartbeats 4000000 in
theorem run_main : θ_run defs (onTc (τ := τ) (main (F := F))) (s₀ m ρ) (fun r =>
    (∀ c : Dev nD, r.2.mem ((c : Thread nD τ).loc main_v1) = OUT (Xin m) (Win m)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G (Xin m) (Win m)) (G' := G' (Xin m) (Win m)) (u₀ := u₀)
    (hu₀ := by
      unfold u₀
      iintro Hu
      ihave H := (ownU_pair _ _) $$ Hu
      icases H with ⟨HP, HX⟩
      imod (fund_pair (Xin m) (Win m)) $$ HX with HG
      imodintro
      isplitl [HP] <;> iassumption)
    (hglob := glob (Xin m) (Win m))
    (hA := fun _ _ => rfl) (hpf := fun _ k => k.elim0)
    (X := fun c => iprop((∃ K, ctx (Xin m) (Win m) K ∗ hand (F := F) c) ∗ copies (F := F) c ∗ any (F := F) c oM))
    (Y := fun c => iprop(unscopedSems0 c ∗ own c oM fullShare (OUT (Xin m) (Win m)))) (Z := fun _ => iprop(emp))
    (hX := start_intro m ρ) (hin := phi_in m ρ) (hout := phi_out m ρ)
    (QY := fun c s => (∀ sm : SemLoc sig, sm.isScoped .tc = false → s.sem ((c.tc : Thread nD τ), sm) = 0) ∧ s.mem ((c : Thread nD τ).loc main_v1) = OUT (Xin m) (Win m))
    (hY := fun c s' => by
      iintro ⟨Hu, -, HSI⟩
      iapply (out_read c (OUT (Xin m) (Win m)) s')
      isplitl [Hu] <;> iassumption)
    (hQ := fun s h hs => ⟨fun c => ⟨(h c).2.2.2,
      ((h c).1 0).trans ((dats m ρ 0 c).arrAt_in (0 : Fin 2) rfl _), ((h c).1 1).trans ((dats m ρ 0 c).arrAt_in (1 : Fin 2) rfl _)⟩,
      sem_eq_zero hs fun c => (h c).2.2.1⟩)

end Cert.KernelIdeal.Hand
-- ==== Proof.Value.lean ====
/- The mathematics: over the extended reals the program's result is the reference's. -/
module

public import proofs.«01_k».proof.Proof.Run
public import proofs.«01_k».proof.Proof.Gen.ReferenceIdeal.Value
public import Idealize.ShloMosaic.Lib.MatmulPlain
public import Idealize.ShloMosaic.Lib.ValueIdx
public import Idealize.ShloMosaic.Lib.Layout
public import Idealize.ShloMosaic.PureOps.Reduce
public import Idealize.ShloMosaic.PureOps.Ideal.Laws

@[expose] public section

noncomputable section

namespace Cert.KernelIdeal.Hand

open Cert.KernelIdeal Cert.KernelIdeal.Gen
open Idealize.ShloMosaic Idealize.ShloMosaic.TcCoe Idealize.ShloMosaic.ValueIdx
open Idealize.SL.Sem

/-! ## Scalars -/

theorem bits448 : Ideal.ofBits .f32 0x43E00000#32 = ((448 : ℝ) : EReal) := by
  simp [Ideal.ofBits, Ideal.ieee, -EReal.coe_mul]
  norm_num
theorem bitsBot : Ideal.ofBits .f32 0xFF800000#32 = (⊥ : EReal) := by
  simp [Ideal.ofBits, Ideal.ieee]

/-- One entry, quantised and read back: multiplying by the reciprocal is dividing, and the clip is idle. -/
theorem quant_entry (y a : EReal) (hy : 0 ≤ y) (ha : y ≤ a) :
    y * Ideal.div ((448 : ℝ) : EReal) a * Ideal.div a ((448 : ℝ) : EReal)
      = min (Ideal.div y (Ideal.div a ((448 : ℝ) : EReal))) ((448 : ℝ) : EReal) * Ideal.div a ((448 : ℝ) : EReal) := by
  have h448 : ((448 : ℝ) : EReal) ≠ 0 := by exact_mod_cast (by norm_num : (448 : ℝ) ≠ 0)
  have hs : Ideal.div a ((448 : ℝ) : EReal) = a * ((448 : ℝ) : EReal)⁻¹ := by
    unfold Ideal.div; rw [if_neg h448]
  rcases eq_or_ne a 0 with h0 | h0
  · have : Ideal.div a ((448 : ℝ) : EReal) = 0 := by rw [hs, h0, zero_mul]
    rw [this, mul_zero, mul_zero]
  · have hi : Ideal.div ((448 : ℝ) : EReal) a = ((448 : ℝ) : EReal) * a⁻¹ := by
      unfold Ideal.div; rw [if_neg h0]
    rcases eq_or_ne a ⊤ with ht | ht
    · have e1 : Ideal.div ((448 : ℝ) : EReal) a = 0 := by rw [hi, ht, EReal.inv_top, mul_zero]
      have e2 : Ideal.div a ((448 : ℝ) : EReal) = ⊤ := by
        rw [hs, ht, ← EReal.coe_inv]; exact EReal.top_mul_coe_of_pos (by norm_num)
      have e3 : Ideal.div y ⊤ = 0 := by
        unfold Ideal.div; rw [if_neg EReal.top_ne_zero, EReal.inv_top, mul_zero]
      rw [e1, e2, e3, mul_zero, zero_mul, min_eq_left (by exact_mod_cast (by norm_num : (0:ℝ) ≤ 448)), zero_mul]
    · have ha0 : 0 ≤ a := hy.trans ha
      obtain ⟨a, rfl⟩ : ∃ r : ℝ, (r : EReal) = a := ⟨a.toReal, EReal.coe_toReal ht (fun h => by rw [h] at ha0; exact absurd ha0 (by simp))⟩
      obtain ⟨y, rfl⟩ : ∃ r : ℝ, (r : EReal) = y := ⟨y.toReal, EReal.coe_toReal (fun h => by rw [h] at ha; exact absurd ha (by simp))
        (fun h => by rw [h] at hy; exact absurd hy (by simp))⟩
      have hy' : 0 ≤ y := by exact_mod_cast hy
      have ha' : y ≤ a := by exact_mod_cast ha
      have h0' : a ≠ 0 := by exact_mod_cast h0
      have hp : 0 < a := lt_of_le_of_ne (hy'.trans ha') (Ne.symm h0')
      have es : Ideal.div (a : EReal) ((448 : ℝ) : EReal) = ((a * 448⁻¹ : ℝ) : EReal) := by
        rw [hs, ← EReal.coe_inv, ← EReal.coe_mul]
      have hne : ((a * 448⁻¹ : ℝ) : EReal) ≠ 0 := by exact_mod_cast (by positivity : a * 448⁻¹ ≠ 0)
      have ed : Ideal.div (y : EReal) ((a * 448⁻¹ : ℝ) : EReal) = ((y * (a * 448⁻¹)⁻¹ : ℝ) : EReal) := by
        unfold Ideal.div; rw [if_neg hne, ← EReal.coe_inv, ← EReal.coe_mul]
      rw [es, hi, ed, ← EReal.coe_inv, ← EReal.coe_mul, ← EReal.coe_mul, ← EReal.coe_mul,
        min_eq_left (by
          rw [EReal.coe_le_coe_iff, ← div_eq_mul_inv, div_le_iff₀ (by positivity)]
          linarith), ← EReal.coe_mul]
      congr 1
      field_simp

/-! ## Maxima -/

/-- A maximum taken over a whole block is below a bound exactly when every entry is. -/
theorem max_le {s t : Shape} {axes : List (Fin s.rank)} (v : FVec Ideal s .f32) (h : s.Reduces axes t) (hφ) (hacc)
    (j : t.Idx) (hj : ∀ i, h.drop i = j) (b : EReal) :
    (multiReduction .maximumf axes t v 0xFF800000#32 h hφ hacc j : EReal) ≤ b ↔ ∀ i, (v i : EReal) ≤ b := by
  rw [multiReduction_maximumf_eq_fold]
  refine (Finset.fold_max_le (α := s.Idx) (β := EReal) (f := v) (b := Ideal.ofBits .f32 0xFF800000#32) b).trans ?_
  rw [bitsBot]
  simp [hj]

instance : Subsingleton S1.Idx := ⟨fun a b => by
  funext i; apply Fin.ext; match i with | ⟨0, _⟩ => exact (Nat.lt_one_iff.mp (a 0).isLt).trans (Nat.lt_one_iff.mp (b 0).isLt).symm⟩

/-- The same for the scalar the programs take: the block re-laid with a leading axis, reduced, and read out. -/
theorem whole_max_le {s s' : Shape} {axes : List (Fin s'.rank)} (v : FVec Ideal s .f32) (hc : s.ShapeCasts s') (h : s'.Reduces axes S1)
    (hφ) (hacc) (hc1 : S1.ShapeCasts S1x1x1) (hp) (b : EReal) :
    (extractAt ![0, 0, 0] (shapeCast S1x1x1 (multiReduction .maximumf axes S1 (shapeCast s' v hc) 0xFF800000#32 h hφ hacc) hc1) hp : EReal) ≤ b
      ↔ ∀ i, (v i : EReal) ≤ b := by
  unfold extractAt
  rw [shapeCast]
  refine (max_le _ h hφ hacc _ (fun i => Subsingleton.elim _ _) b).trans ?_
  unfold shapeCast
  exact ⟨fun H i => by simpa using H ((Shape.reshapeEquiv hc).symm i), fun H i => H _⟩

theorem maxH_le (v : Vec Ideal S512x1024 .f32) (b : EReal) : (maxH v : EReal) ≤ b ↔ ∀ i, (v i : EReal) ≤ b :=
  whole_max_le v _ _ _ _ _ _ b
theorem maxA_le (v : Vec Ideal S8x128 .f32) (b : EReal) : (maxA v : EReal) ≤ b ↔ ∀ i, (v i : EReal) ≤ b :=
  whole_max_le v _ _ _ _ _ _ b

theorem bmax (p q : Idealize.ShloMosaic.Ideal .f32) (i : S1x128.Idx) : (broadcast S1x128 (Scalar.maximumf p q) i : EReal) = max (p : EReal) q := rfl
theorem rowV_apply (a b : Vec Ideal S512x1024 .f32) (i : S1x128.Idx) : (rowV a b i : EReal) = max (maxH a : EReal) (maxH b) :=
  (congrFun (shapeCast_self (broadcast S1x128 (Scalar.maximumf (maxH a) (maxH b))) Facts₀.shapeCasts_S1x128_S1x128) i).trans (bmax _ _ i)
theorem scaleV_eq (v : Vec Ideal S8x128 .f32) : (scaleV v : EReal) = Ideal.div (maxA v) ((448 : ℝ) : EReal) := by
  unfold scaleV
  generalize maxA v = p
  exact congrArg (Ideal.div p) bits448
theorem invV_eq (v : Vec Ideal S8x128 .f32) : (invV v : EReal) = Ideal.div ((448 : ℝ) : EReal) (maxA v) := by
  unfold invV
  generalize maxA v = p
  exact congrArg (Ideal.div · p) bits448
theorem quantV_apply (s : EReal) (v : Vec Ideal S512x1024 .f32) (i : S512x1024.Idx) : (quantV (F := Ideal) s v i : EReal) = (v i : EReal) * s := by
  unfold quantV
  rw [shapeCast_self]
  rfl
theorem emitV_apply (s : EReal) (v : Vec Ideal S512x1024 .fp8e4m3) (i : S512x1024.Idx) : (sqT (F := Idealize.ShloMosaic.Ideal) (emitV (F := Idealize.ShloMosaic.Ideal) s v) i : EReal) = (v i : EReal) * s := by
  unfold sqT emitV
  show (v (Shape.reshapeEquiv _ (Shape.reshapeEquiv _ i)) : EReal) * s = _
  rw [Shape.reshapeEquiv_reshapeEquiv, Shape.reshapeEquiv_self]

/-! ## One device's part of the product -/

section Parts
variable (X : Dev nD → S4096x512.Idx → Elt Ideal .bf16) (W : Dev nD → S512x2048.Idx → Elt Ideal .bf16)

/-- Device `c`'s part of entry `y` of the product. -/
def part (c : Dev nD) (y : S4096x2048.Idx) : EReal := ∑ k : Fin 512, (X c (ix2 (y 0) k) : EReal) * (W c (ix2 k (y 1)) : EReal)

/-- The place in the result of entry `j` of part `u` of chunk `q`. -/
def place (d : Bool) (q : Fin 8) (u : Fin 4) (j : S128x1024.Idx) : S4096x2048.Idx := (rcO d q).emb ((rcS u).emb j)

theorem place_row (d : Bool) (q : Fin 8) (u : Fin 4) (j : S128x1024.Idx) :
    (place d q u j 0).val = 512 * q.val + 128 * u.val + (j 0).val := by
  show 512 * q.val + 1 * (128 * u.val + 1 * (j 0).val) = _; omega
theorem place_col (d : Bool) (q : Fin 8) (u : Fin 4) (j : S128x1024.Idx) :
    (place d q u j 1).val = 1024 * d.toNat + (j 1).val := by
  show 1024 * d.toNat + 1 * (0 + 1 * (j 1).val) = _; omega

theorem paV_apply (x : Vec Ideal S128x512 .bf16) (w : Vec Ideal S512x1024 .bf16) (j : S128x1024.Idx) :
    (paV x w j : EReal) = ∑ k : Fin 512, (x (ix2 (j 0) k) : EReal) * (w (ix2 k (j 1)) : EReal) := by
  unfold paV
  rw [shapeCast_self, shapeCast_self, eq_ix2 j]
  refine (Ideal.matmul_plain_apply none x w _ (j 0) (j 1)).trans ?_
  rw [show (constant S128x1024 .f32 0#32 : FVec Ideal S128x1024 .f32) (ix2 (j 0) (j 1)) = (0 : EReal) from Ideal.ofBits_zero_f32, zero_add]

theorem firstV_apply (x : Vec Ideal S512x512 .bf16) (w : Vec Ideal S512x2048 .bf16) (j : S512x2048.Idx) :
    (firstV x w j : EReal) = ∑ k : Fin 512, (x (ix2 (j 0) k) : EReal) * (w (ix2 k (j 1)) : EReal) := by
  unfold firstV
  rw [shapeCast_self, shapeCast_self, eq_ix2 j]
  refine (Ideal.matmul_plain_apply none x w _ (j 0) (j 1)).trans ?_
  rw [show (constant S512x2048 .f32 0#32 : FVec Ideal S512x2048 .f32) (ix2 (j 0) (j 1)) = (0 : EReal) from Ideal.ofBits_zero_f32, zero_add]

theorem paD_apply (d : Bool) (c : Dev nD) (s : ℕ) (u : Fin 4) (j : S128x1024.Idx) :
    (paD X W d c s u j : EReal) = part X W c (place d (rsChunk d c s) u j) := by
  unfold paD part
  rw [paV_apply]
  refine Finset.sum_congr rfl fun k _ => ?_
  congr 2
  · funext a; apply Fin.ext
    match a with
    | ⟨0, _⟩ => exact (show 512 * (rsChunk d c s).val + 128 * u.val + 1 * (j 0).val = _ by omega).trans (place_row d _ u j).symm
    | ⟨1, _⟩ => show 0 + 1 * k.val = k.val; omega
  · funext a; apply Fin.ext
    match a with
    | ⟨0, _⟩ => show 0 + 1 * k.val = k.val; omega
    | ⟨1, _⟩ => exact (show 1024 * d.toNat + 1 * (j 1).val = _ by omega).trans (place_col d _ u j).symm

theorem SA_zero (d : Bool) (c : Dev nD) (u : Fin 4) (j : S128x1024.Idx) :
    (SA X W d 0 c u j : EReal) = part X W c (place d c u j) := by
  show (SA0 X W d c ((rcS u).emb j) : EReal) = _
  unfold SA0 sendV0
  rw [shapeCast_self]
  refine (firstV_apply _ _ _).trans ?_
  unfold part
  refine Finset.sum_congr rfl fun k _ => ?_
  congr 2
  · funext a; apply Fin.ext
    match a with
    | ⟨0, _⟩ => exact (show 512 * c.val + 1 * (0 + (128 * u.val + 1 * (j 0).val)) = _ by omega).trans (place_row d c u j).symm
    | ⟨1, _⟩ => show 0 + 1 * k.val = k.val; omega
  · funext a; apply Fin.ext
    match a with
    | ⟨0, _⟩ => show 0 + 1 * k.val = k.val; omega
    | ⟨1, _⟩ => exact (show 0 + 1 * (1024 * d.toNat + (0 + 1 * (j 1).val)) = _ by omega).trans (place_col d c u j).symm

theorem SM_apply (d : Bool) (s : ℕ) (c : Dev nD) (u : Fin 4) (j : S128x1024.Idx) :
    (SM X W d s c u j : EReal) = part X W c (place d (rsChunk d c s) u j) + (SA X W d s (bwd d c) u j : EReal) := by
  rw [← paD_apply X W d c s u j]
  show (paD X W d c s u j : EReal) + _ = _
  congr 1
  show (SA X W d s (bwd d c) u (Shape.reshapeEquiv _ (Shape.reshapeEquiv _ j)) : EReal) = _
  rw [Shape.reshapeEquiv_reshapeEquiv, Shape.reshapeEquiv_self]

theorem SA_succ (d : Bool) (s : ℕ) (c : Dev nD) (u : Fin 4) (j : S128x1024.Idx) :
    (SA X W d (s + 1) c u j : EReal) = (SM X W d s c u j : EReal) := by
  show (sendV (SM X W d s c u) j : EReal) = _
  unfold sendV
  rw [shapeCast_self]
  rfl

/-- `n` devices back along direction `d`. -/
def back (d : Bool) (k : Fin 8) (n : Fin 8) : Fin 8 := rot d (7 * (n.val + 1)) k

theorem back_facts : ∀ (d : Bool) (k : Fin 8),
    back d k 0 = bwd d k ∧ (∀ n : Fin 7, bwd d (back d k n.castSucc) = back d k n.succ)
    ∧ (∀ n : Fin 7, rsChunk d (back d k n.castSucc) (6 - n.val) = k) ∧ back d k 7 = k ∧ Function.Injective (back d k) := by
  unfold Function.Injective
  decide +kernel

/-- Sent once round the ring, a chunk gathers every device's part. -/
theorem SM_ring (d : Bool) (k : Fin 8) (u : Fin 4) (j : S128x1024.Idx) :
    (SM X W d 6 (bwd d k) u j : EReal) = ∑ c : Fin 8, part X W c (place d k u j) := by
  obtain ⟨e0, es, ec, e7, hi⟩ := back_facts d k
  rw [← (Finite.injective_iff_bijective.mp hi).sum_comp (fun c => part X W c (place d k u j)), Fin.sum_univ_eight, ← e0]
  have e1 := es 0; have e2 := es 1; have e3 := es 2; have e4 := es 3; have e5 := es 4; have e6 := es 5; have e7' := es 6
  have c0 := ec 0; have c1 := ec 1; have c2 := ec 2; have c3 := ec 3; have c4 := ec 4; have c5 := ec 5; have c6 := ec 6
  rw [SM_apply, show rsChunk d (back d k 0) 6 = k from c0, show bwd d (back d k 0) = back d k 1 from e1, SA_succ,
    SM_apply, show rsChunk d (back d k 1) 5 = k from c1, show bwd d (back d k 1) = back d k 2 from e2, SA_succ,
    SM_apply, show rsChunk d (back d k 2) 4 = k from c2, show bwd d (back d k 2) = back d k 3 from e3, SA_succ,
    SM_apply, show rsChunk d (back d k 3) 3 = k from c3, show bwd d (back d k 3) = back d k 4 from e4, SA_succ,
    SM_apply, show rsChunk d (back d k 4) 2 = k from c4, show bwd d (back d k 4) = back d k 5 from e5, SA_succ,
    SM_apply, show rsChunk d (back d k 5) 1 = k from c5, show bwd d (back d k 5) = back d k 6 from e6, SA_succ,
    SM_apply, show rsChunk d (back d k 6) 0 = k from c6, show bwd d (back d k 6) = back d k 7 from e7', SA_zero, e7]
  simp only [add_assoc]

/-- The clipped product, from the devices' parts. -/
def act (y : S4096x2048.Idx) : EReal := max (∑ c : Fin 8, part X W c y) 0

theorem act_nonneg (y : S4096x2048.Idx) : 0 ≤ act X W y := le_max_right _ _

/-- A device's accumulator is its chunk of the clipped product. -/
theorem ACW_apply (d : Bool) (k : Fin 8) (i : S512x1024.Idx) : (ACW X W d (bwd d k) i : EReal) = act X W ((rcO d k).emb i) := by
  obtain ⟨u, j, rfl⟩ := tilesS.exists_emb i
  unfold ACW
  rw [glue_emb tilesS _ u j]
  unfold accV
  rw [shapeCast_self]
  show max (SM X W d 6 (bwd d k) u j : EReal) (Ideal.ofBits .f32 0#32) = _
  rw [SM_ring, show Ideal.ofBits .f32 0#32 = (0 : EReal) from Ideal.ofBits_zero_f32]
  rfl

/-- Every chunk is some device's. -/
theorem forall_chunk (P : Bool → Fin 8 → Prop) : (∀ d c, P d c) ↔ ∀ d k, P d (bwd d k) :=
  ⟨fun h d k => h d _, fun h d c => by have := h d (fwd d c); rwa [bwd_fwd] at this⟩

theorem AMrow_le (c : Dev nD) (b : EReal) :
    (∀ i, (AMrow X W c i : EReal) ≤ b) ↔ ∀ d i, (ACW X W d c i : EReal) ≤ b := by
  have e : ∀ i, (AMrow X W c i : EReal) = max (maxH (ACW X W false c) : EReal) (maxH (ACW X W true c)) := fun i => rowV_apply _ _ i
  simp only [e, max_le_iff, maxH_le, Bool.forall_bool]
  exact ⟨fun h => h (ix2 0 0), fun h _ => h⟩

/-- The table's maximum is the clipped product's. -/
theorem maxAM_le (b : EReal) : (maxA (AM X W) : EReal) ≤ b ↔ ∀ y, act X W y ≤ b := by
  rw [maxA_le]
  have e1 : (∀ i, (AM X W i : EReal) ≤ b) ↔ ∀ c i, (AMrow X W c i : EReal) ≤ b := by
    constructor
    · intro h c i
      have := h ((rcA c).emb i)
      unfold AM at this
      rwa [glue_emb tilesA (fun k => AMrow X W k) c i] at this
    · intro h i
      obtain ⟨c, i, rfl⟩ := tilesA.exists_emb i
      unfold AM
      rw [glue_emb tilesA (fun k => AMrow X W k) c i]
      exact h c i
  have e2 : (∀ c d i, (ACW X W d c i : EReal) ≤ b) ↔ ∀ d k i, act X W ((rcO d k).emb i) ≤ b := by
    simp only [← ACW_apply]
    rw [forall_comm]
    exact forall_chunk fun d c => ∀ i, (ACW X W d c i : EReal) ≤ b
  simp only [e1, AMrow_le]
  rw [e2]
  exact ⟨fun h y => by obtain ⟨⟨d, k⟩, i, rfl⟩ := tilesO.exists_emb y; exact h d k i, fun h d k i => h _⟩

/-- The program's result, entry by entry. -/
theorem OUT_apply (y : S4096x2048.Idx) :
    (OUT X W y : EReal) = act X W y * Ideal.div ((448 : ℝ) : EReal) (maxA (AM X W)) * Ideal.div (maxA (AM X W)) ((448 : ℝ) : EReal) := by
  obtain ⟨⟨d, k⟩, i, rfl⟩ := tilesO.exists_emb y
  unfold OUT
  rw [glue_emb tilesO (fun t => OB X W t.1 t.2) (d, k) i, ← ACW_apply, ← scaleV_eq, ← invV_eq]
  refine (emitV_apply _ _ i).trans ?_
  refine congrArg (· * (scaleV (AM X W) : EReal)) ?_
  exact quantV_apply _ _ i

end Parts

/-! ## The reference's result -/

/-- The reference's clipped product. -/
def refY (a0 : Vec Ideal Cert.ReferenceIdeal.S4096x4096 .bf16) (a1 : Vec Ideal S4096x2048 .bf16) : FVec Ideal S4096x2048 .f32 :=
  maximumf (matmul (φ₁ := .bf16) (φ₂ := .bf16) Cert.ReferenceIdeal.dot_S4096x4096_S4096x2048_S4096x2048_1_0_0_1_n_n none a0 a1 (constant S4096x2048 .f32 0#32))
    (broadcast S4096x2048 (Scalar.ofBits .f32 0#32))
/-- The largest magnitude in a block. -/
def refM (v : FVec Ideal S4096x2048 .f32) : Idealize.ShloMosaic.Ideal .f32 :=
  extractAt ![0, 0, 0] (shapeCast S1x1x1 (multiReduction .maximumf [1, 2] S1
    (shapeCast Cert.ReferenceIdeal.S1x4096x2048 (absf v) Cert.ReferenceIdeal.Facts₀.shapeCasts_S4096x2048_S1x4096x2048) 0xFF800000#32
    Cert.ReferenceIdeal.Facts₀.reduces_S1x4096x2048_S1 (.inl rfl) rfl) Facts₀.shapeCasts_S1_S1x1x1) Facts₀.inpos_S1x1x1_p0_0_0
/-- The block scaled, clipped and scaled back. -/
def refQ (v : FVec Ideal S4096x2048 .f32) (s : Idealize.ShloMosaic.Ideal .f32) : FVec Ideal S4096x2048 .bf16 :=
  truncf .bf16 (mulf (extf .f32 (truncf .fp8e4m3 (minimumf (divf v (broadcast S4096x2048 s)) (broadcast S4096x2048 (Scalar.ofBits .f32 0x43E00000#32)))
    Facts₀.bitsLt_fp8e4m3_f32) Facts₀.bitsLt_fp8e4m3_f32) (broadcast S4096x2048 s)) Facts₀.bitsLt_bf16_f32

theorem ref_eq (a0 : Vec Ideal Cert.ReferenceIdeal.S4096x4096 .bf16) (a1 : Vec Ideal S4096x2048 .bf16) :
    Cert.ReferenceIdeal.Value.G2 (F := Idealize.ShloMosaic.Ideal) a0 a1
      = refQ (refY a0 a1) (Scalar.divf (refM (refY a0 a1)) (Scalar.ofBits .f32 0x43E00000#32)) := rfl

theorem refQ_apply (v : FVec Ideal S4096x2048 .f32) (s : Idealize.ShloMosaic.Ideal .f32) (y : S4096x2048.Idx) :
    (refQ v s y : EReal) = min (Ideal.div (v y) s) ((448 : ℝ) : EReal) * (s : EReal) :=
  congrArg (fun t : EReal => min (Ideal.div (v y) s) t * (s : EReal)) bits448

theorem refS_eq (p : Idealize.ShloMosaic.Ideal .f32) :
    (Scalar.divf p (Scalar.ofBits .f32 0x43E00000#32) : EReal) = Ideal.div p ((448 : ℝ) : EReal) := congrArg (Ideal.div p) bits448

theorem refM_le (v : FVec Ideal S4096x2048 .f32) (h0 : ∀ y, 0 ≤ (v y : EReal)) (b : EReal) : (refM v : EReal) ≤ b ↔ ∀ y, (v y : EReal) ≤ b := by
  refine (whole_max_le (absf v) _ _ _ _ _ _ b).trans (forall_congr' fun y => ?_)
  show max (v y : EReal) (-(v y : EReal)) ≤ b ↔ _
  rw [max_eq_left]
  exact (EReal.neg_le_neg_iff.mpr (h0 y)).trans (by rw [neg_zero]; exact h0 y)

theorem refY_apply (a0 : Vec Ideal Cert.ReferenceIdeal.S4096x4096 .bf16) (a1 : Vec Ideal S4096x2048 .bf16) (y : S4096x2048.Idx) :
    (refY a0 a1 y : EReal) = max (∑ k : Fin 4096, (a0 (ix2 (y 0) k) : EReal) * (a1 (ix2 k (y 1)) : EReal)) 0 := by
  have h : (matmul (F := Idealize.ShloMosaic.Ideal) (φ₁ := .bf16) (φ₂ := .bf16) Cert.ReferenceIdeal.dot_S4096x4096_S4096x2048_S4096x2048_1_0_0_1_n_n none a0 a1 (constant S4096x2048 .f32 0#32) y : EReal)
      = ∑ k : Fin 4096, (a0 (ix2 (y 0) k) : EReal) * (a1 (ix2 k (y 1)) : EReal) := by
    rw [eq_ix2 y]
    refine (Ideal.matmul_plain_apply none a0 a1 _ (y 0) (y 1)).trans ?_
    rw [show (constant S4096x2048 .f32 0#32 : FVec Ideal S4096x2048 .f32) (ix2 (y 0) (y 1)) = (0 : EReal) from Ideal.ofBits_zero_f32, zero_add]
  exact congrArg₂ (fun p z : EReal => max p z) h Ideal.ofBits_zero_f32

/-! ## The two results are one -/

section Same
variable (a0 : Vec Ideal Cert.ReferenceIdeal.S4096x4096 .bf16) (a1 : Vec Ideal S4096x2048 .bf16)
variable (X : Dev nD → S4096x512.Idx → Elt Ideal .bf16) (W : Dev nD → S512x2048.Idx → Elt Ideal .bf16)
variable (hX : ∀ (c : Fin 8) (r : Fin 4096) (k : Fin 512), (X c (ix2 r k) : EReal) = a0 (ix2 r (finProdFinEquiv (c, k))))
variable (hW : ∀ (c : Fin 8) (k : Fin 512) (n : Fin 2048), (W c (ix2 k n) : EReal) = a1 (ix2 (finProdFinEquiv (c, k)) n))
include hX hW

theorem act_eq (y : S4096x2048.Idx) : act X W y = refY a0 a1 y := by
  rw [refY_apply]
  unfold act part
  congr 1
  rw [← (finProdFinEquiv (m := 8) (n := 512)).sum_comp (fun k : Fin 4096 => (a0 (ix2 (y 0) k) : EReal) * (a1 (ix2 k (y 1)) : EReal)),
    Fintype.sum_prod_type]
  exact Finset.sum_congr rfl fun c _ => Finset.sum_congr rfl fun k _ => congrArg₂ (· * ·) (hX c _ k) (hW c k _)

theorem max_eq : (maxA (AM X W) : EReal) = refM (refY a0 a1) := by
  have h0 : ∀ y, 0 ≤ (refY a0 a1 y : EReal) := fun y => by rw [← act_eq a0 a1 X W hX hW]; exact act_nonneg X W y
  refine eq_of_forall_ge_iff fun b => ?_
  rw [maxAM_le, refM_le _ h0]
  exact forall_congr' fun y => by rw [act_eq a0 a1 X W hX hW]

theorem result_eq : OUT X W = Cert.ReferenceIdeal.Value.G2 (F := Idealize.ShloMosaic.Ideal) a0 a1 := by
  funext y
  refine (OUT_apply X W y).trans ?_
  rw [ref_eq]
  refine Eq.trans ?_ (refQ_apply _ _ y).symm
  rw [refS_eq, ← max_eq a0 a1 X W hX hW, ← act_eq a0 a1 X W hX hW y]
  exact quant_entry _ _ (act_nonneg X W y) ((maxAM_le X W _).mp le_rfl y)

end Same

/-! ## The operands -/

theorem win_zero0 : win0_0.index t0_0 (0 : Fin 2) = 0 ∧ win0_0.index t0_0 (1 : Fin 2) = 0 := by decide +kernel
theorem win_zero1 : win0_1.index t0_0 (0 : Fin 2) = 0 ∧ win0_1.index t0_0 (1 : Fin 2) = 0 := by decide +kernel

variable (m : (ℓ : Loc nD τ sig) → Buf (Elt Ideal) ℓ)

theorem Xin_eq (c : Dev nD) : Xin m c = m ((c : Thread nD τ).loc main_arg0) := by
  funext j
  show m ((c : Thread nD τ).loc main_arg0) (((cfg0.win 0).blk t0_0).view.emb j) = _
  congr 1
  obtain ⟨e0, e1⟩ := win_zero0
  funext a; apply Fin.ext
  match a with
  | ⟨0, _⟩ => show win0_0.index t0_0 (0 : Fin 2) * 4096 + 1 * (j 0).val = (j 0).val; omega
  | ⟨1, _⟩ => show win0_0.index t0_0 (1 : Fin 2) * 512 + 1 * (j 1).val = (j 1).val; omega

theorem Win_eq (c : Dev nD) : Win m c = m ((c : Thread nD τ).loc main_arg1) := by
  funext j
  show m ((c : Thread nD τ).loc main_arg1) (((cfg0.win 1).blk t0_0).view.emb j) = _
  congr 1
  obtain ⟨e0, e1⟩ := win_zero1
  funext a; apply Fin.ext
  match a with
  | ⟨0, _⟩ => show win0_1.index t0_0 (0 : Fin 2) * 512 + 1 * (j 0).val = (j 0).val; omega
  | ⟨1, _⟩ => show win0_1.index t0_0 (1 : Fin 2) * 2048 + 1 * (j 1).val = (j 1).val; omega

/-- From blocks of the reference's arguments the program's result is the reference's. -/
theorem result_of_blocks (a0 : Vec Ideal Cert.ReferenceIdeal.S4096x4096 .bf16) (a1 : Vec Ideal S4096x2048 .bf16)
    (h0 : ∀ c : Dev nD, m ((c : Thread nD τ).loc main_arg0) = Layout.block ⟨2, ![4096, 512]⟩ ⟨2, ![4096, 4096]⟩ 1 8 c a0)
    (h1 : ∀ c : Dev nD, m ((c : Thread nD τ).loc main_arg1) = Layout.block ⟨2, ![512, 2048]⟩ ⟨2, ![4096, 2048]⟩ 0 8 c a1) :
    OUT (Xin m) (Win m) = Cert.ReferenceIdeal.Value.G2 (F := Idealize.ShloMosaic.Ideal) a0 a1 := by
  refine result_eq a0 a1 _ _ (fun c r k => ?_) (fun c k n => ?_)
  · rw [Xin_eq, h0]
    refine congrArg a0 ?_
    funext a; apply Fin.ext
    match a with
    | ⟨0, _⟩ => rfl
    | ⟨1, _⟩ => show c.val * 512 + k.val = k.val + 512 * c.val; omega
  · rw [Win_eq, h1]
    refine congrArg a1 ?_
    funext a; apply Fin.ext
    match a with
    | ⟨0, _⟩ => show c.val * 512 + k.val = k.val + 512 * c.val; omega
    | ⟨1, _⟩ => rfl

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program over the extended reals runs, leaves its arguments and its counters as they were. -/
theorem frame_kernelIdeal : Cert.quiescent_KernelIdeal := fun m ρ _ =>
  (θ_run Cert.KernelIdeal.defs _ _).mono (fun _ h => ⟨fun c => (h.1 c).2, h.2⟩) (Cert.KernelIdeal.Hand.run_main (F := Ideal) m ρ)

/-- What is claimed of the program at its bits, said of the text the run is proved of. -/
def sameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem same_text : Cert.quiescent_Kernel = sameAtBits := by chain_rfl

/-- The program at its bits: the same run. -/
theorem frame_kernel : Cert.quiescent_Kernel := same_text.symm ▸ fun m ρ _ =>
  (θ_run (Cert.KernelIdeal.defs (F := Bits)) _ _).mono (fun _ h => ⟨fun c => (h.1 c).2, h.2⟩) (Cert.KernelIdeal.Hand.run_main (F := Bits) m ρ)

theorem frame_reference : Cert.quiescent_ReferenceIdeal := fun m ρ _ => Cert.ReferenceIdeal.Gen.frame m ρ

/-- Over the extended reals every device's result is the reference's. -/
theorem same_result : Cert.algebraic_KernelIdeal_ReferenceIdeal := fun m g m' g' _ h =>
  ⟨_, (θ_run Cert.KernelIdeal.defs _ _).mono
      (fun _ hr c => ⟨(hr.1 c).1.trans (Cert.KernelIdeal.Hand.result_of_blocks m _ _ (fun c => (h c).1) (fun c => (h c).2)), (hr.1 c).2⟩)
      (Cert.KernelIdeal.Hand.run_main (F := Ideal) m g),
    (θ_run Cert.ReferenceIdeal.defs _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, same_result⟩

end Cert.Proof

end
